-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "step" .f32 0x3E25294A#32 ((5 / 31 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x1024x3 : Shape := ⟨3, ![8, 1024, 3]⟩
abbrev S8x1024 : Shape := ⟨2, ![8, 1024]⟩
abbrev S8x1024x48 : Shape := ⟨3, ![8, 1024, 48]⟩
abbrev S100x128 : Shape := ⟨2, ![100, 128]⟩
abbrev S32x128 : Shape := ⟨2, ![32, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8x1024x48 : S_.BroadcastsInDim S8x1024x48 (![] : Fin 0 → Fin S8x1024x48.rank)
  reducesTo_S8x1024x48_S_d0_1_2 : S8x1024x48.ReducesTo [0, 1, 2] S_

variable [Facts]

def fn {F : FTy → Type} [FloatOps F] (main_arg0 : FVec F S8x1024x3 .f32) (main_arg1 : IVec S8x1024 32) (main_arg2 : IVec S8x1024x48 32) (main_arg3 : FVec F S100x128 .f32) (main_arg4 : FVec F S32x128 .f32) (main_arg5 : FVec F S128x128 .f32) (main_arg6 : FVec F S128 .f32) (main_arg7 : FVec F S128x64 .f32) (main_arg8 : FVec F S64 .f32) (main_arg9 : FVec F S64x1 .f32) (main_arg10 : FVec F S1 .f32) : IVec S_ 1 :=
  let main_c : IVec S_ 32 := constantI S_ 32 0#32
  let main_v0 : IVec S8x1024 32 := broadcastInDim S8x1024 ![] bcast_S_S8x1024 main_c
  let main_v1 : IVec S8x1024 1 := cmpi .sge main_arg1 main_v0
  let main_c_0 : IVec S_ 32 := constantI S_ 32 100#32
  let main_v2 : IVec S8x1024 32 := broadcastInDim S8x1024 ![] bcast_S_S8x1024 main_c_0
  let main_v3 : IVec S8x1024 1 := cmpi .slt main_arg1 main_v2
  let main_v4 : IVec S8x1024 1 := andi main_v1 main_v3
  let main_c_1 : IVec S_ 1 := constantI S_ 1 1#1
  let main_v5 : IVec S_ 1 := (fun x v => Host.reduce IntOp.andi x v reducesTo_S8x1024_S_d0_1 h_S_) main_v4 main_c_1
  let main_c_2 : IVec S_ 32 := constantI S_ 32 0#32
  let main_v6 : IVec S8x1024x48 32 := broadcastInDim S8x1024x48 ![] bcast_S_S8x1024x48 main_c_2
  let main_v7 : IVec S8x1024x48 1 := cmpi .sge main_arg2 main_v6
  let main_c_3 : IVec S_ 32 := constantI S_ 32 1024#32
  let main_v8 : IVec S8x1024x48 32 := broadcastInDim S8x1024x48 ![] bcast_S_S8x1024x48 main_c_3
  let main_v9 : IVec S8x1024x48 1 := cmpi .slt main_arg2 main_v8
  let main_v10 : IVec S8x1024x48 1 := andi main_v7 main_v9
  let main_c_4 : IVec S_ 1 := constantI S_ 1 1#1
  let main_v11 : IVec S_ 1 := (fun x v => Host.reduce IntOp.andi x v reducesTo_S8x1024x48_S_d0_1_2 h_S_) main_v10 main_c_4
  let main_v12 : IVec S_ 1 := andi main_v5 main_v11
  main_v12
-- ==== Kernel.lean ====
abbrev S8x1024x3 : Shape := ⟨3, ![8, 1024, 3]⟩
abbrev S8x1024 : Shape := ⟨2, ![8, 1024]⟩
abbrev S8x1024x48 : Shape := ⟨3, ![8, 1024, 48]⟩
abbrev S100x128 : Shape := ⟨2, ![100, 128]⟩
abbrev S32x128 : Shape := ⟨2, ![32, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S196608 : Shape := ⟨1, ![196608]⟩
abbrev S8x1024x1 : Shape := ⟨3, ![8, 1024, 1]⟩
abbrev S32x48x128 : Shape := ⟨3, ![32, 48, 128]⟩
abbrev S6144x128 : Shape := ⟨2, ![6144, 128]⟩
abbrev S_ : Shape := ⟨0, ![]⟩
abbrev S128x100 : Shape := ⟨2, ![128, 100]⟩
abbrev S128x32 : Shape := ⟨2, ![128, 32]⟩
abbrev S128x1 : Shape := ⟨2, ![128, 1]⟩
abbrev S64x128 : Shape := ⟨2, ![64, 128]⟩
abbrev S1x64 : Shape := ⟨2, ![1, 64]⟩
abbrev S4x1024x48 : Shape := ⟨3, ![4, 1024, 48]⟩
abbrev S4x1024 : Shape := ⟨2, ![4, 1024]⟩
abbrev S48x128 : Shape := ⟨2, ![48, 128]⟩
abbrev S1024 : Shape := ⟨1, ![1024]⟩
abbrev S1x48x128 : Shape := ⟨3, ![1, 48, 128]⟩
abbrev S1x1024 : Shape := ⟨2, ![1, 1024]⟩
abbrev S16 : Shape := ⟨1, ![16]⟩
abbrev S1x16 : Shape := ⟨2, ![1, 16]⟩
abbrev S32x1x6144 : Shape := ⟨3, ![32, 1, 6144]⟩
abbrev S4x1x1024 : Shape := ⟨3, ![4, 1, 1024]⟩
abbrev S4x1x128 : Shape := ⟨3, ![4, 1, 128]⟩
abbrev S1x1x6144 : Shape := ⟨3, ![1, 1, 6144]⟩
abbrev S1x1x1024 : Shape := ⟨3, ![1, 1, 1024]⟩
abbrev S1x1x128 : Shape := ⟨3, ![1, 1, 128]⟩
abbrev S128x1024 : Shape := ⟨2, ![128, 1024]⟩
abbrev S100x1024 : Shape := ⟨2, ![100, 1024]⟩
abbrev S1x6144 : Shape := ⟨2, ![1, 6144]⟩
abbrev S100x6144 : Shape := ⟨2, ![100, 6144]⟩
abbrev S128x6144 : Shape := ⟨2, ![128, 6144]⟩
abbrev S32x1 : Shape := ⟨2, ![32, 1]⟩
abbrev S32x6144 : Shape := ⟨2, ![32, 6144]⟩
abbrev S64x1024 : Shape := ⟨2, ![64, 1024]⟩
abbrev S1x1x1 : Shape := ⟨3, ![1, 1, 1]⟩
abbrev S8x1x128 : Shape := ⟨3, ![8, 1, 128]⟩
abbrev S8x1x1 : Shape := ⟨3, ![8, 1, 1]⟩
abbrev S8x1 : Shape := ⟨2, ![8, 1]⟩

abbrev nBuf : Table → Nat
  | .hbm => 68
  | .local .tc .vmem => 38
  | .local .scVector .vmem => 16
  | _ => 0

abbrev bufTy : (tb : Table) → Fin (nBuf tb) → BufTy
  | .hbm, ⟨0, _⟩ => ⟨S8x1024x3, .f32⟩
  | .hbm, ⟨1, _⟩ => ⟨S8x1024, .i32⟩
  | .hbm, ⟨2, _⟩ => ⟨S8x1024x48, .i32⟩
  | .hbm, ⟨3, _⟩ => ⟨S100x128, .f32⟩
  | .hbm, ⟨4, _⟩ => ⟨S32x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S196608, .i32⟩
  | .hbm, ⟨12, _⟩ => ⟨S8x1024x1, .f32⟩
  | .hbm, ⟨13, _⟩ => ⟨S8x1024, .f32⟩
  | .hbm, ⟨14, _⟩ => ⟨S8x1024x1, .f32⟩
  | .hbm, ⟨15, _⟩ => ⟨S8x1024, .f32⟩
  | .hbm, ⟨16, _⟩ => ⟨S8x1024x1, .f32⟩
  | .hbm, ⟨17, _⟩ => ⟨S8x1024, .f32⟩
  | .hbm, ⟨18, _⟩ => ⟨S32x48x128, .i32⟩
  | .hbm, ⟨19, _⟩ => ⟨S6144x128, .i32⟩
  | .hbm, ⟨20, _⟩ => ⟨S_, .i32⟩
  | .hbm, ⟨21, _⟩ => ⟨S6144x128, .i32⟩
  | .hbm, ⟨22, _⟩ => ⟨S6144x128, .i32⟩
  | .hbm, ⟨23, _⟩ => ⟨S6144x128, .i32⟩
  | .hbm, ⟨24, _⟩ => ⟨S6144x128, .i1⟩
  | .hbm, ⟨25, _⟩ => ⟨S6144x128, .f32⟩
  | .hbm, ⟨26, _⟩ => ⟨S6144x128, .bf16⟩
  | .hbm, ⟨27, _⟩ => ⟨S128x100, .f32⟩
  | .hbm, ⟨28, _⟩ => ⟨S128x32, .f32⟩
  | .hbm, ⟨29, _⟩ => ⟨S128x128, .f32⟩
  | .hbm, ⟨30, _⟩ => ⟨S128x1, .f32⟩
  | .hbm, ⟨31, _⟩ => ⟨S64x128, .f32⟩
  | .hbm, ⟨32, _⟩ => ⟨S64x1, .f32⟩
  | .hbm, ⟨33, _⟩ => ⟨S1x64, .f32⟩
  | .hbm, ⟨34, _⟩ => ⟨S4x1024x48, .i32⟩
  | .hbm, ⟨35, _⟩ => ⟨S32x48x128, .i32⟩
  | .hbm, ⟨36, _⟩ => ⟨S4x1024, .i32⟩
  | .hbm, ⟨37, _⟩ => ⟨S4x1024, .f32⟩
  | .hbm, ⟨38, _⟩ => ⟨S4x1024, .f32⟩
  | .hbm, ⟨39, _⟩ => ⟨S4x1024, .f32⟩
  | .hbm, ⟨40, _⟩ => ⟨S32x48x128, .i32⟩
  | .hbm, ⟨41, _⟩ => ⟨S32x48x128, .f32⟩
  | .hbm, ⟨42, _⟩ => ⟨S32x1x6144, .i32⟩
  | .hbm, ⟨43, _⟩ => ⟨S32x1x6144, .f32⟩
  | .hbm, ⟨44, _⟩ => ⟨S4x1024, .i32⟩
  | .hbm, ⟨45, _⟩ => ⟨S4x1x1024, .i32⟩
  | .hbm, ⟨46, _⟩ => ⟨S4x1x128, .f32⟩
  | .hbm, ⟨47, _⟩ => ⟨S4x1024x48, .i32⟩
  | .hbm, ⟨48, _⟩ => ⟨S32x48x128, .i32⟩
  | .hbm, ⟨49, _⟩ => ⟨S4x1024, .i32⟩
  | .hbm, ⟨50, _⟩ => ⟨S4x1024, .f32⟩
  | .hbm, ⟨51, _⟩ => ⟨S4x1024, .f32⟩
  | .hbm, ⟨52, _⟩ => ⟨S4x1024, .f32⟩
  | .hbm, ⟨53, _⟩ => ⟨S32x48x128, .i32⟩
  | .hbm, ⟨54, _⟩ => ⟨S32x48x128, .f32⟩
  | .hbm, ⟨55, _⟩ => ⟨S32x1x6144, .i32⟩
  | .hbm, ⟨56, _⟩ => ⟨S32x1x6144, .f32⟩
  | .hbm, ⟨57, _⟩ => ⟨S4x1024, .i32⟩
  | .hbm, ⟨58, _⟩ => ⟨S4x1x1024, .i32⟩
  | .hbm, ⟨59, _⟩ => ⟨S4x1x128, .f32⟩
  | .hbm, ⟨60, _⟩ => ⟨S8x1x128, .f32⟩
  | .hbm, ⟨61, _⟩ => ⟨S8x1x1, .f32⟩
  | .hbm, ⟨62, _⟩ => ⟨S8x1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8x1, .f32⟩
  | .hbm, ⟨67, _⟩ => ⟨S8x1, .f32⟩
  | .local .tc .vmem, ⟨0, _⟩ => ⟨S1x1x6144, .i32⟩
  | .local .tc .vmem, ⟨1, _⟩ => ⟨S1x1x6144, .i32⟩
  | .local .tc .vmem, ⟨2, _⟩ => ⟨S1x1x6144, .f32⟩
  | .local .tc .vmem, ⟨3, _⟩ => ⟨S1x1x6144, .f32⟩
  | .local .tc .vmem, ⟨4, _⟩ => ⟨S1x1x1024, .i32⟩
  | .local .tc .vmem, ⟨5, _⟩ => ⟨S1x1x1024, .i32⟩
  | .local .tc .vmem, ⟨6, _⟩ => ⟨S128x100, .f32⟩
  | .local .tc .vmem, ⟨7, _⟩ => ⟨S128x32, .f32⟩
  | .local .tc .vmem, ⟨8, _⟩ => ⟨S6144x128, .bf16⟩
  | .local .tc .vmem, ⟨9, _⟩ => ⟨S128x128, .f32⟩
  | .local .tc .vmem, ⟨10, _⟩ => ⟨S128x1, .f32⟩
  | .local .tc .vmem, ⟨11, _⟩ => ⟨S64x128, .f32⟩
  | .local .tc .vmem, ⟨12, _⟩ => ⟨S64x1, .f32⟩
  | .local .tc .vmem, ⟨13, _⟩ => ⟨S1x64, .f32⟩
  | .local .tc .vmem, ⟨14, _⟩ => ⟨S1x1x128, .f32⟩
  | .local .tc .vmem, ⟨15, _⟩ => ⟨S1x1x128, .f32⟩
  | .local .tc .vmem, ⟨16, _⟩ => ⟨S128x1024, .f32⟩
  | .local .tc .vmem, ⟨17, _⟩ => ⟨S128x100, .bf16⟩
  | .local .tc .vmem, ⟨18, _⟩ => ⟨S128x1024, .f32⟩
  | .local .tc .vmem, ⟨19, _⟩ => ⟨S1x1x6144, .i32⟩
  | .local .tc .vmem, ⟨20, _⟩ => ⟨S1x1x6144, .i32⟩
  | .local .tc .vmem, ⟨21, _⟩ => ⟨S1x1x6144, .f32⟩
  | .local .tc .vmem, ⟨22, _⟩ => ⟨S1x1x6144, .f32⟩
  | .local .tc .vmem, ⟨23, _⟩ => ⟨S1x1x1024, .i32⟩
  | .local .tc .vmem, ⟨24, _⟩ => ⟨S1x1x1024, .i32⟩
  | .local .tc .vmem, ⟨25, _⟩ => ⟨S128x100, .f32⟩
  | .local .tc .vmem, ⟨26, _⟩ => ⟨S128x32, .f32⟩
  | .local .tc .vmem, ⟨27, _⟩ => ⟨S6144x128, .bf16⟩
  | .local .tc .vmem, ⟨28, _⟩ => ⟨S128x128, .f32⟩
  | .local .tc .vmem, ⟨29, _⟩ => ⟨S128x1, .f32⟩
  | .local .tc .vmem, ⟨30, _⟩ => ⟨S64x128, .f32⟩
  | .local .tc .vmem, ⟨31, _⟩ => ⟨S64x1, .f32⟩
  | .local .tc .vmem, ⟨32, _⟩ => ⟨S1x64, .f32⟩
  | .local .tc .vmem, ⟨33, _⟩ => ⟨S1x1x128, .f32⟩
  | .local .tc .vmem, ⟨34, _⟩ => ⟨S1x1x128, .f32⟩
  | .local .tc .vmem, ⟨35, _⟩ => ⟨S128x1024, .f32⟩
  | .local .tc .vmem, ⟨36, _⟩ => ⟨S128x100, .bf16⟩
  | .local .tc .vmem, ⟨37, _⟩ => ⟨S128x1024, .f32⟩
  | .local .scVector .vmem, ⟨0, _⟩ => ⟨S48x128, .i32⟩
  | .local .scVector .vmem, ⟨1, _⟩ => ⟨S48x128, .i32⟩
  | .local .scVector .vmem, ⟨2, _⟩ => ⟨S48x128, .i32⟩
  | .local .scVector .vmem, ⟨3, _⟩ => ⟨S48x128, .f32⟩
  | .local .scVector .vmem, ⟨4, _⟩ => ⟨S1024, .i32⟩
  | .local .scVector .vmem, ⟨5, _⟩ => ⟨S1024, .f32⟩
  | .local .scVector .vmem, ⟨6, _⟩ => ⟨S1024, .f32⟩
  | .local .scVector .vmem, ⟨7, _⟩ => ⟨S1024, .f32⟩
  | .local .scVector .vmem, ⟨8, _⟩ => ⟨S48x128, .i32⟩
  | .local .scVector .vmem, ⟨9, _⟩ => ⟨S48x128, .i32⟩
  | .local .scVector .vmem, ⟨10, _⟩ => ⟨S48x128, .i32⟩
  | .local .scVector .vmem, ⟨11, _⟩ => ⟨S48x128, .f32⟩
  | .local .scVector .vmem, ⟨12, _⟩ => ⟨S1024, .i32⟩
  | .local .scVector .vmem, ⟨13, _⟩ => ⟨S1024, .f32⟩
  | .local .scVector .vmem, ⟨14, _⟩ => ⟨S1024, .f32⟩
  | .local .scVector .vmem, ⟨15, _⟩ => ⟨S1024, .f32⟩
  | _, _ => ⟨S8x1024x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v22_scv : Ref sig .scVector := ⟨.hbm, 35, rfl⟩
abbrev main_v6_scv : Ref sig .scVector := ⟨.hbm, 18, rfl⟩
abbrev main_v23_scv : Ref sig .scVector := ⟨.hbm, 36, rfl⟩
abbrev main_v24_scv : Ref sig .scVector := ⟨.hbm, 37, rfl⟩
abbrev main_v25_scv : Ref sig .scVector := ⟨.hbm, 38, rfl⟩
abbrev main_v26_scv : Ref sig .scVector := ⟨.hbm, 39, rfl⟩
abbrev main_v27_0_scv : Ref sig .scVector := ⟨.hbm, 40, rfl⟩
abbrev main_v27_1_scv : Ref sig .scVector := ⟨.hbm, 41, rfl⟩
abbrev main_v34_scv : Ref sig .scVector := ⟨.hbm, 48, rfl⟩
abbrev main_v35_scv : Ref sig .scVector := ⟨.hbm, 49, rfl⟩
abbrev main_v36_scv : Ref sig .scVector := ⟨.hbm, 50, rfl⟩
abbrev main_v37_scv : Ref sig .scVector := ⟨.hbm, 51, rfl⟩
abbrev main_v38_scv : Ref sig .scVector := ⟨.hbm, 52, rfl⟩
abbrev main_v39_0_scv : Ref sig .scVector := ⟨.hbm, 53, rfl⟩
abbrev main_v39_1_scv : Ref sig .scVector := ⟨.hbm, 54, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg11_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg11_1 : Ref sig .tc := ⟨.vmem, 34, rfl⟩
abbrev cc3_scratch0 : Ref sig .tc := ⟨.vmem, 35, rfl⟩
abbrev cc3_scratch1 : Ref sig .tc := ⟨.vmem, 36, rfl⟩
abbrev cc3_scratch2 : Ref sig .tc := ⟨.vmem, 37, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc2_scratch0 : Ref sig .scVector := ⟨.vmem, 8, rfl⟩
abbrev cc2_scratch1 : Ref sig .scVector := ⟨.vmem, 9, rfl⟩
abbrev cc2_scratch2 : Ref sig .scVector := ⟨.vmem, 10, rfl⟩
abbrev cc2_scratch3 : Ref sig .scVector := ⟨.vmem, 11, rfl⟩
abbrev cc2_scratch4 : Ref sig .scVector := ⟨.vmem, 12, rfl⟩
abbrev cc2_scratch5 : Ref sig .scVector := ⟨.vmem, 13, rfl⟩
abbrev cc2_scratch6 : Ref sig .scVector := ⟨.vmem, 14, rfl⟩
abbrev cc2_scratch7 : Ref sig .scVector := ⟨.vmem, 15, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem10_0 : DmaSem sig := 45
abbrev cc3_sem11_0 : DmaSem sig := 46
abbrev cc3_sem11_1 : DmaSem sig := 47
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r0 : BitVec 32 := 0#32
  let c0_i32_9_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_8_r2 : BitVec 32 := 0#32
  ![v18.toNat, 0]
@[reducible] def k0_t1_loop : Scf.Loop 32 :=
  let c0_i32_5 : BitVec 32 := 0#32
  let c48_i32 : BitVec 32 := 48#32
  let v19 : BitVec 32 := Scalar.addi c0_i32_5 c48_i32
  let c1_i32_6 : BitVec 32 := 1#32
  ⟨c0_i32_5, v19, c1_i32_6⟩
def k0_off3 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v20 : Index := Scalar.indexCast arg18
  let c0 : Index := 0#32
  ![v20.toNat, 0]
def k0_off4 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v23 : Index := Scalar.indexCast arg18
  let c0_8 : Index := 0#32
  ![v23.toNat, 0]

def k0_chk1 (v21 : IVec S16 32) : Prop :=
  (∀ a x, ((![v21] : Fin 1 → IVec S16 32) a x).toNat < S1024.size a) ∧
  (∀ a x, ((![v21] : Fin 1 → IVec S16 32) a x).toNat < S1024.size a) ∧
  (∀ a x, ((![v21] : Fin 1 → IVec S16 32) a x).toNat < S1024.size a) ∧
  (∀ a x, ((![v21] : Fin 1 → IVec S16 32) a x).toNat < S1024.size a)
theorem k0_idx1_inb : ∀ (v21 : IVec S16 32) (k0_hw1 : k0_chk1 v21), ∀ a x, ((![v21] : Fin 1 → IVec S16 32) a x).toNat < S1024.size a := fun v21 k0_hw1 => k0_hw1.1
theorem k0_idx2_inb : ∀ (v21 : IVec S16 32) (k0_hw1 : k0_chk1 v21), ∀ a x, ((![v21] : Fin 1 → IVec S16 32) a x).toNat < S1024.size a := fun v21 k0_hw1 => k0_hw1.2.1
theorem k0_idx3_inb : ∀ (v21 : IVec S16 32) (k0_hw1 : k0_chk1 v21), ∀ a x, ((![v21] : Fin 1 → IVec S16 32) a x).toNat < S1024.size a := fun v21 k0_hw1 => k0_hw1.2.2.1
theorem k0_idx4_inb : ∀ (v21 : IVec S16 32) (k0_hw1 : k0_chk1 v21), ∀ a x, ((![v21] : Fin 1 → IVec S16 32) a x).toNat < S1024.size a := fun v21 k0_hw1 => k0_hw1.2.2.2

def k0_chk2 (v29 : IVec S16 32) : Prop :=
  (∀ a x, ((![v29] : Fin 1 → IVec S16 32) a x).toNat < S1024.size a) ∧
  (∀ a x, ((![v29] : Fin 1 → IVec S16 32) a x).toNat < S1024.size a) ∧
  (∀ a x, ((![v29] : Fin 1 → IVec S16 32) a x).toNat < S1024.size a)
theorem k0_idx5_inb : ∀ (v29 : IVec S16 32) (k0_hw2 : k0_chk2 v29), ∀ a x, ((![v29] : Fin 1 → IVec S16 32) a x).toNat < S1024.size a := fun v29 k0_hw2 => k0_hw2.1
theorem k0_idx6_inb : ∀ (v29 : IVec S16 32) (k0_hw2 : k0_chk2 v29), ∀ a x, ((![v29] : Fin 1 → IVec S16 32) a x).toNat < S1024.size a := fun v29 k0_hw2 => k0_hw2.2.1
theorem k0_idx7_inb : ∀ (v29 : IVec S16 32) (k0_hw2 : k0_chk2 v29), ∀ a x, ((![v29] : Fin 1 → IVec S16 32) a x).toNat < S1024.size a := fun v29 k0_hw2 => k0_hw2.2.2
def k0_off5 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v41 : Index := Scalar.indexCast arg18
  let c0_10 : Index := 0#32
  ![v41.toNat, 0]
def k0_off6 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v43 : Index := Scalar.indexCast arg18
  let c16 : Index := 16#32
  ![v43.toNat, 16]
def k0_off7 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v46 : Index := Scalar.indexCast arg18
  let c16_11 : Index := 16#32
  ![v46.toNat, 16]

def k0_chk3 (v44 : IVec S16 32) : Prop :=
  (∀ a x, ((![v44] : Fin 1 → IVec S16 32) a x).toNat < S1024.size a) ∧
  (∀ a x, ((![v44] : Fin 1 → IVec S16 32) a x).toNat < S1024.size a) ∧
  (∀ a x, ((![v44] : Fin 1 → IVec S16 32) a x).toNat < S1024.size a) ∧
  (∀ a x, ((![v44] : Fin 1 → IVec S16 32) a x).toNat < S1024.size a)
theorem k0_idx8_inb : ∀ (v44 : IVec S16 32) (k0_hw3 : k0_chk3 v44), ∀ a x, ((![v44] : Fin 1 → IVec S16 32) a x).toNat < S1024.size a := fun v44 k0_hw3 => k0_hw3.1
theorem k0_idx9_inb : ∀ (v44 : IVec S16 32) (k0_hw3 : k0_chk3 v44), ∀ a x, ((![v44] : Fin 1 → IVec S16 32) a x).toNat < S1024.size a := fun v44 k0_hw3 => k0_hw3.2.1
theorem k0_idx10_inb : ∀ (v44 : IVec S16 32) (k0_hw3 : k0_chk3 v44), ∀ a x, ((![v44] : Fin 1 → IVec S16 32) a x).toNat < S1024.size a := fun v44 k0_hw3 => k0_hw3.2.2.1
theorem k0_idx11_inb : ∀ (v44 : IVec S16 32) (k0_hw3 : k0_chk3 v44), ∀ a x, ((![v44] : Fin 1 → IVec S16 32) a x).toNat < S1024.size a := fun v44 k0_hw3 => k0_hw3.2.2.2

def k0_chk4 (v52 : IVec S16 32) : Prop :=
  (∀ a x, ((![v52] : Fin 1 → IVec S16 32) a x).toNat < S1024.size a) ∧
  (∀ a x, ((![v52] : Fin 1 → IVec S16 32) a x).toNat < S1024.size a) ∧
  (∀ a x, ((![v52] : Fin 1 → IVec S16 32) a x).toNat < S1024.size a)
theorem k0_idx12_inb : ∀ (v52 : IVec S16 32) (k0_hw4 : k0_chk4 v52), ∀ a x, ((![v52] : Fin 1 → IVec S16 32) a x).toNat < S1024.size a := fun v52 k0_hw4 => k0_hw4.1
theorem k0_idx13_inb : ∀ (v52 : IVec S16 32) (k0_hw4 : k0_chk4 v52), ∀ a x, ((![v52] : Fin 1 → IVec S16 32) a x).toNat < S1024.size a := fun v52 k0_hw4 => k0_hw4.2.1
theorem k0_idx14_inb : ∀ (v52 : IVec S16 32) (k0_hw4 : k0_chk4 v52), ∀ a x, ((![v52] : Fin 1 → IVec S16 32) a x).toNat < S1024.size a := fun v52 k0_hw4 => k0_hw4.2.2
def k0_off8 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v64 : Index := Scalar.indexCast arg18
  let c16_13 : Index := 16#32
  ![v64.toNat, 16]
def k0_off9 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v66 : Index := Scalar.indexCast arg18
  let c32 : Index := 32#32
  ![v66.toNat, 32]
def k0_off10 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v69 : Index := Scalar.indexCast arg18
  let c32_14 : Index := 32#32
  ![v69.toNat, 32]

def k0_chk5 (v67 : IVec S16 32) : Prop :=
  (∀ a x, ((![v67] : Fin 1 → IVec S16 32) a x).toNat < S1024.size a) ∧
  (∀ a x, ((![v67] : Fin 1 → IVec S16 32) a x).toNat < S1024.size a) ∧
  (∀ a x, ((![v67] : Fin 1 → IVec S16 32) a x).toNat < S1024.size a) ∧
  (∀ a x, ((![v67] : Fin 1 → IVec S16 32) a x).toNat < S1024.size a)
theorem k0_idx15_inb : ∀ (v67 : IVec S16 32) (k0_hw5 : k0_chk5 v67), ∀ a x, ((![v67] : Fin 1 → IVec S16 32) a x).toNat < S1024.size a := fun v67 k0_hw5 => k0_hw5.1
theorem k0_idx16_inb : ∀ (v67 : IVec S16 32) (k0_hw5 : k0_chk5 v67), ∀ a x, ((![v67] : Fin 1 → IVec S16 32) a x).toNat < S1024.size a := fun v67 k0_hw5 => k0_hw5.2.1
theorem k0_idx17_inb : ∀ (v67 : IVec S16 32) (k0_hw5 : k0_chk5 v67), ∀ a x, ((![v67] : Fin 1 → IVec S16 32) a x).toNat < S1024.size a := fun v67 k0_hw5 => k0_hw5.2.2.1
theorem k0_idx18_inb : ∀ (v67 : IVec S16 32) (k0_hw5 : k0_chk5 v67), ∀ a x, ((![v67] : Fin 1 → IVec S16 32) a x).toNat < S1024.size a := fun v67 k0_hw5 => k0_hw5.2.2.2

def k0_chk6 (v75 : IVec S16 32) : Prop :=
  (∀ a x, ((![v75] : Fin 1 → IVec S16 32) a x).toNat < S1024.size a) ∧
  (∀ a x, ((![v75] : Fin 1 → IVec S16 32) a x).toNat < S1024.size a) ∧
  (∀ a x, ((![v75] : Fin 1 → IVec S16 32) a x).toNat < S1024.size a)
theorem k0_idx19_inb : ∀ (v75 : IVec S16 32) (k0_hw6 : k0_chk6 v75), ∀ a x, ((![v75] : Fin 1 → IVec S16 32) a x).toNat < S1024.size a := fun v75 k0_hw6 => k0_hw6.1
theorem k0_idx20_inb : ∀ (v75 : IVec S16 32) (k0_hw6 : k0_chk6 v75), ∀ a x, ((![v75] : Fin 1 → IVec S16 32) a x).toNat < S1024.size a := fun v75 k0_hw6 => k0_hw6.2.1
theorem k0_idx21_inb : ∀ (v75 : IVec S16 32) (k0_hw6 : k0_chk6 v75), ∀ a x, ((![v75] : Fin 1 → IVec S16 32) a x).toNat < S1024.size a := fun v75 k0_hw6 => k0_hw6.2.2
def k0_off11 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v87 : Index := Scalar.indexCast arg18
  let c32_16 : Index := 32#32
  ![v87.toNat, 32]
def k0_off12 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v89 : Index := Scalar.indexCast arg18
  let c48 : Index := 48#32
  ![v89.toNat, 48]
def k0_off13 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v92 : Index := Scalar.indexCast arg18
  let c48_17 : Index := 48#32
  ![v92.toNat, 48]

def k0_chk7 (v90 : IVec S16 32) : Prop :=
  (∀ a x, ((![v90] : Fin 1 → IVec S16 32) a x).toNat < S1024.size a) ∧
  (∀ a x, ((![v90] : Fin 1 → IVec S16 32) a x).toNat < S1024.size a) ∧
  (∀ a x, ((![v90] : Fin 1 → IVec S16 32) a x).toNat < S1024.size a) ∧
  (∀ a x, ((![v90] : Fin 1 → IVec S16 32) a x).toNat < S1024.size a)
theorem k0_idx22_inb : ∀ (v90 : IVec S16 32) (k0_hw7 : k0_chk7 v90), ∀ a x, ((![v90] : Fin 1 → IVec S16 32) a x).toNat < S1024.size a := fun v90 k0_hw7 => k0_hw7.1
theorem k0_idx23_inb : ∀ (v90 : IVec S16 32) (k0_hw7 : k0_chk7 v90), ∀ a x, ((![v90] : Fin 1 → IVec S16 32) a x).toNat < S1024.size a := fun v90 k0_hw7 => k0_hw7.2.1
theorem k0_idx24_inb : ∀ (v90 : IVec S16 32) (k0_hw7 : k0_chk7 v90), ∀ a x, ((![v90] : Fin 1 → IVec S16 32) a x).toNat < S1024.size a := fun v90 k0_hw7 => k0_hw7.2.2.1
theorem k0_idx25_inb : ∀ (v90 : IVec S16 32) (k0_hw7 : k0_chk7 v90), ∀ a x, ((![v90] : Fin 1 → IVec S16 32) a x).toNat < S1024.size a := fun v90 k0_hw7 => k0_hw7.2.2.2

def k0_chk8 (v98 : IVec S16 32) : Prop :=
  (∀ a x, ((![v98] : Fin 1 → IVec S16 32) a x).toNat < S1024.size a) ∧
  (∀ a x, ((![v98] : Fin 1 → IVec S16 32) a x).toNat < S1024.size a) ∧
  (∀ a x, ((![v98] : Fin 1 → IVec S16 32) a x).toNat < S1024.size a)
theorem k0_idx26_inb : ∀ (v98 : IVec S16 32) (k0_hw8 : k0_chk8 v98), ∀ a x, ((![v98] : Fin 1 → IVec S16 32) a x).toNat < S1024.size a := fun v98 k0_hw8 => k0_hw8.1
theorem k0_idx27_inb : ∀ (v98 : IVec S16 32) (k0_hw8 : k0_chk8 v98), ∀ a x, ((![v98] : Fin 1 → IVec S16 32) a x).toNat < S1024.size a := fun v98 k0_hw8 => k0_hw8.2.1
theorem k0_idx28_inb : ∀ (v98 : IVec S16 32) (k0_hw8 : k0_chk8 v98), ∀ a x, ((![v98] : Fin 1 → IVec S16 32) a x).toNat < S1024.size a := fun v98 k0_hw8 => k0_hw8.2.2
def k0_off14 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v110 : Index := Scalar.indexCast arg18
  let c48_19 : Index := 48#32
  ![v110.toNat, 48]
def k0_off15 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v112 : Index := Scalar.indexCast arg18
  let c64 : Index := 64#32
  ![v112.toNat, 64]
def k0_off16 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v115 : Index := Scalar.indexCast arg18
  let c64_20 : Index := 64#32
  ![v115.toNat, 64]

def k0_chk9 (v113 : IVec S16 32) : Prop :=
  (∀ a x, ((![v113] : Fin 1 → IVec S16 32) a x).toNat < S1024.size a) ∧
  (∀ a x, ((![v113] : Fin 1 → IVec S16 32) a x).toNat < S1024.size a) ∧
  (∀ a x, ((![v113] : Fin 1 → IVec S16 32) a x).toNat < S1024.size a) ∧
  (∀ a x, ((![v113] : Fin 1 → IVec S16 32) a x).toNat < S1024.size a)
theorem k0_idx29_inb : ∀ (v113 : IVec S16 32) (k0_hw9 : k0_chk9 v113), ∀ a x, ((![v113] : Fin 1 → IVec S16 32) a x).toNat < S1024.size a := fun v113 k0_hw9 => k0_hw9.1
theorem k0_idx30_inb : ∀ (v113 : IVec S16 32) (k0_hw9 : k0_chk9 v113), ∀ a x, ((![v113] : Fin 1 → IVec S16 32) a x).toNat < S1024.size a := fun v113 k0_hw9 => k0_hw9.2.1
theorem k0_idx31_inb : ∀ (v113 : IVec S16 32) (k0_hw9 : k0_chk9 v113), ∀ a x, ((![v113] : Fin 1 → IVec S16 32) a x).toNat < S1024.size a := fun v113 k0_hw9 => k0_hw9.2.2.1
theorem k0_idx32_inb : ∀ (v113 : IVec S16 32) (k0_hw9 : k0_chk9 v113), ∀ a x, ((![v113] : Fin 1 → IVec S16 32) a x).toNat < S1024.size a := fun v113 k0_hw9 => k0_hw9.2.2.2

def k0_chk10 (v121 : IVec S16 32) : Prop :=
  (∀ a x, ((![v121] : Fin 1 → IVec S16 32) a x).toNat < S1024.size a) ∧
  (∀ a x, ((![v121] : Fin 1 → IVec S16 32) a x).toNat < S1024.size a) ∧
  (∀ a x, ((![v121] : Fin 1 → IVec S16 32) a x).toNat < S1024.size a)
theorem k0_idx33_inb : ∀ (v121 : IVec S16 32) (k0_hw10 : k0_chk10 v121), ∀ a x, ((![v121] : Fin 1 → IVec S16 32) a x).toNat < S1024.size a := fun v121 k0_hw10 => k0_hw10.1
theorem k0_idx34_inb : ∀ (v121 : IVec S16 32) (k0_hw10 : k0_chk10 v121), ∀ a x, ((![v121] : Fin 1 → IVec S16 32) a x).toNat < S1024.size a := fun v121 k0_hw10 => k0_hw10.2.1
theorem k0_idx35_inb : ∀ (v121 : IVec S16 32) (k0_hw10 : k0_chk10 v121), ∀ a x, ((![v121] : Fin 1 → IVec S16 32) a x).toNat < S1024.size a := fun v121 k0_hw10 => k0_hw10.2.2
def k0_off17 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v133 : Index := Scalar.indexCast arg18
  let c64_22 : Index := 64#32
  ![v133.toNat, 64]
def k0_off18 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v135 : Index := Scalar.indexCast arg18
  let c80 : Index := 80#32
  ![v135.toNat, 80]
def k0_off19 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v138 : Index := Scalar.indexCast arg18
  let c80_23 : Index := 80#32
  ![v138.toNat, 80]

def k0_chk11 (v136 : IVec S16 32) : Prop :=
  (∀ a x, ((![v136] : Fin 1 → IVec S16 32) a x).toNat < S1024.size a) ∧
  (∀ a x, ((![v136] : Fin 1 → IVec S16 32) a x).toNat < S1024.size a) ∧
  (∀ a x, ((![v136] : Fin 1 → IVec S16 32) a x).toNat < S1024.size a) ∧
  (∀ a x, ((![v136] : Fin 1 → IVec S16 32) a x).toNat < S1024.size a)
theorem k0_idx36_inb : ∀ (v136 : IVec S16 32) (k0_hw11 : k0_chk11 v136), ∀ a x, ((![v136] : Fin 1 → IVec S16 32) a x).toNat < S1024.size a := fun v136 k0_hw11 => k0_hw11.1
theorem k0_idx37_inb : ∀ (v136 : IVec S16 32) (k0_hw11 : k0_chk11 v136), ∀ a x, ((![v136] : Fin 1 → IVec S16 32) a x).toNat < S1024.size a := fun v136 k0_hw11 => k0_hw11.2.1
theorem k0_idx38_inb : ∀ (v136 : IVec S16 32) (k0_hw11 : k0_chk11 v136), ∀ a x, ((![v136] : Fin 1 → IVec S16 32) a x).toNat < S1024.size a := fun v136 k0_hw11 => k0_hw11.2.2.1
theorem k0_idx39_inb : ∀ (v136 : IVec S16 32) (k0_hw11 : k0_chk11 v136), ∀ a x, ((![v136] : Fin 1 → IVec S16 32) a x).toNat < S1024.size a := fun v136 k0_hw11 => k0_hw11.2.2.2

def k0_chk12 (v144 : IVec S16 32) : Prop :=
  (∀ a x, ((![v144] : Fin 1 → IVec S16 32) a x).toNat < S1024.size a) ∧
  (∀ a x, ((![v144] : Fin 1 → IVec S16 32) a x).toNat < S1024.size a) ∧
  (∀ a x, ((![v144] : Fin 1 → IVec S16 32) a x).toNat < S1024.size a)
theorem k0_idx40_inb : ∀ (v144 : IVec S16 32) (k0_hw12 : k0_chk12 v144), ∀ a x, ((![v144] : Fin 1 → IVec S16 32) a x).toNat < S1024.size a := fun v144 k0_hw12 => k0_hw12.1
theorem k0_idx41_inb : ∀ (v144 : IVec S16 32) (k0_hw12 : k0_chk12 v144), ∀ a x, ((![v144] : Fin 1 → IVec S16 32) a x).toNat < S1024.size a := fun v144 k0_hw12 => k0_hw12.2.1
theorem k0_idx42_inb : ∀ (v144 : IVec S16 32) (k0_hw12 : k0_chk12 v144), ∀ a x, ((![v144] : Fin 1 → IVec S16 32) a x).toNat < S1024.size a := fun v144 k0_hw12 => k0_hw12.2.2
def k0_off20 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v156 : Index := Scalar.indexCast arg18
  let c80_25 : Index := 80#32
  ![v156.toNat, 80]
def k0_off21 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v158 : Index := Scalar.indexCast arg18
  let c96 : Index := 96#32
  ![v158.toNat, 96]
def k0_off22 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v161 : Index := Scalar.indexCast arg18
  let c96_26 : Index := 96#32
  ![v161.toNat, 96]

def k0_chk13 (v159 : IVec S16 32) : Prop :=
  (∀ a x, ((![v159] : Fin 1 → IVec S16 32) a x).toNat < S1024.size a) ∧
  (∀ a x, ((![v159] : Fin 1 → IVec S16 32) a x).toNat < S1024.size a) ∧
  (∀ a x, ((![v159] : Fin 1 → IVec S16 32) a x).toNat < S1024.size a) ∧
  (∀ a x, ((![v159] : Fin 1 → IVec S16 32) a x).toNat < S1024.size a)
theorem k0_idx43_inb : ∀ (v159 : IVec S16 32) (k0_hw13 : k0_chk13 v159), ∀ a x, ((![v159] : Fin 1 → IVec S16 32) a x).toNat < S1024.size a := fun v159 k0_hw13 => k0_hw13.1
theorem k0_idx44_inb : ∀ (v159 : IVec S16 32) (k0_hw13 : k0_chk13 v159), ∀ a x, ((![v159] : Fin 1 → IVec S16 32) a x).toNat < S1024.size a := fun v159 k0_hw13 => k0_hw13.2.1
theorem k0_idx45_inb : ∀ (v159 : IVec S16 32) (k0_hw13 : k0_chk13 v159), ∀ a x, ((![v159] : Fin 1 → IVec S16 32) a x).toNat < S1024.size a := fun v159 k0_hw13 => k0_hw13.2.2.1
theorem k0_idx46_inb : ∀ (v159 : IVec S16 32) (k0_hw13 : k0_chk13 v159), ∀ a x, ((![v159] : Fin 1 → IVec S16 32) a x).toNat < S1024.size a := fun v159 k0_hw13 => k0_hw13.2.2.2

def k0_chk14 (v167 : IVec S16 32) : Prop :=
  (∀ a x, ((![v167] : Fin 1 → IVec S16 32) a x).toNat < S1024.size a) ∧
  (∀ a x, ((![v167] : Fin 1 → IVec S16 32) a x).toNat < S1024.size a) ∧
  (∀ a x, ((![v167] : Fin 1 → IVec S16 32) a x).toNat < S1024.size a)
theorem k0_idx47_inb : ∀ (v167 : IVec S16 32) (k0_hw14 : k0_chk14 v167), ∀ a x, ((![v167] : Fin 1 → IVec S16 32) a x).toNat < S1024.size a := fun v167 k0_hw14 => k0_hw14.1
theorem k0_idx48_inb : ∀ (v167 : IVec S16 32) (k0_hw14 : k0_chk14 v167), ∀ a x, ((![v167] : Fin 1 → IVec S16 32) a x).toNat < S1024.size a := fun v167 k0_hw14 => k0_hw14.2.1
theorem k0_idx49_inb : ∀ (v167 : IVec S16 32) (k0_hw14 : k0_chk14 v167), ∀ a x, ((![v167] : Fin 1 → IVec S16 32) a x).toNat < S1024.size a := fun v167 k0_hw14 => k0_hw14.2.2
def k0_off23 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v179 : Index := Scalar.indexCast arg18
  let c96_28 : Index := 96#32
  ![v179.toNat, 96]
def k0_off24 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v181 : Index := Scalar.indexCast arg18
  let c112 : Index := 112#32
  ![v181.toNat, 112]
def k0_off25 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v184 : Index := Scalar.indexCast arg18
  let c112_29 : Index := 112#32
  ![v184.toNat, 112]

def k0_chk15 (v182 : IVec S16 32) : Prop :=
  (∀ a x, ((![v182] : Fin 1 → IVec S16 32) a x).toNat < S1024.size a) ∧
  (∀ a x, ((![v182] : Fin 1 → IVec S16 32) a x).toNat < S1024.size a) ∧
  (∀ a x, ((![v182] : Fin 1 → IVec S16 32) a x).toNat < S1024.size a) ∧
  (∀ a x, ((![v182] : Fin 1 → IVec S16 32) a x).toNat < S1024.size a)
theorem k0_idx50_inb : ∀ (v182 : IVec S16 32) (k0_hw15 : k0_chk15 v182), ∀ a x, ((![v182] : Fin 1 → IVec S16 32) a x).toNat < S1024.size a := fun v182 k0_hw15 => k0_hw15.1
theorem k0_idx51_inb : ∀ (v182 : IVec S16 32) (k0_hw15 : k0_chk15 v182), ∀ a x, ((![v182] : Fin 1 → IVec S16 32) a x).toNat < S1024.size a := fun v182 k0_hw15 => k0_hw15.2.1
theorem k0_idx52_inb : ∀ (v182 : IVec S16 32) (k0_hw15 : k0_chk15 v182), ∀ a x, ((![v182] : Fin 1 → IVec S16 32) a x).toNat < S1024.size a := fun v182 k0_hw15 => k0_hw15.2.2.1
theorem k0_idx53_inb : ∀ (v182 : IVec S16 32) (k0_hw15 : k0_chk15 v182), ∀ a x, ((![v182] : Fin 1 → IVec S16 32) a x).toNat < S1024.size a := fun v182 k0_hw15 => k0_hw15.2.2.2

def k0_chk16 (v190 : IVec S16 32) : Prop :=
  (∀ a x, ((![v190] : Fin 1 → IVec S16 32) a x).toNat < S1024.size a) ∧
  (∀ a x, ((![v190] : Fin 1 → IVec S16 32) a x).toNat < S1024.size a) ∧
  (∀ a x, ((![v190] : Fin 1 → IVec S16 32) a x).toNat < S1024.size a)
theorem k0_idx54_inb : ∀ (v190 : IVec S16 32) (k0_hw16 : k0_chk16 v190), ∀ a x, ((![v190] : Fin 1 → IVec S16 32) a x).toNat < S1024.size a := fun v190 k0_hw16 => k0_hw16.1
theorem k0_idx55_inb : ∀ (v190 : IVec S16 32) (k0_hw16 : k0_chk16 v190), ∀ a x, ((![v190] : Fin 1 → IVec S16 32) a x).toNat < S1024.size a := fun v190 k0_hw16 => k0_hw16.2.1
theorem k0_idx56_inb : ∀ (v190 : IVec S16 32) (k0_hw16 : k0_chk16 v190), ∀ a x, ((![v190] : Fin 1 → IVec S16 32) a x).toNat < S1024.size a := fun v190 k0_hw16 => k0_hw16.2.2
def k0_off26 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v202 : Index := Scalar.indexCast arg18
  let c112_31 : Index := 112#32
  ![v202.toNat, 112]
abbrev grid1 : Pipeline.Grid := ⟨2, ![4, 8], ![false, false]⟩

def k1_off1 (i : grid1.Coords) : Fin 2 → Nat :=
  let c0_17 : Index := 0#32
  let arg1 : BitVec 32 := BitVec.ofNat 32 (i 1).val
  let c128_i32 : BitVec 32 := 128#32
  let v37 : BitVec 32 := Scalar.muli arg1 c128_i32
  let v38 : Index := Scalar.indexCast v37
  ![0, v38.toNat]
def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_18 : BitVec 32 := 0#32
  let v44 : BitVec 1 := Scalar.cmpi .ne v43 c0_i32_18
  v44

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x6144 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S6144x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r0 : BitVec 32 := 0#32
  let c0_i32_9_r0 : BitVec 32 := 0#32
  ![v1.toNat, 0, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_8_r2 : BitVec 32 := 0#32
  ![v18.toNat, 0]
@[reducible] def k2_t1_loop : Scf.Loop 32 :=
  let c0_i32_5 : BitVec 32 := 0#32
  let c48_i32 : BitVec 32 := 48#32
  let v19 : BitVec 32 := Scalar.addi c0_i32_5 c48_i32
  let c1_i32_6 : BitVec 32 := 1#32
  ⟨c0_i32_5, v19, c1_i32_6⟩
def k2_off3 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v20 : Index := Scalar.indexCast arg18
  let c0 : Index := 0#32
  ![v20.toNat, 0]
def k2_off4 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v23 : Index := Scalar.indexCast arg18
  let c0_8 : Index := 0#32
  ![v23.toNat, 0]

def k2_chk1 (v21 : IVec S16 32) : Prop :=
  (∀ a x, ((![v21] : Fin 1 → IVec S16 32) a x).toNat < S1024.size a) ∧
  (∀ a x, ((![v21] : Fin 1 → IVec S16 32) a x).toNat < S1024.size a) ∧
  (∀ a x, ((![v21] : Fin 1 → IVec S16 32) a x).toNat < S1024.size a) ∧
  (∀ a x, ((![v21] : Fin 1 → IVec S16 32) a x).toNat < S1024.size a)
theorem k2_idx1_inb : ∀ (v21 : IVec S16 32) (k2_hw1 : k2_chk1 v21), ∀ a x, ((![v21] : Fin 1 → IVec S16 32) a x).toNat < S1024.size a := fun v21 k2_hw1 => k2_hw1.1
theorem k2_idx2_inb : ∀ (v21 : IVec S16 32) (k2_hw1 : k2_chk1 v21), ∀ a x, ((![v21] : Fin 1 → IVec S16 32) a x).toNat < S1024.size a := fun v21 k2_hw1 => k2_hw1.2.1
theorem k2_idx3_inb : ∀ (v21 : IVec S16 32) (k2_hw1 : k2_chk1 v21), ∀ a x, ((![v21] : Fin 1 → IVec S16 32) a x).toNat < S1024.size a := fun v21 k2_hw1 => k2_hw1.2.2.1
theorem k2_idx4_inb : ∀ (v21 : IVec S16 32) (k2_hw1 : k2_chk1 v21), ∀ a x, ((![v21] : Fin 1 → IVec S16 32) a x).toNat < S1024.size a := fun v21 k2_hw1 => k2_hw1.2.2.2

def k2_chk2 (v29 : IVec S16 32) : Prop :=
  (∀ a x, ((![v29] : Fin 1 → IVec S16 32) a x).toNat < S1024.size a) ∧
  (∀ a x, ((![v29] : Fin 1 → IVec S16 32) a x).toNat < S1024.size a) ∧
  (∀ a x, ((![v29] : Fin 1 → IVec S16 32) a x).toNat < S1024.size a)
theorem k2_idx5_inb : ∀ (v29 : IVec S16 32) (k2_hw2 : k2_chk2 v29), ∀ a x, ((![v29] : Fin 1 → IVec S16 32) a x).toNat < S1024.size a := fun v29 k2_hw2 => k2_hw2.1
theorem k2_idx6_inb : ∀ (v29 : IVec S16 32) (k2_hw2 : k2_chk2 v29), ∀ a x, ((![v29] : Fin 1 → IVec S16 32) a x).toNat < S1024.size a := fun v29 k2_hw2 => k2_hw2.2.1
theorem k2_idx7_inb : ∀ (v29 : IVec S16 32) (k2_hw2 : k2_chk2 v29), ∀ a x, ((![v29] : Fin 1 → IVec S16 32) a x).toNat < S1024.size a := fun v29 k2_hw2 => k2_hw2.2.2
def k2_off5 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v41 : Index := Scalar.indexCast arg18
  let c0_10 : Index := 0#32
  ![v41.toNat, 0]
def k2_off6 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v43 : Index := Scalar.indexCast arg18
  let c16 : Index := 16#32
  ![v43.toNat, 16]
def k2_off7 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v46 : Index := Scalar.indexCast arg18
  let c16_11 : Index := 16#32
  ![v46.toNat, 16]

def k2_chk3 (v44 : IVec S16 32) : Prop :=
  (∀ a x, ((![v44] : Fin 1 → IVec S16 32) a x).toNat < S1024.size a) ∧
  (∀ a x, ((![v44] : Fin 1 → IVec S16 32) a x).toNat < S1024.size a) ∧
  (∀ a x, ((![v44] : Fin 1 → IVec S16 32) a x).toNat < S1024.size a) ∧
  (∀ a x, ((![v44] : Fin 1 → IVec S16 32) a x).toNat < S1024.size a)
theorem k2_idx8_inb : ∀ (v44 : IVec S16 32) (k2_hw3 : k2_chk3 v44), ∀ a x, ((![v44] : Fin 1 → IVec S16 32) a x).toNat < S1024.size a := fun v44 k2_hw3 => k2_hw3.1
theorem k2_idx9_inb : ∀ (v44 : IVec S16 32) (k2_hw3 : k2_chk3 v44), ∀ a x, ((![v44] : Fin 1 → IVec S16 32) a x).toNat < S1024.size a := fun v44 k2_hw3 => k2_hw3.2.1
theorem k2_idx10_inb : ∀ (v44 : IVec S16 32) (k2_hw3 : k2_chk3 v44), ∀ a x, ((![v44] : Fin 1 → IVec S16 32) a x).toNat < S1024.size a := fun v44 k2_hw3 => k2_hw3.2.2.1
theorem k2_idx11_inb : ∀ (v44 : IVec S16 32) (k2_hw3 : k2_chk3 v44), ∀ a x, ((![v44] : Fin 1 → IVec S16 32) a x).toNat < S1024.size a := fun v44 k2_hw3 => k2_hw3.2.2.2

def k2_chk4 (v52 : IVec S16 32) : Prop :=
  (∀ a x, ((![v52] : Fin 1 → IVec S16 32) a x).toNat < S1024.size a) ∧
  (∀ a x, ((![v52] : Fin 1 → IVec S16 32) a x).toNat < S1024.size a) ∧
  (∀ a x, ((![v52] : Fin 1 → IVec S16 32) a x).toNat < S1024.size a)
theorem k2_idx12_inb : ∀ (v52 : IVec S16 32) (k2_hw4 : k2_chk4 v52), ∀ a x, ((![v52] : Fin 1 → IVec S16 32) a x).toNat < S1024.size a := fun v52 k2_hw4 => k2_hw4.1
theorem k2_idx13_inb : ∀ (v52 : IVec S16 32) (k2_hw4 : k2_chk4 v52), ∀ a x, ((![v52] : Fin 1 → IVec S16 32) a x).toNat < S1024.size a := fun v52 k2_hw4 => k2_hw4.2.1
theorem k2_idx14_inb : ∀ (v52 : IVec S16 32) (k2_hw4 : k2_chk4 v52), ∀ a x, ((![v52] : Fin 1 → IVec S16 32) a x).toNat < S1024.size a := fun v52 k2_hw4 => k2_hw4.2.2
def k2_off8 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v64 : Index := Scalar.indexCast arg18
  let c16_13 : Index := 16#32
  ![v64.toNat, 16]
def k2_off9 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v66 : Index := Scalar.indexCast arg18
  let c32 : Index := 32#32
  ![v66.toNat, 32]
def k2_off10 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v69 : Index := Scalar.indexCast arg18
  let c32_14 : Index := 32#32
  ![v69.toNat, 32]

def k2_chk5 (v67 : IVec S16 32) : Prop :=
  (∀ a x, ((![v67] : Fin 1 → IVec S16 32) a x).toNat < S1024.size a) ∧
  (∀ a x, ((![v67] : Fin 1 → IVec S16 32) a x).toNat < S1024.size a) ∧
  (∀ a x, ((![v67] : Fin 1 → IVec S16 32) a x).toNat < S1024.size a) ∧
  (∀ a x, ((![v67] : Fin 1 → IVec S16 32) a x).toNat < S1024.size a)
theorem k2_idx15_inb : ∀ (v67 : IVec S16 32) (k2_hw5 : k2_chk5 v67), ∀ a x, ((![v67] : Fin 1 → IVec S16 32) a x).toNat < S1024.size a := fun v67 k2_hw5 => k2_hw5.1
theorem k2_idx16_inb : ∀ (v67 : IVec S16 32) (k2_hw5 : k2_chk5 v67), ∀ a x, ((![v67] : Fin 1 → IVec S16 32) a x).toNat < S1024.size a := fun v67 k2_hw5 => k2_hw5.2.1
theorem k2_idx17_inb : ∀ (v67 : IVec S16 32) (k2_hw5 : k2_chk5 v67), ∀ a x, ((![v67] : Fin 1 → IVec S16 32) a x).toNat < S1024.size a := fun v67 k2_hw5 => k2_hw5.2.2.1
theorem k2_idx18_inb : ∀ (v67 : IVec S16 32) (k2_hw5 : k2_chk5 v67), ∀ a x, ((![v67] : Fin 1 → IVec S16 32) a x).toNat < S1024.size a := fun v67 k2_hw5 => k2_hw5.2.2.2

def k2_chk6 (v75 : IVec S16 32) : Prop :=
  (∀ a x, ((![v75] : Fin 1 → IVec S16 32) a x).toNat < S1024.size a) ∧
  (∀ a x, ((![v75] : Fin 1 → IVec S16 32) a x).toNat < S1024.size a) ∧
  (∀ a x, ((![v75] : Fin 1 → IVec S16 32) a x).toNat < S1024.size a)
theorem k2_idx19_inb : ∀ (v75 : IVec S16 32) (k2_hw6 : k2_chk6 v75), ∀ a x, ((![v75] : Fin 1 → IVec S16 32) a x).toNat < S1024.size a := fun v75 k2_hw6 => k2_hw6.1
theorem k2_idx20_inb : ∀ (v75 : IVec S16 32) (k2_hw6 : k2_chk6 v75), ∀ a x, ((![v75] : Fin 1 → IVec S16 32) a x).toNat < S1024.size a := fun v75 k2_hw6 => k2_hw6.2.1
theorem k2_idx21_inb : ∀ (v75 : IVec S16 32) (k2_hw6 : k2_chk6 v75), ∀ a x, ((![v75] : Fin 1 → IVec S16 32) a x).toNat < S1024.size a := fun v75 k2_hw6 => k2_hw6.2.2
def k2_off11 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v87 : Index := Scalar.indexCast arg18
  let c32_16 : Index := 32#32
  ![v87.toNat, 32]
def k2_off12 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v89 : Index := Scalar.indexCast arg18
  let c48 : Index := 48#32
  ![v89.toNat, 48]
def k2_off13 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v92 : Index := Scalar.indexCast arg18
  let c48_17 : Index := 48#32
  ![v92.toNat, 48]

def k2_chk7 (v90 : IVec S16 32) : Prop :=
  (∀ a x, ((![v90] : Fin 1 → IVec S16 32) a x).toNat < S1024.size a) ∧
  (∀ a x, ((![v90] : Fin 1 → IVec S16 32) a x).toNat < S1024.size a) ∧
  (∀ a x, ((![v90] : Fin 1 → IVec S16 32) a x).toNat < S1024.size a) ∧
  (∀ a x, ((![v90] : Fin 1 → IVec S16 32) a x).toNat < S1024.size a)
theorem k2_idx22_inb : ∀ (v90 : IVec S16 32) (k2_hw7 : k2_chk7 v90), ∀ a x, ((![v90] : Fin 1 → IVec S16 32) a x).toNat < S1024.size a := fun v90 k2_hw7 => k2_hw7.1
theorem k2_idx23_inb : ∀ (v90 : IVec S16 32) (k2_hw7 : k2_chk7 v90), ∀ a x, ((![v90] : Fin 1 → IVec S16 32) a x).toNat < S1024.size a := fun v90 k2_hw7 => k2_hw7.2.1
theorem k2_idx24_inb : ∀ (v90 : IVec S16 32) (k2_hw7 : k2_chk7 v90), ∀ a x, ((![v90] : Fin 1 → IVec S16 32) a x).toNat < S1024.size a := fun v90 k2_hw7 => k2_hw7.2.2.1
theorem k2_idx25_inb : ∀ (v90 : IVec S16 32) (k2_hw7 : k2_chk7 v90), ∀ a x, ((![v90] : Fin 1 → IVec S16 32) a x).toNat < S1024.size a := fun v90 k2_hw7 => k2_hw7.2.2.2

def k2_chk8 (v98 : IVec S16 32) : Prop :=
  (∀ a x, ((![v98] : Fin 1 → IVec S16 32) a x).toNat < S1024.size a) ∧
  (∀ a x, ((![v98] : Fin 1 → IVec S16 32) a x).toNat < S1024.size a) ∧
  (∀ a x, ((![v98] : Fin 1 → IVec S16 32) a x).toNat < S1024.size a)
theorem k2_idx26_inb : ∀ (v98 : IVec S16 32) (k2_hw8 : k2_chk8 v98), ∀ a x, ((![v98] : Fin 1 → IVec S16 32) a x).toNat < S1024.size a := fun v98 k2_hw8 => k2_hw8.1
theorem k2_idx27_inb : ∀ (v98 : IVec S16 32) (k2_hw8 : k2_chk8 v98), ∀ a x, ((![v98] : Fin 1 → IVec S16 32) a x).toNat < S1024.size a := fun v98 k2_hw8 => k2_hw8.2.1
theorem k2_idx28_inb : ∀ (v98 : IVec S16 32) (k2_hw8 : k2_chk8 v98), ∀ a x, ((![v98] : Fin 1 → IVec S16 32) a x).toNat < S1024.size a := fun v98 k2_hw8 => k2_hw8.2.2
def k2_off14 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v110 : Index := Scalar.indexCast arg18
  let c48_19 : Index := 48#32
  ![v110.toNat, 48]
def k2_off15 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v112 : Index := Scalar.indexCast arg18
  let c64 : Index := 64#32
  ![v112.toNat, 64]
def k2_off16 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v115 : Index := Scalar.indexCast arg18
  let c64_20 : Index := 64#32
  ![v115.toNat, 64]

def k2_chk9 (v113 : IVec S16 32) : Prop :=
  (∀ a x, ((![v113] : Fin 1 → IVec S16 32) a x).toNat < S1024.size a) ∧
  (∀ a x, ((![v113] : Fin 1 → IVec S16 32) a x).toNat < S1024.size a) ∧
  (∀ a x, ((![v113] : Fin 1 → IVec S16 32) a x).toNat < S1024.size a) ∧
  (∀ a x, ((![v113] : Fin 1 → IVec S16 32) a x).toNat < S1024.size a)
theorem k2_idx29_inb : ∀ (v113 : IVec S16 32) (k2_hw9 : k2_chk9 v113), ∀ a x, ((![v113] : Fin 1 → IVec S16 32) a x).toNat < S1024.size a := fun v113 k2_hw9 => k2_hw9.1
theorem k2_idx30_inb : ∀ (v113 : IVec S16 32) (k2_hw9 : k2_chk9 v113), ∀ a x, ((![v113] : Fin 1 → IVec S16 32) a x).toNat < S1024.size a := fun v113 k2_hw9 => k2_hw9.2.1
theorem k2_idx31_inb : ∀ (v113 : IVec S16 32) (k2_hw9 : k2_chk9 v113), ∀ a x, ((![v113] : Fin 1 → IVec S16 32) a x).toNat < S1024.size a := fun v113 k2_hw9 => k2_hw9.2.2.1
theorem k2_idx32_inb : ∀ (v113 : IVec S16 32) (k2_hw9 : k2_chk9 v113), ∀ a x, ((![v113] : Fin 1 → IVec S16 32) a x).toNat < S1024.size a := fun v113 k2_hw9 => k2_hw9.2.2.2

def k2_chk10 (v121 : IVec S16 32) : Prop :=
  (∀ a x, ((![v121] : Fin 1 → IVec S16 32) a x).toNat < S1024.size a) ∧
  (∀ a x, ((![v121] : Fin 1 → IVec S16 32) a x).toNat < S1024.size a) ∧
  (∀ a x, ((![v121] : Fin 1 → IVec S16 32) a x).toNat < S1024.size a)
theorem k2_idx33_inb : ∀ (v121 : IVec S16 32) (k2_hw10 : k2_chk10 v121), ∀ a x, ((![v121] : Fin 1 → IVec S16 32) a x).toNat < S1024.size a := fun v121 k2_hw10 => k2_hw10.1
theorem k2_idx34_inb : ∀ (v121 : IVec S16 32) (k2_hw10 : k2_chk10 v121), ∀ a x, ((![v121] : Fin 1 → IVec S16 32) a x).toNat < S1024.size a := fun v121 k2_hw10 => k2_hw10.2.1
theorem k2_idx35_inb : ∀ (v121 : IVec S16 32) (k2_hw10 : k2_chk10 v121), ∀ a x, ((![v121] : Fin 1 → IVec S16 32) a x).toNat < S1024.size a := fun v121 k2_hw10 => k2_hw10.2.2
def k2_off17 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v133 : Index := Scalar.indexCast arg18
  let c64_22 : Index := 64#32
  ![v133.toNat, 64]
def k2_off18 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v135 : Index := Scalar.indexCast arg18
  let c80 : Index := 80#32
  ![v135.toNat, 80]
def k2_off19 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v138 : Index := Scalar.indexCast arg18
  let c80_23 : Index := 80#32
  ![v138.toNat, 80]

def k2_chk11 (v136 : IVec S16 32) : Prop :=
  (∀ a x, ((![v136] : Fin 1 → IVec S16 32) a x).toNat < S1024.size a) ∧
  (∀ a x, ((![v136] : Fin 1 → IVec S16 32) a x).toNat < S1024.size a) ∧
  (∀ a x, ((![v136] : Fin 1 → IVec S16 32) a x).toNat < S1024.size a) ∧
  (∀ a x, ((![v136] : Fin 1 → IVec S16 32) a x).toNat < S1024.size a)
theorem k2_idx36_inb : ∀ (v136 : IVec S16 32) (k2_hw11 : k2_chk11 v136), ∀ a x, ((![v136] : Fin 1 → IVec S16 32) a x).toNat < S1024.size a := fun v136 k2_hw11 => k2_hw11.1
theorem k2_idx37_inb : ∀ (v136 : IVec S16 32) (k2_hw11 : k2_chk11 v136), ∀ a x, ((![v136] : Fin 1 → IVec S16 32) a x).toNat < S1024.size a := fun v136 k2_hw11 => k2_hw11.2.1
theorem k2_idx38_inb : ∀ (v136 : IVec S16 32) (k2_hw11 : k2_chk11 v136), ∀ a x, ((![v136] : Fin 1 → IVec S16 32) a x).toNat < S1024.size a := fun v136 k2_hw11 => k2_hw11.2.2.1
theorem k2_idx39_inb : ∀ (v136 : IVec S16 32) (k2_hw11 : k2_chk11 v136), ∀ a x, ((![v136] : Fin 1 → IVec S16 32) a x).toNat < S1024.size a := fun v136 k2_hw11 => k2_hw11.2.2.2

def k2_chk12 (v144 : IVec S16 32) : Prop :=
  (∀ a x, ((![v144] : Fin 1 → IVec S16 32) a x).toNat < S1024.size a) ∧
  (∀ a x, ((![v144] : Fin 1 → IVec S16 32) a x).toNat < S1024.size a) ∧
  (∀ a x, ((![v144] : Fin 1 → IVec S16 32) a x).toNat < S1024.size a)
theorem k2_idx40_inb : ∀ (v144 : IVec S16 32) (k2_hw12 : k2_chk12 v144), ∀ a x, ((![v144] : Fin 1 → IVec S16 32) a x).toNat < S1024.size a := fun v144 k2_hw12 => k2_hw12.1
theorem k2_idx41_inb : ∀ (v144 : IVec S16 32) (k2_hw12 : k2_chk12 v144), ∀ a x, ((![v144] : Fin 1 → IVec S16 32) a x).toNat < S1024.size a := fun v144 k2_hw12 => k2_hw12.2.1
theorem k2_idx42_inb : ∀ (v144 : IVec S16 32) (k2_hw12 : k2_chk12 v144), ∀ a x, ((![v144] : Fin 1 → IVec S16 32) a x).toNat < S1024.size a := fun v144 k2_hw12 => k2_hw12.2.2
def k2_off20 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v156 : Index := Scalar.indexCast arg18
  let c80_25 : Index := 80#32
  ![v156.toNat, 80]
def k2_off21 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v158 : Index := Scalar.indexCast arg18
  let c96 : Index := 96#32
  ![v158.toNat, 96]
def k2_off22 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v161 : Index := Scalar.indexCast arg18
  let c96_26 : Index := 96#32
  ![v161.toNat, 96]

def k2_chk13 (v159 : IVec S16 32) : Prop :=
  (∀ a x, ((![v159] : Fin 1 → IVec S16 32) a x).toNat < S1024.size a) ∧
  (∀ a x, ((![v159] : Fin 1 → IVec S16 32) a x).toNat < S1024.size a) ∧
  (∀ a x, ((![v159] : Fin 1 → IVec S16 32) a x).toNat < S1024.size a) ∧
  (∀ a x, ((![v159] : Fin 1 → IVec S16 32) a x).toNat < S1024.size a)
theorem k2_idx43_inb : ∀ (v159 : IVec S16 32) (k2_hw13 : k2_chk13 v159), ∀ a x, ((![v159] : Fin 1 → IVec S16 32) a x).toNat < S1024.size a := fun v159 k2_hw13 => k2_hw13.1
theorem k2_idx44_inb : ∀ (v159 : IVec S16 32) (k2_hw13 : k2_chk13 v159), ∀ a x, ((![v159] : Fin 1 → IVec S16 32) a x).toNat < S1024.size a := fun v159 k2_hw13 => k2_hw13.2.1
theorem k2_idx45_inb : ∀ (v159 : IVec S16 32) (k2_hw13 : k2_chk13 v159), ∀ a x, ((![v159] : Fin 1 → IVec S16 32) a x).toNat < S1024.size a := fun v159 k2_hw13 => k2_hw13.2.2.1
theorem k2_idx46_inb : ∀ (v159 : IVec S16 32) (k2_hw13 : k2_chk13 v159), ∀ a x, ((![v159] : Fin 1 → IVec S16 32) a x).toNat < S1024.size a := fun v159 k2_hw13 => k2_hw13.2.2.2

def k2_chk14 (v167 : IVec S16 32) : Prop :=
  (∀ a x, ((![v167] : Fin 1 → IVec S16 32) a x).toNat < S1024.size a) ∧
  (∀ a x, ((![v167] : Fin 1 → IVec S16 32) a x).toNat < S1024.size a) ∧
  (∀ a x, ((![v167] : Fin 1 → IVec S16 32) a x).toNat < S1024.size a)
theorem k2_idx47_inb : ∀ (v167 : IVec S16 32) (k2_hw14 : k2_chk14 v167), ∀ a x, ((![v167] : Fin 1 → IVec S16 32) a x).toNat < S1024.size a := fun v167 k2_hw14 => k2_hw14.1
theorem k2_idx48_inb : ∀ (v167 : IVec S16 32) (k2_hw14 : k2_chk14 v167), ∀ a x, ((![v167] : Fin 1 → IVec S16 32) a x).toNat < S1024.size a := fun v167 k2_hw14 => k2_hw14.2.1
theorem k2_idx49_inb : ∀ (v167 : IVec S16 32) (k2_hw14 : k2_chk14 v167), ∀ a x, ((![v167] : Fin 1 → IVec S16 32) a x).toNat < S1024.size a := fun v167 k2_hw14 => k2_hw14.2.2
def k2_off23 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v179 : Index := Scalar.indexCast arg18
  let c96_28 : Index := 96#32
  ![v179.toNat, 96]
def k2_off24 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v181 : Index := Scalar.indexCast arg18
  let c112 : Index := 112#32
  ![v181.toNat, 112]
def k2_off25 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v184 : Index := Scalar.indexCast arg18
  let c112_29 : Index := 112#32
  ![v184.toNat, 112]

def k2_chk15 (v182 : IVec S16 32) : Prop :=
  (∀ a x, ((![v182] : Fin 1 → IVec S16 32) a x).toNat < S1024.size a) ∧
  (∀ a x, ((![v182] : Fin 1 → IVec S16 32) a x).toNat < S1024.size a) ∧
  (∀ a x, ((![v182] : Fin 1 → IVec S16 32) a x).toNat < S1024.size a) ∧
  (∀ a x, ((![v182] : Fin 1 → IVec S16 32) a x).toNat < S1024.size a)
theorem k2_idx50_inb : ∀ (v182 : IVec S16 32) (k2_hw15 : k2_chk15 v182), ∀ a x, ((![v182] : Fin 1 → IVec S16 32) a x).toNat < S1024.size a := fun v182 k2_hw15 => k2_hw15.1
theorem k2_idx51_inb : ∀ (v182 : IVec S16 32) (k2_hw15 : k2_chk15 v182), ∀ a x, ((![v182] : Fin 1 → IVec S16 32) a x).toNat < S1024.size a := fun v182 k2_hw15 => k2_hw15.2.1
theorem k2_idx52_inb : ∀ (v182 : IVec S16 32) (k2_hw15 : k2_chk15 v182), ∀ a x, ((![v182] : Fin 1 → IVec S16 32) a x).toNat < S1024.size a := fun v182 k2_hw15 => k2_hw15.2.2.1
theorem k2_idx53_inb : ∀ (v182 : IVec S16 32) (k2_hw15 : k2_chk15 v182), ∀ a x, ((![v182] : Fin 1 → IVec S16 32) a x).toNat < S1024.size a := fun v182 k2_hw15 => k2_hw15.2.2.2

def k2_chk16 (v190 : IVec S16 32) : Prop :=
  (∀ a x, ((![v190] : Fin 1 → IVec S16 32) a x).toNat < S1024.size a) ∧
  (∀ a x, ((![v190] : Fin 1 → IVec S16 32) a x).toNat < S1024.size a) ∧
  (∀ a x, ((![v190] : Fin 1 → IVec S16 32) a x).toNat < S1024.size a)
theorem k2_idx54_inb : ∀ (v190 : IVec S16 32) (k2_hw16 : k2_chk16 v190), ∀ a x, ((![v190] : Fin 1 → IVec S16 32) a x).toNat < S1024.size a := fun v190 k2_hw16 => k2_hw16.1
theorem k2_idx55_inb : ∀ (v190 : IVec S16 32) (k2_hw16 : k2_chk16 v190), ∀ a x, ((![v190] : Fin 1 → IVec S16 32) a x).toNat < S1024.size a := fun v190 k2_hw16 => k2_hw16.2.1
theorem k2_idx56_inb : ∀ (v190 : IVec S16 32) (k2_hw16 : k2_chk16 v190), ∀ a x, ((![v190] : Fin 1 → IVec S16 32) a x).toNat < S1024.size a := fun v190 k2_hw16 => k2_hw16.2.2
def k2_off26 (k2_t1 : Fin k2_t1_loop.trips) : Fin 2 → Nat :=
  let c0_i32_5 : BitVec 32 := 0#32
  let c1_i32_6 : BitVec 32 := 1#32
  let arg18 : BitVec 32 := Scf.iv c0_i32_5 c1_i32_6 k2_t1
  let v202 : Index := Scalar.indexCast arg18
  let c112_31 : Index := 112#32
  ![v202.toNat, 112]
abbrev grid3 : Pipeline.Grid := ⟨2, ![4, 8], ![false, false]⟩

def k3_off1 (i : grid3.Coords) : Fin 2 → Nat :=
  let c0_17 : Index := 0#32
  let arg1 : BitVec 32 := BitVec.ofNat 32 (i 1).val
  let c128_i32 : BitVec 32 := 128#32
  let v37 : BitVec 32 := Scalar.muli arg1 c128_i32
  let v38 : Index := Scalar.indexCast v37
  ![0, v38.toNat]
def k3_cond2 (i : grid3.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_18 : BitVec 32 := 0#32
  let v44 : BitVec 1 := Scalar.cmpi .ne v43 c0_i32_18
  v44

def cc3_transform_0 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x6144 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x6144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x1024 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S6144x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S128x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S64x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 2 → Memref sig .tc .vmem S1x1x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "step" => some ((5 / 31 : ℝ) : EReal)
  | _ => none
-- ==== ReferenceIdeal.lean ====
abbrev S8x1024x3 : Shape := ⟨3, ![8, 1024, 3]⟩
abbrev S8x1024 : Shape := ⟨2, ![8, 1024]⟩
abbrev S8x1024x48 : Shape := ⟨3, ![8, 1024, 48]⟩
abbrev S100x128 : Shape := ⟨2, ![100, 128]⟩
abbrev S32x128 : Shape := ⟨2, ![32, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S8x1024x1 : Shape := ⟨3, ![8, 1024, 1]⟩
abbrev S1x1x1 : Shape := ⟨3, ![1, 1, 1]⟩
abbrev S8x1024x128 : Shape := ⟨3, ![8, 1024, 128]⟩
abbrev S8x49152 : Shape := ⟨2, ![8, 49152]⟩
abbrev S8x49152x1 : Shape := ⟨3, ![8, 49152, 1]⟩
abbrev S8x49152x3 : Shape := ⟨3, ![8, 49152, 3]⟩
abbrev S8x1024x48x3 : Shape := ⟨4, ![8, 1024, 48, 3]⟩
abbrev S8x1024x1x3 : Shape := ⟨4, ![8, 1024, 1, 3]⟩
abbrev S31 : Shape := ⟨1, ![31]⟩
abbrev S32 : Shape := ⟨1, ![32]⟩
abbrev S8x1024x48x1 : Shape := ⟨4, ![8, 1024, 48, 1]⟩
abbrev S1x1x1x32 : Shape := ⟨4, ![1, 1, 1, 32]⟩
abbrev S8x1024x48x32 : Shape := ⟨4, ![8, 1024, 48, 32]⟩
abbrev S8x1024x48x128 : Shape := ⟨4, ![8, 1024, 48, 128]⟩
abbrev S8x49152x128 : Shape := ⟨3, ![8, 49152, 128]⟩
abbrev S1x1x128 : Shape := ⟨3, ![1, 1, 128]⟩
abbrev S8x1024x64 : Shape := ⟨3, ![8, 1024, 64]⟩
abbrev S1x1x64 : Shape := ⟨3, ![1, 1, 64]⟩
abbrev S8x1 : Shape := ⟨2, ![8, 1]⟩

abbrev nBuf : Space → Nat
  | .hbm => 147
  | .vmem => 0
  | .smem => 0
  | _ => 0

abbrev hbmTy0_0 (i : Nat) : BufTy := match i % 128 with
  | 0 => ⟨S8x1024x3, .f32⟩
  | 1 => ⟨S8x1024, .i32⟩
  | 2 => ⟨S8x1024x48, .i32⟩
  | 3 => ⟨S100x128, .f32⟩
  | 4 => ⟨S32x128, .f32⟩
  | 5 => ⟨S128x128, .f32⟩
  | 6 => ⟨S128, .f32⟩
  | 7 => ⟨S128x64, .f32⟩
  | 8 => ⟨S64, .f32⟩
  | 9 => ⟨S64x1, .f32⟩
  | 10 => ⟨S1, .f32⟩
  | 11 => ⟨S_, .i32⟩
  | 12 => ⟨S8x1024, .i32⟩
  | 13 => ⟨S8x1024, .i1⟩
  | 14 => ⟨S_, .i32⟩
  | 15 => ⟨S8x1024, .i32⟩
  | 16 => ⟨S8x1024, .i32⟩
  | 17 => ⟨S8x1024, .i32⟩
  | 18 => ⟨S8x1024x1, .i32⟩
  | 19 => ⟨S1, .i32⟩
  | 20 => ⟨S_, .i32⟩
  | 21 => ⟨S8x1024x1, .i32⟩
  | 22 => ⟨S8x1024x1, .i1⟩
  | 23 => ⟨S1x1x1, .i32⟩
  | 24 => ⟨S8x1024x1, .i32⟩
  | 25 => ⟨S8x1024x1, .i1⟩
  | 26 => ⟨S8x1024x1, .i1⟩
  | 27 => ⟨S_, .i1⟩
  | 28 => ⟨S8x1024, .i1⟩
  | 29 => ⟨S8x1024x128, .f32⟩
  | 30 => ⟨S8x1024x128, .i1⟩
  | 31 => ⟨S_, .f32⟩
  | 32 => ⟨S8x1024x128, .f32⟩
  | 33 => ⟨S8x1024x128, .f32⟩
  | 34 => ⟨S8x49152, .i32⟩
  | 35 => ⟨S8x49152x1, .i32⟩
  | 36 => ⟨S_, .i32⟩
  | 37 => ⟨S8x49152x1, .i32⟩
  | 38 => ⟨S8x49152x1, .i1⟩
  | 39 => ⟨S_, .i32⟩
  | 40 => ⟨S8x49152x1, .i32⟩
  | 41 => ⟨S8x49152x1, .i32⟩
  | 42 => ⟨S8x49152x1, .i32⟩
  | 43 => ⟨S1, .i32⟩
  | 44 => ⟨S_, .i32⟩
  | 45 => ⟨S8x49152x1, .i32⟩
  | 46 => ⟨S8x49152x1, .i1⟩
  | 47 => ⟨S1x1x1, .i32⟩
  | 48 => ⟨S8x49152x1, .i32⟩
  | 49 => ⟨S8x49152x1, .i1⟩
  | 50 => ⟨S8x49152x1, .i1⟩
  | 51 => ⟨S_, .i1⟩
  | 52 => ⟨S8x49152, .i1⟩
  | 53 => ⟨S8x49152x3, .f32⟩
  | 54 => ⟨S8x49152x3, .i1⟩
  | 55 => ⟨S_, .f32⟩
  | 56 => ⟨S8x49152x3, .f32⟩
  | 57 => ⟨S8x49152x3, .f32⟩
  | 58 => ⟨S8x1024x48x3, .f32⟩
  | 59 => ⟨S8x1024x1x3, .f32⟩
  | 60 => ⟨S8x1024x48x3, .f32⟩
  | 61 => ⟨S8x1024x48x3, .f32⟩
  | 62 => ⟨S8x1024x48x3, .f32⟩
  | 63 => ⟨S_, .f32⟩
  | 64 => ⟨S8x1024x48, .f32⟩
  | 65 => ⟨S_, .f32⟩
  | 66 => ⟨S8x1024x48, .f32⟩
  | 67 => ⟨S8x1024x48, .f32⟩
  | 68 => ⟨S8x1024x48, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S31, .f32⟩
  | 77 => ⟨S_, .f32⟩
  | 78 => ⟨S31, .f32⟩
  | 79 => ⟨S31, .f32⟩
  | 80 => ⟨S1, .f32⟩
  | 81 => ⟨S_, .f32⟩
  | 82 => ⟨S31, .f32⟩
  | 83 => ⟨S31, .f32⟩
  | 84 => ⟨S31, .f32⟩
  | 85 => ⟨S31, .f32⟩
  | 86 => ⟨S1, .f32⟩
  | 87 => ⟨S31, .f32⟩
  | 88 => ⟨S31, .f32⟩
  | 89 => ⟨S31, .f32⟩
  | 90 => ⟨S1, .f32⟩
  | 91 => ⟨S32, .f32⟩
  | 92 => ⟨S8x1024x48x1, .f32⟩
  | 93 => ⟨S1x1x1x32, .f32⟩
  | 94 => ⟨S8x1024x48x32, .f32⟩
  | 95 => ⟨S8x1024x48x32, .f32⟩
  | 96 => ⟨S8x1024x48x32, .f32⟩
  | 97 => ⟨S8x1024x48x32, .f32⟩
  | 98 => ⟨S_, .f32⟩
  | 99 => ⟨S8x1024x48x32, .f32⟩
  | 100 => ⟨S8x1024x48x32, .f32⟩
  | 101 => ⟨S8x1024x48x32, .f32⟩
  | 102 => ⟨S8x1024x48x128, .f32⟩
  | 103 => ⟨S8x49152x1, .i32⟩
  | 104 => ⟨S_, .i32⟩
  | 105 => ⟨S8x49152x1, .i32⟩
  | 106 => ⟨S8x49152x1, .i1⟩
  | 107 => ⟨S_, .i32⟩
  | 108 => ⟨S8x49152x1, .i32⟩
  | 109 => ⟨S8x49152x1, .i32⟩
  | 110 => ⟨S8x49152x1, .i32⟩
  | 111 => ⟨S1, .i32⟩
  | 112 => ⟨S_, .i32⟩
  | 113 => ⟨S8x49152x1, .i32⟩
  | 114 => ⟨S8x49152x1, .i1⟩
  | 115 => ⟨S1x1x1, .i32⟩
  | 116 => ⟨S8x49152x1, .i32⟩
  | 117 => ⟨S8x49152x1, .i1⟩
  | 118 => ⟨S8x49152x1, .i1⟩
  | 119 => ⟨S_, .i1⟩
  | 120 => ⟨S8x49152, .i1⟩
  | 121 => ⟨S8x49152x128, .f32⟩
  | 122 => ⟨S8x49152x128, .i1⟩
  | 123 => ⟨S_, .f32⟩
  | 124 => ⟨S8x49152x128, .f32⟩
  | 125 => ⟨S8x49152x128, .f32⟩
  | 126 => ⟨S8x1024x48x128, .f32⟩
  | 127 => ⟨S8x1024x48x128, .f32⟩
  | _ => ⟨S8x1024x3, .f32⟩

abbrev hbmTy0_1 (i : Nat) : BufTy := match i % 128 with
  | 0 => ⟨S_, .f32⟩
  | 1 => ⟨S8x1024x128, .f32⟩
  | 2 => ⟨S8x1024x128, .f32⟩
  | 3 => ⟨S1x1x128, .f32⟩
  | 4 => ⟨S8x1024x128, .f32⟩
  | 5 => ⟨S8x1024x128, .f32⟩
  | 6 => ⟨S8x1024x128, .f32⟩
  | 7 => ⟨S8x1024x128, .f32⟩
  | 8 => ⟨S8x1024x64, .f32⟩
  | 9 => ⟨S1x1x64, .f32⟩
  | 10 => ⟨S8x1024x64, .f32⟩
  | 11 => ⟨S8x1024x64, .f32⟩
  | 12 => ⟨S8x1024x64, .f32⟩
  | 13 => ⟨S8x1024x1, .f32⟩
  | 14 => ⟨S1x1x1, .f32⟩
  | 15 => ⟨S8x1024x1, .f32⟩
  | 16 => ⟨S8x1024x1, .f32⟩
  | 17 => ⟨S_, .f32⟩
  | 18 => ⟨S8x1, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_cst : Ref sig .tc := ⟨.hbm, 63, rfl⟩
abbrev main_v9 : Ref sig .tc := ⟨.hbm, 64, rfl⟩
abbrev main_cst_0 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_cst_1 : Ref sig .tc := ⟨.hbm, 69, rfl⟩
abbrev main_cst_2 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_cst : Ref sig .tc := ⟨.hbm, 74, rfl⟩
abbrev main_call2_v3 : Ref sig .tc := ⟨.hbm, 75, rfl⟩
abbrev main_call2_v4 : Ref sig .tc := ⟨.hbm, 76, rfl⟩
abbrev main_call2_cst_0 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_cst_1 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_v15 : Ref sig .tc := ⟨.hbm, 89, rfl⟩
abbrev main_call2_v16 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_cst_3 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_1 : Ref sig .tc := ⟨.hbm, 111, rfl⟩
abbrev main_call3_c_2 : Ref sig .tc := ⟨.hbm, 112, rfl⟩
abbrev main_call3_v5 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_c_3 : Ref sig .tc := ⟨.hbm, 119, rfl⟩
abbrev main_call3_v11 : Ref sig .tc := ⟨.hbm, 120, rfl⟩
abbrev main_call3_v12 : Ref sig .tc := ⟨.hbm, 121, rfl⟩
abbrev main_call3_v13 : Ref sig .tc := ⟨.hbm, 122, rfl⟩
abbrev main_call3_cst : Ref sig .tc := ⟨.hbm, 123, rfl⟩
abbrev main_call3_v14 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_cst_4 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_cst_5 : Ref sig .tc := ⟨.hbm, 145, rfl⟩
abbrev main_v44 : Ref sig .tc := ⟨.hbm, 146, rfl⟩

abbrev nD : Nat := 1
abbrev τ : Topo := Topo.v7x

variable {F : FTy → Type} [FloatOps F]
-- ==== Proof.Base.lean ====
/- The set-up of the launch: the program as the launch theorem sees it, the ghost state its proof is over, and
   the values the kernels compute, named once. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Pipeline.FrameBody
public import Idealize.ShloMosaic.Lib.Pipeline.Value
public import Idealize.ShloMosaic.Lib.WholeRead
public import Idealize.ShloMosaic.Lib.Writes
public import Idealize.ShloMosaic.Lib.WritesUnit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

/-- The machine's algebra with this proof's ghost state. -/
abbrev MM (F : FTy → Type) := MT nD τ sig (HIx 2) (Elt F) ℕ UU ℕ

abbrev EH : Emb UH (MT nD τ sig (HIx 2) (Elt F) ℕ UU ℕ) := embL

/-- The pipelines' rounds: the left factor of the right factor. -/
def EP : Emb UP (MT nD τ sig (HIx 2) (Elt F) ℕ UU ℕ) :=
  ((Emb.inl : Emb UP (UP × Counters)).trans (Emb.inr : Emb (UP × Counters) UU)).trans
    (uEmb (nD := nD) (τ := τ) (sig := sig) (Ix := HIx 2) (Val := Elt F) (Name := ℕ) (U := UU) (Lvl := ℕ)).toEmb

instance EP_landsIn : (EP : Emb UP (MM F)).LandsIn (upEmb : UEmb _ (MM F)) := by unfold EP; infer_instance

/-- The launch's ghost element deals the handshakes' part and the pipelines'. -/
theorem ownU_parts (a : UH) (b : UP) : (ownU ((a, (b, 1)) : UU) : sProp (MM F)) ⊢ iprop(BI.own (EH a) ∗ BI.own (EP b)) :=
  ownU_pair a ((b, 1) : UP × Counters)

end Cert.Proof

end
-- ==== Proof.Chunk.lean ====
/- One sixteen-lane chunk of a tile's loop, as one program: the gathers of a neighbour's atomic number and of the
   two positions, and the squared distance. The loop's body is eight of them. -/
module

public import proofs.«01_k».proof.Proof.Base

@[expose] public section

noncomputable section

namespace Cert.Proof

open Cert.KernelIdeal Cert.KernelIdeal.Gen
open Idealize.ShloMosaic Idealize.SL.Sem

variable {F : FTy → Type} [FloatOps F] [Named F]

/-- Sixteen squared distances from the six gathered coordinate vectors. -/
def dist16 (a b c x y z : FVec F S16 .f32) : FVec F S16 .f32 :=
  addf (addf (mulf (subf a x) (subf a x)) (mulf (subf b y) (subf b y))) (mulf (subf c z) (subf c z))

/-- One chunk: sixteen neighbour indices at `offa` (of the neighbour table's row), their atomic numbers to `offb`, the two
    ends' coordinates, the squared distances to `offc`. -/
def chunk (c : Fin τ.nSC) (t : Fin τ.nSub)
    (arg10 : Memref sig .scVector .vmem S48x128 .i32) (arg11 : Memref sig .scVector .vmem S48x128 .i32)
    (arg12 : Memref sig .scVector .vmem S48x128 .i32) (arg13 : Memref sig .scVector .vmem S48x128 .f32)
    (arg14 : Memref sig .scVector .vmem S1024 .i32) (arg15 : Memref sig .scVector .vmem S1024 .f32)
    (arg16 : Memref sig .scVector .vmem S1024 .f32) (arg17 : Memref sig .scVector .vmem S1024 .f32)
    (offa offb offc : Fin 2 → Nat) (ha : ∀ a, offa a + S1x16.size a ≤ S48x128.size a)
    (hb : ∀ a, offb a + S1x16.size a ≤ S48x128.size a) (hc : ∀ a, offc a + S1x16.size a ≤ S48x128.size a) :
    Prog (TpuEff nD τ sig (Elt F) Λ₀ (.scVector c t)) PUnit := do
  let iv_ld : Vec F S1x16 .i32 ← Prog.lift (.load arg10 (Rect.unit (s := S48x128) offa S1x16.size ha).toLoadRect (View.loadsAt_vmem h_S1x16))
  have iv : Vec F S16 .i32 := shapeCast S16 iv_ld shapeCasts_S1x16_S16
  have hw1 : k0_chk1 iv := (← Prog.lift (TpuEff.assume (k0_chk1 iv) (k0_chk1.dec iv))).down
  let zj : Vec F S16 .i32 ← SparseCore.vectorLoadIdx arg14 ![iv] (k0_idx1_inb iv hw1) (View.loads_vmem h_S1024)
  let _ ← Prog.lift (.load arg12 (Rect.unit (s := S48x128) offb S1x16.size hb).toLoadRect (View.loadsAt_vmem h_S1x16))
  Prog.lift (.store arg12 (Rect.unit (s := S48x128) offb S1x16.size hb) (shapeCast S1x16 zj shapeCasts_S16_S1x16) Finset.univ (View.stores_vmem_bits_univ h_S1x16 rfl) (.inl rfl))
  let xj : Vec F S16 .f32 ← SparseCore.vectorLoadIdx arg15 ![iv] (k0_idx2_inb iv hw1) (View.loads_vmem h_S1024)
  let yj : Vec F S16 .f32 ← SparseCore.vectorLoadIdx arg16 ![iv] (k0_idx3_inb iv hw1) (View.loads_vmem h_S1024)
  let wj : Vec F S16 .f32 ← SparseCore.vectorLoadIdx arg17 ![iv] (k0_idx4_inb iv hw1) (View.loads_vmem h_S1024)
  let cv_ld : Vec F S1x16 .i32 ← Prog.lift (.load arg11 (Rect.unit (s := S48x128) offb S1x16.size hb).toLoadRect (View.loadsAt_vmem h_S1x16))
  have cv : Vec F S16 .i32 := shapeCast S16 cv_ld shapeCasts_S1x16_S16
  have hw2 : k0_chk2 cv := (← Prog.lift (TpuEff.assume (k0_chk2 cv) (k0_chk2.dec cv))).down
  let xi : Vec F S16 .f32 ← SparseCore.vectorLoadIdx arg15 ![cv] (k0_idx5_inb cv hw2) (View.loads_vmem h_S1024)
  let yi : Vec F S16 .f32 ← SparseCore.vectorLoadIdx arg16 ![cv] (k0_idx6_inb cv hw2) (View.loads_vmem h_S1024)
  let wi : Vec F S16 .f32 ← SparseCore.vectorLoadIdx arg17 ![cv] (k0_idx7_inb cv hw2) (View.loads_vmem h_S1024)
  let _ ← Prog.lift (.load arg13 (Rect.unit (s := S48x128) offc S1x16.size hc).toLoadRect (View.loadsAt_vmem h_S1x16))
  Prog.lift (.store arg13 (Rect.unit (s := S48x128) offc S1x16.size hc) (shapeCast S1x16 (dist16 xj yj wj xi yi wi) shapeCasts_S16_S1x16) Finset.univ (View.stores_vmem_bits_univ h_S1x16 rfl) (.inl rfl))

set_option maxRecDepth 65536 in
set_option maxHeartbeats 4000000 in
/-- A trip of the loop is its eight chunks, in order. -/
theorem trip_eq (i : grid0.Coords) (arg2 : Memref sig .scVector .hbm S32x48x128 .i32) (harg2 : arg2.IsWhole) (arg3 : Memref sig .scVector .hbm S32x48x128 .i32) (harg3 : arg3.IsWhole) (arg4 : Memref sig .scVector .hbm S4x1024 .i32) (harg4 : arg4.IsWhole) (arg5 : Memref sig .scVector .hbm S4x1024 .f32) (harg5 : arg5.IsWhole) (arg6 : Memref sig .scVector .hbm S4x1024 .f32) (harg6 : arg6.IsWhole) (arg7 : Memref sig .scVector .hbm S4x1024 .f32) (harg7 : arg7.IsWhole) (arg8 : Memref sig .scVector .hbm S32x48x128 .i32) (harg8 : arg8.IsWhole) (arg9 : Memref sig .scVector .hbm S32x48x128 .f32) (harg9 : arg9.IsWhole) (arg10 : Memref sig .scVector .vmem S48x128 .i32) (harg10 : arg10.IsWhole) (arg11 : Memref sig .scVector .vmem S48x128 .i32) (harg11 : arg11.IsWhole) (arg12 : Memref sig .scVector .vmem S48x128 .i32) (harg12 : arg12.IsWhole) (arg13 : Memref sig .scVector .vmem S48x128 .f32) (harg13 : arg13.IsWhole) (arg14 : Memref sig .scVector .vmem S1024 .i32) (harg14 : arg14.IsWhole) (arg15 : Memref sig .scVector .vmem S1024 .f32) (harg15 : arg15.IsWhole) (arg16 : Memref sig .scVector .vmem S1024 .f32) (harg16 : arg16.IsWhole) (arg17 : Memref sig .scVector .vmem S1024 .f32) (harg17 : arg17.IsWhole) (v20_r0 : DmaSems sig S_) (v20_r1 : DmaSems sig S_) (v20_r2 : DmaSems sig S_) (v20_r3 : DmaSems sig S_) (v20_r4 : DmaSems sig S_) (v20_r5 : DmaSems sig S_) (v20_r6 : DmaSems sig S_) (v20_r7 : DmaSems sig S_) (t : Fin k0_t1_loop.trips) (u : Unit) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20_r0 v20_r1 v20_r2 v20_r3 v20_r4 v20_r5 v20_r6 v20_r7 t u
      = (do
        chunk ((i 0).castLE hcore0) ((i 1).castLE hsub0) arg10 arg11 arg12 arg13 arg14 arg15 arg16 arg17 (k0_off3 t) (k0_off4 t) (k0_off5 t) (k0_off3_inb t) (k0_off4_inb t) (k0_off5_inb t)
        chunk ((i 0).castLE hcore0) ((i 1).castLE hsub0) arg10 arg11 arg12 arg13 arg14 arg15 arg16 arg17 (k0_off6 t) (k0_off7 t) (k0_off8 t) (k0_off6_inb t) (k0_off7_inb t) (k0_off8_inb t)
        chunk ((i 0).castLE hcore0) ((i 1).castLE hsub0) arg10 arg11 arg12 arg13 arg14 arg15 arg16 arg17 (k0_off9 t) (k0_off10 t) (k0_off11 t) (k0_off9_inb t) (k0_off10_inb t) (k0_off11_inb t)
        chunk ((i 0).castLE hcore0) ((i 1).castLE hsub0) arg10 arg11 arg12 arg13 arg14 arg15 arg16 arg17 (k0_off12 t) (k0_off13 t) (k0_off14 t) (k0_off12_inb t) (k0_off13_inb t) (k0_off14_inb t)
        chunk ((i 0).castLE hcore0) ((i 1).castLE hsub0) arg10 arg11 arg12 arg13 arg14 arg15 arg16 arg17 (k0_off15 t) (k0_off16 t) (k0_off17 t) (k0_off15_inb t) (k0_off16_inb t) (k0_off17_inb t)
        chunk ((i 0).castLE hcore0) ((i 1).castLE hsub0) arg10 arg11 arg12 arg13 arg14 arg15 arg16 arg17 (k0_off18 t) (k0_off19 t) (k0_off20 t) (k0_off18_inb t) (k0_off19_inb t) (k0_off20_inb t)
        chunk ((i 0).castLE hcore0) ((i 1).castLE hsub0) arg10 arg11 arg12 arg13 arg14 arg15 arg16 arg17 (k0_off21 t) (k0_off22 t) (k0_off23 t) (k0_off21_inb t) (k0_off22_inb t) (k0_off23_inb t)
        chunk ((i 0).castLE hcore0) ((i 1).castLE hsub0) arg10 arg11 arg12 arg13 arg14 arg15 arg16 arg17 (k0_off24 t) (k0_off25 t) (k0_off26 t) (k0_off24_inb t) (k0_off25_inb t) (k0_off26_inb t)) := by
  unfold k0_t1_body
  simp only [k0_part1_eq_skeleton, k0_part2_eq_skeleton, k0_part3_eq_skeleton, k0_part4_eq_skeleton]
  simp only [k0_part1_skel, k0_part2_skel, k0_part3_skel, k0_part4_skel, chunk, SparseCore.vectorLoadIdx, Prog.bind_lift, Prog.bind_op, Prog.bind_ret, Prog.pure_eq_ret]
  rfl

end Cert.Proof

end
-- ==== Proof.Tile.lean ====
/- The tile's loop: what its two result buffers hold after each chunk. -/
module

public import proofs.«01_k».proof.Proof.Chunk
public import Idealize.ShloMosaic.Lib.SparseCore.Ops
public import Idealize.ShloMosaic.Lib.ValueLayout

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## The values -/

/-- The entry of a table of 1024 that an index word names. -/
def pick {α : Type} (Z : S1024.Idx → α) (v : BitVec 32) : α := Z (ix1 ⟨v.toNat % 1024, Nat.mod_lt _ (by decide)⟩)

/-- The neighbours' atomic numbers of a tile's 6144 edges. -/
def zVal (IX : S48x128.Idx → BitVec 32) (Z : S1024.Idx → BitVec 32) : S48x128.Idx → BitVec 32 := fun j => pick Z (IX j)

/-- One squared distance. -/
def dist1 [FloatOps F] (a b c x y z : F .f32) : F .f32 :=
  FloatOps.addf (FloatOps.addf (FloatOps.mulf (FloatOps.subf a x) (FloatOps.subf a x)) (FloatOps.mulf (FloatOps.subf b y) (FloatOps.subf b y)))
    (FloatOps.mulf (FloatOps.subf c z) (FloatOps.subf c z))

theorem dist1_congr [FloatOps F] {a b c x y z a' b' c' x' y' z' : F .f32} (ha : a = a') (hb : b = b') (hc : c = c') (hx : x = x')
    (hy : y = y') (hz : z = z') : dist1 a b c x y z = dist1 a' b' c' x' y' z' := by subst ha hb hc hx hy hz; rfl

/-- The squared lengths of a tile's 6144 edges. -/
def dVal [FloatOps F] (IX CT : S48x128.Idx → BitVec 32) (X Y W : S1024.Idx → F .f32) : S48x128.Idx → F .f32 := fun j =>
  dist1 (pick X (IX j)) (pick Y (IX j)) (pick W (IX j)) (pick X (CT j)) (pick Y (CT j)) (pick W (CT j))

/-- The element of row `r` and lane `x` of chunk `l`. -/
def cell (r : Fin 48) (l : Fin 8) (x : Fin 16) : S48x128.Idx := ix2 r ⟨16 * l.val + x.val, by omega⟩

/-- `g` is `f` on the first `n` chunks. -/
def Agrees {α : Type} (n : Nat) (f g : S48x128.Idx → α) : Prop :=
  ∀ j : S48x128.Idx, 8 * (j 0).val + (j 1).val / 16 < n → g j = f j

theorem lane_eq {e : EltTy} (m : Memref sig .scVector .vmem S48x128 e) (f : m.view.ty.Contents (Elt F)) {off : Fin 2 → Nat}
    (r : Fin 48) (l : Fin 8) (hoff : off = ![r.val, 16 * l.val]) (ha : ∀ a, off a + S1x16.size a ≤ S48x128.size a) (x : Fin 16) :
    shapeCast S16 (m.view.readAt (Elt F) (Rect.unit (s := S48x128) off S1x16.size ha).toLoadRect f) shapeCasts_S1x16_S16 (ix1 x)
      = m.view.read (Elt F) f (cell r l x) := by
  subst hoff
  rw [shapeCast_1a_a_apply]
  show m.view.read (Elt F) f _ = _
  congr 1
  funext a
  refine Fin.ext ?_
  match a with
  | ⟨0, _⟩ => show r.val + 1 * 0 = r.val; omega
  | ⟨1, _⟩ => show 16 * l.val + 1 * x.val = 16 * l.val + x.val; omega

theorem agrees_step {e : EltTy} (m : Memref sig .scVector .vmem S48x128 e) (f : m.view.ty.Contents (Elt F)) {off : Fin 2 → Nat}
    (r : Fin 48) (l : Fin 8) (hoff : off = ![r.val, 16 * l.val]) (ha : ∀ a, off a + S1x16.size a ≤ S48x128.size a)
    (v : Vec F S16 e) (G : S48x128.Idx → Elt F e) (hv : ∀ x : Fin 16, v (ix1 x) = G (cell r l x)) {n : Nat} (hn : n = 8 * r.val + l.val)
    (h : Agrees n G (m.view.read (Elt F) f)) :
    Agrees (n + 1) G (m.view.read (Elt F) (m.view.writes (Elt F) f
      [⟨Rect.unit (s := S48x128) off S1x16.size ha, shapeCast S1x16 v shapeCasts_S16_S1x16⟩])) := by
  intro j hj
  rw [View.read_writes_cons_unit m.view f ha _ [] j hoff]
  have hj0 : (j 0).val < 48 := (j 0).isLt
  have hj1 : (j 1).val < 128 := (j 1).isLt
  split
  · rename_i hin
    have h0 := hin 0
    have h1 := hin 1
    have e0 : (![r.val, 16 * l.val] : Fin 2 → Nat) 0 = r.val := rfl
    have e1 : (![r.val, 16 * l.val] : Fin 2 → Nat) 1 = 16 * l.val := rfl
    have s0 : S1x16.size 0 = 1 := rfl
    have s1 : S1x16.size 1 = 16 := rfl
    rw [e0, s0] at h0
    rw [e1, s1] at h1
    have key : (Rect.unitLocal (s := S48x128) (off := ![r.val, 16 * l.val]) (size := S1x16.size) j hin)
        = (ix2 (0 : Fin 1) (⟨(j 1).val - 16 * l.val, by omega⟩ : Fin 16) : S1x16.Idx) := by
      funext a
      refine Fin.ext ?_
      match a with
      | ⟨0, _⟩ => show (j 0).val - r.val = 0; omega
      | ⟨1, _⟩ => rfl
    rw [key]
    refine (shapeCast_a_1a_apply v shapeCasts_S16_S1x16 (0 : Fin 1) _).trans ((hv _).trans (congrArg G ?_))
    funext a
    refine Fin.ext ?_
    match a with
    | ⟨0, _⟩ => show r.val = (j 0).val; omega
    | ⟨1, _⟩ => show 16 * l.val + ((j 1).val - 16 * l.val) = (j 1).val; omega
  · rename_i hin
    refine h j ?_
    by_contra hlt
    refine hin fun a => ?_
    match a with
    | ⟨0, _⟩ => show r.val ≤ (j 0).val ∧ (j 0).val < r.val + 1; omega
    | ⟨1, _⟩ => show 16 * l.val ≤ (j 1).val ∧ (j 1).val < 16 * l.val + 16; omega

/-! ## One chunk -/

section Chunk

variable (d : Dev nD) (c : Fin τ.nSC) (t : Fin τ.nSub)

/-- The tile holds a buffer of its own whose contents satisfy `P`. -/
def Held {sp : Space} {s : Shape} {e : EltTy} (m : Memref sig .scVector sp s e) (P : (s.Idx → Elt F e) → Prop) : sProp (MM F) :=
  iprop(∃ f : Buf (Elt F) (m.view.loc (V d c t)), ⌜P (m.view.read (Elt F) f)⌝ ∗ (m.view.loc (V d c t) ↦{fullShare} f))

variable (arg10 : Memref sig .scVector .vmem S48x128 .i32) (arg11 : Memref sig .scVector .vmem S48x128 .i32)
    (arg12 : Memref sig .scVector .vmem S48x128 .i32) (arg13 : Memref sig .scVector .vmem S48x128 .f32)
    (arg14 : Memref sig .scVector .vmem S1024 .i32) (arg15 : Memref sig .scVector .vmem S1024 .f32)
    (arg16 : Memref sig .scVector .vmem S1024 .f32) (arg17 : Memref sig .scVector .vmem S1024 .f32)
    (IX CT : S48x128.Idx → BitVec 32) (Z : S1024.Idx → BitVec 32) (X Y W : S1024.Idx → F .f32)

/-- The tile's eight buffers after `n` chunks. -/
def St [FloatOps F] (n : Nat) : sProp (MM F) :=
  iprop(Held d c t arg10 (fun g => g = IX) ∗ Held d c t arg11 (fun g => g = CT) ∗ Held d c t arg14 (fun g => g = Z)
    ∗ Held d c t arg15 (fun g => g = X) ∗ Held d c t arg16 (fun g => g = Y) ∗ Held d c t arg17 (fun g => g = W)
    ∗ Held d c t arg12 (Agrees n (zVal IX Z)) ∗ Held d c t arg13 (Agrees n (dVal IX CT X Y W)))

variable [FloatOps F] [Named F]

/-- A gather at sixteen in-range indices is `pick` at each. -/
theorem gather_eq {e : EltTy} (m : Memref sig .scVector .vmem S1024 e) (f : m.view.ty.Contents (Elt F)) (Z : S1024.Idx → Elt F e)
    (hf : m.view.read (Elt F) f = Z) (iv : IVec S16 32) (h : ∀ a x, ((![iv] : Fin 1 → IVec S16 32) a x).toNat < S1024.size a) (x : Fin 16)
    (G : Fin 16 → BitVec 32) (hv : ∀ x, iv (ix1 x) = G x) :
    (loadIdx (m.view.readAt (Elt F) (LoadRect.whole S1024) f) ![iv] h : Vec F S16 e) (ix1 x) = pick Z (G x) := by
  rw [← hv x]
  subst hf
  show m.view.read (Elt F) f _ = m.view.read (Elt F) f _
  congr 1
  funext a
  refine Fin.ext ?_
  have hx := h 0 (ix1 x)
  have hx' : (iv (ix1 x)).toNat < 1024 := hx
  match a with
  | ⟨0, _⟩ => show 0 + 1 * (iv (ix1 x)).toNat = (iv (ix1 x)).toNat % 1024; omega

set_option maxHeartbeats 1000000 in set_option pp.maxSteps 150 in set_option pp.deepTerms false in
theorem wp_chunk (hIX : ∀ j, (IX j).toNat < 1024) (hCT : ∀ j, (CT j).toNat < 1024) (r : Fin 48) (l : Fin 8) {n : Nat} (hn : n = 8 * r.val + l.val)
    {offa offb offc : Fin 2 → Nat} (ea : offa = ![r.val, 16 * l.val]) (eb : offb = ![r.val, 16 * l.val]) (ec : offc = ![r.val, 16 * l.val])
    (ha : ∀ a, offa a + S1x16.size a ≤ S48x128.size a) (hb : ∀ a, offb a + S1x16.size a ≤ S48x128.size a) (hc : ∀ a, offc a + S1x16.size a ≤ S48x128.size a) :
    St d c t arg10 arg11 arg12 arg13 arg14 arg15 arg16 arg17 IX CT Z X Y W n
      ⊢ wp frame (wpE (defs₀ (F := F)) 𝒱₀ (V d c t) none) Set.univ
          (chunk c t arg10 arg11 arg12 arg13 arg14 arg15 arg16 arg17 offa offb offc ha hb hc)
          fun _ => St d c t arg10 arg11 arg12 arg13 arg14 arg15 arg16 arg17 IX CT Z X Y W (n + 1) := by
  unfold chunk
  simp only [SparseCore.vectorLoadIdx, Prog.bind_lift, Prog.bind_op, Prog.bind_ret]
  unfold St Held
  iintro ⟨⟨%f10, %h10, H10⟩, ⟨%f11, %h11, H11⟩, ⟨%f14, %h14, H14⟩, ⟨%f15, %h15, H15⟩, ⟨%f16, %h16, H16⟩, ⟨%f17, %h17, H17⟩, ⟨%f12, %h12, H12⟩, ⟨%f13, %h13, H13⟩⟩
  have hiv : ∀ x : Fin 16, shapeCast S16 (arg10.view.readAt (Elt F) (Rect.unit (s := S48x128) offa S1x16.size ha).toLoadRect f10) shapeCasts_S1x16_S16 (ix1 x) = IX (cell r l x) := fun x => by
    rw [lane_eq arg10 f10 r l ea ha x, h10]
  have hcv : ∀ x : Fin 16, shapeCast S16 (arg11.view.readAt (Elt F) (Rect.unit (s := S48x128) offb S1x16.size hb).toLoadRect f11) shapeCasts_S1x16_S16 (ix1 x) = CT (cell r l x) := fun x => by
    rw [lane_eq arg11 f11 r l eb hb x, h11]
  have hok : ∀ (v : IVec S16 32) (G : S48x128.Idx → BitVec 32), (∀ j, (G j).toNat < 1024) → (∀ x : Fin 16, v (ix1 x) = G (cell r l x)) →
      ∀ (a : Fin 1) (x : S16.Idx), ((![v] : Fin 1 → IVec S16 32) a x).toNat < S1024.size a := fun v G hG hv a x => by
    have hx : x = ix1 (x 0) := by funext a; match a with | ⟨0, _⟩ => rfl
    match a with
    | ⟨0, _⟩ => exact (congrArg (fun y => (v y).toNat < 1024) hx).mpr ((congrArg (fun w : BitVec 32 => w.toNat < 1024) (hv (x 0))).mpr (hG _))
  have hk1 := hok _ IX hIX hiv
  have hk2 := hok _ CT hCT hcv
  iapply (wp_load 𝒱₀ (V d c t) none Set.univ (m := arg10) (S := Finset.univ) (Finset.subset_univ _)) $$ H10; iintro H10
  iapply (wp_assume 𝒱₀ (V d c t) none Set.univ (show k0_chk1 _ from ⟨hk1, hk1, hk1, hk1⟩))
  iapply (wp_load 𝒱₀ (V d c t) none Set.univ (m := arg14) (S := Finset.univ) (Finset.subset_univ _)) $$ H14; iintro H14
  iapply (wp_load 𝒱₀ (V d c t) none Set.univ (m := arg12) (S := Finset.univ) (Finset.subset_univ _)) $$ H12; iintro H12
  iapply (wp_store_writes₀ 𝒱₀ (V d c t) none Set.univ (m := arg12) (r := Rect.unit (s := S48x128) offb S1x16.size hb) (S := Finset.univ) (Finset.subset_univ _)) $$ H12; iintro H12
  iapply (wp_load 𝒱₀ (V d c t) none Set.univ (m := arg15) (S := Finset.univ) (Finset.subset_univ _)) $$ H15; iintro H15
  iapply (wp_load 𝒱₀ (V d c t) none Set.univ (m := arg16) (S := Finset.univ) (Finset.subset_univ _)) $$ H16; iintro H16
  iapply (wp_load 𝒱₀ (V d c t) none Set.univ (m := arg17) (S := Finset.univ) (Finset.subset_univ _)) $$ H17; iintro H17
  iapply (wp_load 𝒱₀ (V d c t) none Set.univ (m := arg11) (S := Finset.univ) (Finset.subset_univ _)) $$ H11; iintro H11
  iapply (wp_assume 𝒱₀ (V d c t) none Set.univ (show k0_chk2 _ from ⟨hk2, hk2, hk2⟩))
  iapply (wp_load 𝒱₀ (V d c t) none Set.univ (m := arg15) (S := Finset.univ) (Finset.subset_univ _)) $$ H15; iintro H15
  iapply (wp_load 𝒱₀ (V d c t) none Set.univ (m := arg16) (S := Finset.univ) (Finset.subset_univ _)) $$ H16; iintro H16
  iapply (wp_load 𝒱₀ (V d c t) none Set.univ (m := arg17) (S := Finset.univ) (Finset.subset_univ _)) $$ H17; iintro H17
  iapply (wp_load 𝒱₀ (V d c t) none Set.univ (m := arg13) (S := Finset.univ) (Finset.subset_univ _)) $$ H13; iintro H13
  iapply (wp_store_writes₀ 𝒱₀ (V d c t) none Set.univ (m := arg13) (r := Rect.unit (s := S48x128) offc S1x16.size hc) (S := Finset.univ) (Finset.subset_univ _)) $$ H13; iintro H13
  sl_step
  isplitl [H10]; · iexists f10; isplitr; · ipureintro; exact h10
                   iexact H10
  isplitl [H11]; · iexists f11; isplitr; · ipureintro; exact h11
                   iexact H11
  isplitl [H14]; · iexists f14; isplitr; · ipureintro; exact h14
                   iexact H14
  isplitl [H15]; · iexists f15; isplitr; · ipureintro; exact h15
                   iexact H15
  isplitl [H16]; · iexists f16; isplitr; · ipureintro; exact h16
                   iexact H16
  isplitl [H17]; · iexists f17; isplitr; · ipureintro; exact h17
                   iexact H17
  isplitl [H12]
  · iexists _; isplitr; swap; · iexact H12
    · ipureintro
      refine agrees_step arg12 f12 r l eb hb _ (zVal IX Z) (fun x => ?_) hn h12
      exact gather_eq arg14 f14 Z h14 _ _ x (fun x => IX (cell r l x)) hiv
  · iexists _; isplitr; swap; · iexact H13
    · ipureintro
      refine agrees_step arg13 f13 r l ec hc _ (dVal IX CT X Y W) (fun x => ?_) hn h13
      exact dist1_congr (gather_eq arg15 f15 X h15 _ _ x _ hiv) (gather_eq arg16 f16 Y h16 _ _ x _ hiv) (gather_eq arg17 f17 W h17 _ _ x _ hiv)
        (gather_eq arg15 f15 X h15 _ _ x _ hcv) (gather_eq arg16 f16 Y h16 _ _ x _ hcv) (gather_eq arg17 f17 W h17 _ _ x _ hcv)

end Chunk

end Cert.Proof

end
-- ==== Proof.Task.lean ====
/- The tile's whole task: its eight copies and its loop. -/
module

public import proofs.«01_k».proof.Proof.Tile

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

section Task

variable (d : Dev nD) (i : grid0.Coords) (arg10 : Memref sig .scVector .vmem S48x128 .i32) (arg11 : Memref sig .scVector .vmem S48x128 .i32)
    (arg12 : Memref sig .scVector .vmem S48x128 .i32) (arg13 : Memref sig .scVector .vmem S48x128 .f32)
    (arg14 : Memref sig .scVector .vmem S1024 .i32) (arg15 : Memref sig .scVector .vmem S1024 .f32)
    (arg16 : Memref sig .scVector .vmem S1024 .f32) (arg17 : Memref sig .scVector .vmem S1024 .f32)
    (IX CT : S48x128.Idx → BitVec 32) (Z : S1024.Idx → BitVec 32) (X Y W : S1024.Idx → F .f32)

/-- The tile's thread. -/
abbrev thr (d : Dev nD) (i : grid0.Coords) : Thread nD τ := V d ((i 0).castLE hcore0) ((i 1).castLE hsub0)

/-- One row of a (32, 48, 128) array, and one of a (4, 1024) array: the tile's. -/
abbrev rowA {e : EltTy} (m : Memref sig .scVector .hbm S32x48x128 e) (i : grid0.Coords) : Memref sig .scVector .hbm S48x128 e :=
  (m.slice (Rect.unit (s := S32x48x128) (k0_off1 i) S1x48x128.size (k0_off1_inb i)) (fun _ => rfl)).squeeze S48x128 squeezes_S1x48x128_S48x128
abbrev rowB {e : EltTy} (m : Memref sig .scVector .hbm S4x1024 e) (i : grid0.Coords) : Memref sig .scVector .hbm S1024 e :=
  (m.slice (Rect.unit (s := S4x1024) (k0_off2 i) S1x1024.size (k0_off2_inb i)) (fun _ => rfl)).squeeze S1024 squeezes_S1x1024_S1024

/-- The invariant after `n` chunks, at the tile. -/
abbrev Inv (n : Nat) : sProp (MM F) :=
  St d ((i 0).castLE hcore0) ((i 1).castLE hsub0) arg10 arg11 arg12 arg13 arg14 arg15 arg16 arg17 IX CT Z X Y W n

/-- No chunk yet: nothing to agree on; all chunks: the whole array. -/
theorem agrees_zero {α : Type} (f g : S48x128.Idx → α) : Agrees 0 f g := by
  intro j hj
  exact absurd hj (by omega)
theorem agrees_all {α : Type} {f g : S48x128.Idx → α} (h : Agrees (8 * k0_t1_loop.trips) f g) : g = f := by
  have ht : k0_t1_loop.trips = 48 := by decide
  funext j
  have hj0 : (j 0).val < 48 := (j 0).isLt
  have hj1 : (j 1).val < 128 := (j 1).isLt
  exact h j (by omega)

/-- Two programs in sequence, the invariant between them. -/
theorem wp_then {c : Thread nD τ} {P P' : sProp (MM F)} {p q : Prog (TpuEff nD τ sig (Elt F) Λ₀ c.2) PUnit} {Q : PUnit → sProp (MM F)}
    (hp : P ⊢ wp frame (wpE (defs₀ (F := F)) 𝒱₀ c none) Set.univ p fun _ => P')
    (hq : P' ⊢ wp frame (wpE (defs₀ (F := F)) 𝒱₀ c none) Set.univ q Q) :
    P ⊢ wp frame (wpE (defs₀ (F := F)) 𝒱₀ c none) Set.univ (p >>= fun _ => q) Q := by
  rw [wp_bind]
  exact hp.trans (wp_mono _ _ _ fun _ => hq)

end Task

set_option maxHeartbeats 1000000 in
/-- One trip of the loop: eight chunks. -/
theorem wp_trip (d : Dev nD) (i : grid0.Coords) (arg2 : Memref sig .scVector .hbm S32x48x128 .i32) (harg2 : arg2.IsWhole) (arg3 : Memref sig .scVector .hbm S32x48x128 .i32) (harg3 : arg3.IsWhole) (arg4 : Memref sig .scVector .hbm S4x1024 .i32) (harg4 : arg4.IsWhole) (arg5 : Memref sig .scVector .hbm S4x1024 .f32) (harg5 : arg5.IsWhole) (arg6 : Memref sig .scVector .hbm S4x1024 .f32) (harg6 : arg6.IsWhole) (arg7 : Memref sig .scVector .hbm S4x1024 .f32) (harg7 : arg7.IsWhole) (arg8 : Memref sig .scVector .hbm S32x48x128 .i32) (harg8 : arg8.IsWhole) (arg9 : Memref sig .scVector .hbm S32x48x128 .f32) (harg9 : arg9.IsWhole) (arg10 : Memref sig .scVector .vmem S48x128 .i32) (harg10 : arg10.IsWhole) (arg11 : Memref sig .scVector .vmem S48x128 .i32) (harg11 : arg11.IsWhole) (arg12 : Memref sig .scVector .vmem S48x128 .i32) (harg12 : arg12.IsWhole) (arg13 : Memref sig .scVector .vmem S48x128 .f32) (harg13 : arg13.IsWhole) (arg14 : Memref sig .scVector .vmem S1024 .i32) (harg14 : arg14.IsWhole) (arg15 : Memref sig .scVector .vmem S1024 .f32) (harg15 : arg15.IsWhole) (arg16 : Memref sig .scVector .vmem S1024 .f32) (harg16 : arg16.IsWhole) (arg17 : Memref sig .scVector .vmem S1024 .f32) (harg17 : arg17.IsWhole) (v20_r0 : DmaSems sig S_) (v20_r1 : DmaSems sig S_) (v20_r2 : DmaSems sig S_) (v20_r3 : DmaSems sig S_) (v20_r4 : DmaSems sig S_) (v20_r5 : DmaSems sig S_) (v20_r6 : DmaSems sig S_) (v20_r7 : DmaSems sig S_)
    (IX CT : S48x128.Idx → BitVec 32) (Z : S1024.Idx → BitVec 32) (X Y W : S1024.Idx → F .f32)
    (hIX : ∀ j, (IX j).toNat < 1024) (hCT : ∀ j, (CT j).toNat < 1024) (t : Fin k0_t1_loop.trips) (u : Unit) :
    Inv d i arg10 arg11 arg12 arg13 arg14 arg15 arg16 arg17 IX CT Z X Y W (8 * t.val)
      ⊢ wp frame (wpE (defs₀ (F := F)) 𝒱₀ (thr d i) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20_r0 v20_r1 v20_r2 v20_r3 v20_r4 v20_r5 v20_r6 v20_r7 t u)
          fun _ => Inv d i arg10 arg11 arg12 arg13 arg14 arg15 arg16 arg17 IX CT Z X Y W (8 * (t.val + 1)) := by
  rw [trip_eq]
  have ht : t.val < 48 := t.isLt
  refine wp_then (wp_chunk d _ _ arg10 arg11 arg12 arg13 arg14 arg15 arg16 arg17 IX CT Z X Y W hIX hCT (⟨t.val, ht⟩ : Fin 48) (0 : Fin 8) (n := 8 * t.val + 0) rfl ((k0_off3_eq t).trans rfl) ((k0_off4_eq t).trans rfl) ((k0_off5_eq t).trans rfl) _ _ _) ?_
  refine wp_then (wp_chunk d _ _ arg10 arg11 arg12 arg13 arg14 arg15 arg16 arg17 IX CT Z X Y W hIX hCT (⟨t.val, ht⟩ : Fin 48) (1 : Fin 8) (n := 8 * t.val + 1) rfl ((k0_off6_eq t).trans rfl) ((k0_off7_eq t).trans rfl) ((k0_off8_eq t).trans rfl) _ _ _) ?_
  refine wp_then (wp_chunk d _ _ arg10 arg11 arg12 arg13 arg14 arg15 arg16 arg17 IX CT Z X Y W hIX hCT (⟨t.val, ht⟩ : Fin 48) (2 : Fin 8) (n := 8 * t.val + 2) rfl ((k0_off9_eq t).trans rfl) ((k0_off10_eq t).trans rfl) ((k0_off11_eq t).trans rfl) _ _ _) ?_
  refine wp_then (wp_chunk d _ _ arg10 arg11 arg12 arg13 arg14 arg15 arg16 arg17 IX CT Z X Y W hIX hCT (⟨t.val, ht⟩ : Fin 48) (3 : Fin 8) (n := 8 * t.val + 3) rfl ((k0_off12_eq t).trans rfl) ((k0_off13_eq t).trans rfl) ((k0_off14_eq t).trans rfl) _ _ _) ?_
  refine wp_then (wp_chunk d _ _ arg10 arg11 arg12 arg13 arg14 arg15 arg16 arg17 IX CT Z X Y W hIX hCT (⟨t.val, ht⟩ : Fin 48) (4 : Fin 8) (n := 8 * t.val + 4) rfl ((k0_off15_eq t).trans rfl) ((k0_off16_eq t).trans rfl) ((k0_off17_eq t).trans rfl) _ _ _) ?_
  refine wp_then (wp_chunk d _ _ arg10 arg11 arg12 arg13 arg14 arg15 arg16 arg17 IX CT Z X Y W hIX hCT (⟨t.val, ht⟩ : Fin 48) (5 : Fin 8) (n := 8 * t.val + 5) rfl ((k0_off18_eq t).trans rfl) ((k0_off19_eq t).trans rfl) ((k0_off20_eq t).trans rfl) _ _ _) ?_
  refine wp_then (wp_chunk d _ _ arg10 arg11 arg12 arg13 arg14 arg15 arg16 arg17 IX CT Z X Y W hIX hCT (⟨t.val, ht⟩ : Fin 48) (6 : Fin 8) (n := 8 * t.val + 6) rfl ((k0_off21_eq t).trans rfl) ((k0_off22_eq t).trans rfl) ((k0_off23_eq t).trans rfl) _ _ _) ?_
  exact (wp_chunk d _ _ arg10 arg11 arg12 arg13 arg14 arg15 arg16 arg17 IX CT Z X Y W hIX hCT (⟨t.val, ht⟩ : Fin 48) (7 : Fin 8) (n := 8 * t.val + 7) rfl ((k0_off24_eq t).trans rfl) ((k0_off25_eq t).trans rfl) ((k0_off26_eq t).trans rfl) _ _ _)

set_option maxHeartbeats 2000000 in
/-- The task: the six rows in, forty-eight trips, the two rows out. -/
theorem wp_task (d : Dev nD) (i : grid0.Coords) (arg2 : Memref sig .scVector .hbm S32x48x128 .i32) (harg2 : arg2.IsWhole) (arg3 : Memref sig .scVector .hbm S32x48x128 .i32) (harg3 : arg3.IsWhole) (arg4 : Memref sig .scVector .hbm S4x1024 .i32) (harg4 : arg4.IsWhole) (arg5 : Memref sig .scVector .hbm S4x1024 .f32) (harg5 : arg5.IsWhole) (arg6 : Memref sig .scVector .hbm S4x1024 .f32) (harg6 : arg6.IsWhole) (arg7 : Memref sig .scVector .hbm S4x1024 .f32) (harg7 : arg7.IsWhole) (arg8 : Memref sig .scVector .hbm S32x48x128 .i32) (harg8 : arg8.IsWhole) (arg9 : Memref sig .scVector .hbm S32x48x128 .f32) (harg9 : arg9.IsWhole) (arg10 : Memref sig .scVector .vmem S48x128 .i32) (harg10 : arg10.IsWhole) (arg11 : Memref sig .scVector .vmem S48x128 .i32) (harg11 : arg11.IsWhole) (arg12 : Memref sig .scVector .vmem S48x128 .i32) (harg12 : arg12.IsWhole) (arg13 : Memref sig .scVector .vmem S48x128 .f32) (harg13 : arg13.IsWhole) (arg14 : Memref sig .scVector .vmem S1024 .i32) (harg14 : arg14.IsWhole) (arg15 : Memref sig .scVector .vmem S1024 .f32) (harg15 : arg15.IsWhole) (arg16 : Memref sig .scVector .vmem S1024 .f32) (harg16 : arg16.IsWhole) (arg17 : Memref sig .scVector .vmem S1024 .f32) (harg17 : arg17.IsWhole) (v20_r0 : DmaSems sig S_) (v20_r1 : DmaSems sig S_) (v20_r2 : DmaSems sig S_) (v20_r3 : DmaSems sig S_) (v20_r4 : DmaSems sig S_) (v20_r5 : DmaSems sig S_) (v20_r6 : DmaSems sig S_) (v20_r7 : DmaSems sig S_)
    (O : CellTallies nD τ sig (HIx 2)) (W : Waits sig (HIx 2))
    (q2 q3 q4 q5 q6 q7 : PosShare TreeShare)
    (f2 : Buf (Elt F) ((rowA arg2 i).view.loc (thr d i))) (f3 : Buf (Elt F) ((rowA arg3 i).view.loc (thr d i))) (f4 : Buf (Elt F) ((rowB arg4 i).view.loc (thr d i))) (f5 : Buf (Elt F) ((rowB arg5 i).view.loc (thr d i))) (f6 : Buf (Elt F) ((rowB arg6 i).view.loc (thr d i))) (f7 : Buf (Elt F) ((rowB arg7 i).view.loc (thr d i))) (f8 : Buf (Elt F) ((rowA arg8 i).view.loc (thr d i))) (f9 : Buf (Elt F) ((rowA arg9 i).view.loc (thr d i)))
    (hIX : ∀ j, ((rowA arg2 i).view.read (Elt F) f2 j).toNat < 1024) (hCT : ∀ j, ((rowA arg3 i).view.read (Elt F) f3 j).toNat < 1024) :
    (iprop(Transfers.MayWaits (thr d i) (default : HIx 2) O
        ∗ (((rowA arg2 i).view.loc (thr d i) ↦[(rowA arg2 i).view.set]{q2} f2) ∗ ((rowA arg3 i).view.loc (thr d i) ↦[(rowA arg3 i).view.set]{q3} f3) ∗ ((rowB arg4 i).view.loc (thr d i) ↦[(rowB arg4 i).view.set]{q4} f4) ∗ ((rowB arg5 i).view.loc (thr d i) ↦[(rowB arg5 i).view.set]{q5} f5) ∗ ((rowB arg6 i).view.loc (thr d i) ↦[(rowB arg6 i).view.set]{q6} f6) ∗ ((rowB arg7 i).view.loc (thr d i) ↦[(rowB arg7 i).view.set]{q7} f7))
        ∗ (((rowA arg8 i).view.loc (thr d i) ↦[(rowA arg8 i).view.set]{fullShare} f8) ∗ ((rowA arg9 i).view.loc (thr d i) ↦[(rowA arg9 i).view.set]{fullShare} f9))
        ∗ ((∃ f : Buf (Elt F) (arg10.view.loc (thr d i)), arg10.view.loc (thr d i) ↦{fullShare} f) ∗ (∃ f : Buf (Elt F) (arg11.view.loc (thr d i)), arg11.view.loc (thr d i) ↦{fullShare} f) ∗ (∃ f : Buf (Elt F) (arg12.view.loc (thr d i)), arg12.view.loc (thr d i) ↦{fullShare} f) ∗ (∃ f : Buf (Elt F) (arg13.view.loc (thr d i)), arg13.view.loc (thr d i) ↦{fullShare} f) ∗ (∃ f : Buf (Elt F) (arg14.view.loc (thr d i)), arg14.view.loc (thr d i) ↦{fullShare} f) ∗ (∃ f : Buf (Elt F) (arg15.view.loc (thr d i)), arg15.view.loc (thr d i) ↦{fullShare} f) ∗ (∃ f : Buf (Elt F) (arg16.view.loc (thr d i)), arg16.view.loc (thr d i) ↦{fullShare} f) ∗ (∃ f : Buf (Elt F) (arg17.view.loc (thr d i)), arg17.view.loc (thr d i) ↦{fullShare} f))
        ∗ (semVal (thr d i, SemLoc.dma v20_r0.sem) 0 ∗ semVal (thr d i, SemLoc.dma v20_r1.sem) 0 ∗ semVal (thr d i, SemLoc.dma v20_r2.sem) 0 ∗ semVal (thr d i, SemLoc.dma v20_r3.sem) 0 ∗ semVal (thr d i, SemLoc.dma v20_r4.sem) 0 ∗ semVal (thr d i, SemLoc.dma v20_r5.sem) 0 ∗ semVal (thr d i, SemLoc.dma v20_r6.sem) 0 ∗ semVal (thr d i, SemLoc.dma v20_r7.sem) 0)
        ∗ owes (thr d i) O W) : sProp (MM F))
      ⊢ wp frame (wpE (defs₀ (F := F)) 𝒱₀ (thr d i) none) Set.univ (cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20_r0 v20_r1 v20_r2 v20_r3 v20_r4 v20_r5 v20_r6 v20_r7)
        fun _ => iprop((((rowA arg2 i).view.loc (thr d i) ↦[(rowA arg2 i).view.set]{q2} f2) ∗ ((rowA arg3 i).view.loc (thr d i) ↦[(rowA arg3 i).view.set]{q3} f3) ∗ ((rowB arg4 i).view.loc (thr d i) ↦[(rowB arg4 i).view.set]{q4} f4) ∗ ((rowB arg5 i).view.loc (thr d i) ↦[(rowB arg5 i).view.set]{q5} f5) ∗ ((rowB arg6 i).view.loc (thr d i) ↦[(rowB arg6 i).view.set]{q6} f6) ∗ ((rowB arg7 i).view.loc (thr d i) ↦[(rowB arg7 i).view.set]{q7} f7))
        ∗ ((∃ g : Buf (Elt F) ((rowA arg8 i).view.loc (thr d i)), ⌜(rowA arg8 i).view.read (Elt F) g = zVal ((rowA arg2 i).view.read (Elt F) f2) ((rowB arg4 i).view.read (Elt F) f4)⌝ ∗ ((rowA arg8 i).view.loc (thr d i) ↦[(rowA arg8 i).view.set]{fullShare} g))
          ∗ (∃ g : Buf (Elt F) ((rowA arg9 i).view.loc (thr d i)), ⌜(rowA arg9 i).view.read (Elt F) g = dVal ((rowA arg2 i).view.read (Elt F) f2) ((rowA arg3 i).view.read (Elt F) f3) ((rowB arg5 i).view.read (Elt F) f5) ((rowB arg6 i).view.read (Elt F) f6) ((rowB arg7 i).view.read (Elt F) f7)⌝ ∗ ((rowA arg9 i).view.loc (thr d i) ↦[(rowA arg9 i).view.set]{fullShare} g)))
        ∗ ((∃ f : Buf (Elt F) (arg10.view.loc (thr d i)), arg10.view.loc (thr d i) ↦{fullShare} f) ∗ (∃ f : Buf (Elt F) (arg11.view.loc (thr d i)), arg11.view.loc (thr d i) ↦{fullShare} f) ∗ (∃ f : Buf (Elt F) (arg12.view.loc (thr d i)), arg12.view.loc (thr d i) ↦{fullShare} f) ∗ (∃ f : Buf (Elt F) (arg13.view.loc (thr d i)), arg13.view.loc (thr d i) ↦{fullShare} f) ∗ (∃ f : Buf (Elt F) (arg14.view.loc (thr d i)), arg14.view.loc (thr d i) ↦{fullShare} f) ∗ (∃ f : Buf (Elt F) (arg15.view.loc (thr d i)), arg15.view.loc (thr d i) ↦{fullShare} f) ∗ (∃ f : Buf (Elt F) (arg16.view.loc (thr d i)), arg16.view.loc (thr d i) ↦{fullShare} f) ∗ (∃ f : Buf (Elt F) (arg17.view.loc (thr d i)), arg17.view.loc (thr d i) ↦{fullShare} f))
        ∗ (semVal (thr d i, SemLoc.dma v20_r0.sem) 0 ∗ semVal (thr d i, SemLoc.dma v20_r1.sem) 0 ∗ semVal (thr d i, SemLoc.dma v20_r2.sem) 0 ∗ semVal (thr d i, SemLoc.dma v20_r3.sem) 0 ∗ semVal (thr d i, SemLoc.dma v20_r4.sem) 0 ∗ semVal (thr d i, SemLoc.dma v20_r5.sem) 0 ∗ semVal (thr d i, SemLoc.dma v20_r6.sem) 0 ∗ semVal (thr d i, SemLoc.dma v20_r7.sem) 0)
        ∗ ∃ W', ⌜∀ p ∈ W', p ∈ W ∨ p.2 = none⌝ ∗ owes (thr d i) O W') := by
  iintro ⟨#Hmw, ⟨H2, H3, H4, H5, H6, H7⟩, ⟨H8, H9⟩, ⟨⟨%f10, H10⟩, ⟨%f11, H11⟩, ⟨%f12, H12⟩, ⟨%f13, H13⟩, ⟨%f14, H14⟩, ⟨%f15, H15⟩, ⟨%f16, H16⟩, ⟨%f17, H17⟩⟩, ⟨S0, S1, S2, S3, S4, S5, S6, S7⟩, HO⟩
  rw [cc0__sc_body_eq_skeleton]; unfold cc0__sc_body_skel; rw [k0_part5_eq_skeleton, k0_part6_eq_skeleton]; unfold k0_part5_skel k0_part6_skel
  sl_exec (disch := first | exact View.amount_pos _ _ (show 0 < S48x128.numel by decide) | exact View.amount_pos _ _ (show 0 < S1024.numel by decide))
  sl_for (fun n _ => Inv d i arg10 arg11 arg12 arg13 arg14 arg15 arg16 arg17 ((rowA arg2 i).view.read (Elt F) f2) ((rowA arg3 i).view.read (Elt F) f3) ((rowB arg4 i).view.read (Elt F) f4) ((rowB arg5 i).view.read (Elt F) f5) ((rowB arg6 i).view.read (Elt F) f6) ((rowB arg7 i).view.read (Elt F) f7) (8 * n)) $$ [H10 H11 H12 H13 H14 H15 H16 H17]
  case region =>
    intro t u
    exact wp_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20_r0 v20_r1 v20_r2 v20_r3 v20_r4 v20_r5 v20_r6 v20_r7 _ _ _ _ _ _ hIX hCT t u
  · unfold Inv St Held
    isplitl [H10]
    · iexists _; isplitr; swap; · iexact H10
      ipureintro; exact View.read_write_univ ..
    isplitl [H11]
    · iexists _; isplitr; swap; · iexact H11
      ipureintro; exact View.read_write_univ ..
    isplitl [H14]
    · iexists _; isplitr; swap; · iexact H14
      ipureintro; exact View.read_write_univ ..
    isplitl [H15]
    · iexists _; isplitr; swap; · iexact H15
      ipureintro; exact View.read_write_univ ..
    isplitl [H16]
    · iexists _; isplitr; swap; · iexact H16
      ipureintro; exact View.read_write_univ ..
    isplitl [H17]
    · iexists _; isplitr; swap; · iexact H17
      ipureintro; exact View.read_write_univ ..
    isplitl [H12]
    · iexists _; isplitr; swap; · iexact H12
      ipureintro; exact agrees_zero _ _
    · iexists _; isplitr; swap; · iexact H13
      ipureintro; exact agrees_zero _ _
  unfold Inv St Held
  iintro %_ ⟨⟨%g10, %h10, H10⟩, ⟨%g11, %h11, H11⟩, ⟨%g14, %h14, H14⟩, ⟨%g15, %h15, H15⟩, ⟨%g16, %h16, H16⟩, ⟨%g17, %h17, H17⟩, ⟨%g12, %h12, H12⟩, ⟨%g13, %h13, H13⟩⟩
  have e12 := agrees_all h12
  have e13 := agrees_all h13
  sl_exec (disch := first | exact View.amount_pos _ _ (show 0 < S48x128.numel by decide) | exact View.amount_pos _ _ (show 0 < S1024.numel by decide))
  sl_step
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9]
  · isplitl [H8]
    · iexists _; isplitr; swap; · iexact H8
      ipureintro; exact (View.read_writes_whole ..).trans e12
    · iexists _; isplitr; swap; · iexact H9
      ipureintro; exact (View.read_writes_whole ..).trans e13
  isplitl [H10 H11 H12 H13 H14 H15 H16 H17]
  · isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexists _; isplitr; swap; · iexact HO
  ipureintro
  intro p hp
  simp only [Finset.mem_insert] at hp
  rcases hp with rfl | rfl | rfl | rfl | rfl | rfl | rfl | rfl | hp
  all_goals first | exact Or.inr rfl | exact Or.inl hp

end Cert.Proof

end
-- ==== Proof.Call.lean ====
/- The two SparseCore calls: what each hands its tiles and gets back, and each tile's task over it. -/
module

public import proofs.«01_k».proof.Proof.Task
public import Idealize.ShloMosaic.Lib.Pipeline.ValueKit.Geometry

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## The rows of a tile -/

/-- The tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The tile's number among the 32, and the batch it works on. -/
abbrev tileNo (i : grid0.Coords) : Nat := 2 * (i 1).val + (i 0).val

theorem tileNo_lt (i : grid0.Coords) : tileNo i < 32 := by
  have h0 : (i 0).val < 2 := (i 0).isLt
  have h1 : (i 1).val < 16 := (i 1).isLt
  show 2 * (i 1).val + (i 0).val < 32
  omega

theorem off2_all : ∀ (c : Fin 2) (s : Fin 16), k0_off2 (coordsV c s) 0 = (2 * s.val + c.val) / 8 ∧ k0_off2 (coordsV c s) 1 = 0 := by
  decide +kernel

theorem off2_eq (i : grid0.Coords) : k0_off2 i = ![tileNo i / 8, 0] := by
  have e : i = coordsV (i 0) (i 1) := by
    funext a
    match a with
    | ⟨0, _⟩ => rfl
    | ⟨1, _⟩ => rfl
  have h := off2_all (i 0) (i 1)
  rw [← e] at h
  funext a
  match a with
  | ⟨0, _⟩ => exact h.1
  | ⟨1, _⟩ => exact h.2

/-- Row `w` of a (32, 48, 128) array and row `b` of a (4, 1024) array. -/
def row3 {α : Type} (f : S32x48x128.Idx → α) (w : Fin 32) : S48x128.Idx → α := fun j => f (ix3 w (j 0) (j 1))
def row2 {α : Type} (f : S4x1024.Idx → α) (b : Fin 4) : S1024.Idx → α := fun j => f (ix2 b (j 0))

abbrev tileFin (i : grid0.Coords) : Fin 32 := ⟨tileNo i, tileNo_lt i⟩
abbrev batchFin (i : grid0.Coords) : Fin 4 := ⟨tileNo i / 8, by have := tileNo_lt i; omega⟩

theorem readA {e : EltTy} (m : Memref sig .scVector .hbm S32x48x128 e) (i : grid0.Coords) (f : m.view.ty.Contents (Elt F)) :
    (rowA m i).view.read (Elt F) f = row3 (m.view.read (Elt F) f) (tileFin i) := by
  funext j
  have hj : j = ix2 (j 0) (j 1) := by
    funext a
    match a with
    | ⟨0, _⟩ => rfl
    | ⟨1, _⟩ => rfl
  rw [Memref.read_squeeze_slice m _ _ squeezes_S1x48x128_S48x128 (show S1x48x128.ShapeCasts S48x128 by decide) f, hj]
  refine (shapeCast_1ab_ab_apply _ _ (j 0) (j 1)).trans ?_
  show m.view.read (Elt F) f _ = m.view.read (Elt F) f _
  congr 1
  funext a
  refine Fin.ext ?_
  have e0 : k0_off1 i 0 = tileNo i := congrFun (k0_off1_eq i) 0
  have e1 : k0_off1 i 1 = 0 := congrFun (k0_off1_eq i) 1
  have e2 : k0_off1 i 2 = 0 := congrFun (k0_off1_eq i) 2
  match a with
  | ⟨0, _⟩ => show k0_off1 i 0 + 1 * 0 = tileNo i; omega
  | ⟨1, _⟩ => show k0_off1 i 1 + 1 * (j 0).val = (j 0).val; omega
  | ⟨2, _⟩ => show k0_off1 i 2 + 1 * (j 1).val = (j 1).val; omega

theorem readB {e : EltTy} (m : Memref sig .scVector .hbm S4x1024 e) (i : grid0.Coords) (f : m.view.ty.Contents (Elt F)) :
    (rowB m i).view.read (Elt F) f = row2 (m.view.read (Elt F) f) (batchFin i) := by
  funext j
  have hj : j = ix1 (j 0) := by
    funext a
    match a with
    | ⟨0, _⟩ => rfl
  rw [Memref.read_squeeze_slice m _ _ squeezes_S1x1024_S1024 (show S1x1024.ShapeCasts S1024 by decide) f, hj]
  refine (shapeCast_1a_a_apply _ _ (j 0)).trans ?_
  show m.view.read (Elt F) f _ = m.view.read (Elt F) f _
  congr 1
  funext a
  refine Fin.ext ?_
  have e0 : k0_off2 i 0 = tileNo i / 8 := congrFun (off2_eq i) 0
  have e1 : k0_off2 i 1 = 0 := congrFun (off2_eq i) 1
  match a with
  | ⟨0, _⟩ => show k0_off2 i 0 + 1 * 0 = tileNo i / 8; omega
  | ⟨1, _⟩ => show k0_off2 i 1 + 1 * (j 0).val = (j 0).val; omega

/-- The elements of the tile's row. -/
def rowSet (i : grid0.Coords) : Finset S32x48x128.Idx := (Rect.unit (s := S32x48x128) (k0_off1 i) S1x48x128.size (k0_off1_inb i)).set

theorem mem_rowSet (i : grid0.Coords) (x : S32x48x128.Idx) : x ∈ rowSet i ↔ (x 0).val = tileNo i := by
  unfold rowSet
  rw [Rect.mem_set_unit]
  have h := k0_off1_eq i
  have hx1 : (x 1).val < 48 := (x 1).isLt
  have hx2 : (x 2).val < 128 := (x 2).isLt
  have e0 : k0_off1 i 0 = tileNo i := congrFun h 0
  have e1 : k0_off1 i 1 = 0 := congrFun h 1
  have e2 : k0_off1 i 2 = 0 := congrFun h 2
  have s0 : S1x48x128.size 0 = 1 := rfl
  constructor
  · intro hh
    have := hh 0
    rw [e0, s0] at this
    omega
  · intro hh a
    match a with
    | ⟨0, _⟩ => show k0_off1 i 0 ≤ (x 0).val ∧ (x 0).val < k0_off1 i 0 + 1; rw [e0]; omega
    | ⟨1, _⟩ => show k0_off1 i 1 ≤ (x 1).val ∧ (x 1).val < k0_off1 i 1 + 48; rw [e1]; omega
    | ⟨2, _⟩ => show k0_off1 i 2 ≤ (x 2).val ∧ (x 2).val < k0_off1 i 2 + 128; rw [e2]; omega

/-- The rows of a core's tiles. -/
def coreSet (c : Fin 2) : Finset S32x48x128.Idx := Finset.univ.biUnion fun s : Fin 16 => rowSet (coordsV c s)

theorem rows_disjoint (c : Fin 2) : ∀ s ∈ (Finset.univ : Finset (Fin 16)), ∀ s' ∈ (Finset.univ : Finset (Fin 16)), s ≠ s' →
    Disjoint (rowSet (coordsV c s)) (rowSet (coordsV c s')) := by
  intro s _ s' _ hne
  rw [Finset.disjoint_left]
  intro x hx hx'
  rw [mem_rowSet] at hx hx'
  have h : 2 * s.val + c.val = 2 * s'.val + c.val := hx.symm.trans hx'
  exact hne (Fin.ext (by omega))

theorem mem_coreSet (c : Fin 2) (x : S32x48x128.Idx) : x ∈ coreSet c ↔ (x 0).val % 2 = c.val := by
  unfold coreSet
  simp only [Finset.mem_biUnion, Finset.mem_univ, true_and, mem_rowSet]
  have hx : (x 0).val < 32 := (x 0).isLt
  have hc : c.val < 2 := c.isLt
  constructor
  · rintro ⟨s, hs⟩
    have : (x 0).val = 2 * s.val + c.val := hs
    omega
  · intro h
    exact ⟨⟨(x 0).val / 2, by omega⟩, (show (x 0).val = 2 * ((x 0).val / 2) + c.val by omega)⟩

theorem cores_disjoint : ∀ c ∈ (Finset.univ : Finset (Fin 2)), ∀ c' ∈ (Finset.univ : Finset (Fin 2)), c ≠ c' → Disjoint (coreSet c) (coreSet c') := by
  intro c _ c' _ hne
  rw [Finset.disjoint_left]
  intro x hx hx'
  rw [mem_coreSet] at hx hx'
  exact hne (Fin.ext (hx.symm.trans hx'))

theorem cores_cover : (Finset.univ : Finset (Fin 2)).biUnion coreSet = Finset.univ := by
  ext x
  simp only [Finset.mem_biUnion, Finset.mem_univ, true_and, iff_true, mem_coreSet]
  exact ⟨⟨(x 0).val % 2, by omega⟩, rfl⟩

/-! ## The closed forms of a call's two results -/

/-- The call's two results: each tile's row from the tile's row of the indices and its batch's tables. -/
def zArr (IX : S32x48x128.Idx → BitVec 32) (Z : S4x1024.Idx → BitVec 32) : S32x48x128.Idx → BitVec 32 := fun j =>
  zVal (row3 IX (j 0)) (row2 Z ⟨(j 0).val / 8, by have : (j 0).val < 32 := (j 0).isLt; omega⟩) (ix2 (j 1) (j 2))
def dArr [FloatOps F] (IX CT : S32x48x128.Idx → BitVec 32) (X Y W : S4x1024.Idx → F .f32) : S32x48x128.Idx → F .f32 := fun j =>
  dVal (row3 IX (j 0)) (row3 CT (j 0)) (row2 X ⟨(j 0).val / 8, by have : (j 0).val < 32 := (j 0).isLt; omega⟩)
    (row2 Y ⟨(j 0).val / 8, by have : (j 0).val < 32 := (j 0).isLt; omega⟩)
    (row2 W ⟨(j 0).val / 8, by have : (j 0).val < 32 := (j 0).isLt; omega⟩) (ix2 (j 1) (j 2))

theorem row3_zArr (IX : S32x48x128.Idx → BitVec 32) (Z : S4x1024.Idx → BitVec 32) (i : grid0.Coords) :
    row3 (zArr IX Z) (tileFin i) = zVal (row3 IX (tileFin i)) (row2 Z (batchFin i)) := by
  funext j
  show zVal _ _ (ix2 (j 0) (j 1)) = zVal _ _ j
  congr 1
  funext a
  match a with
  | ⟨0, _⟩ => rfl
  | ⟨1, _⟩ => rfl
theorem row3_dArr [FloatOps F] (IX CT : S32x48x128.Idx → BitVec 32) (X Y W : S4x1024.Idx → F .f32) (i : grid0.Coords) :
    row3 (dArr IX CT X Y W) (tileFin i)
      = dVal (row3 IX (tileFin i)) (row3 CT (tileFin i)) (row2 X (batchFin i)) (row2 Y (batchFin i)) (row2 W (batchFin i)) := by
  funext j
  show dVal _ _ _ _ _ (ix2 (j 0) (j 1)) = dVal _ _ _ _ _ j
  congr 1
  funext a
  match a with
  | ⟨0, _⟩ => rfl
  | ⟨1, _⟩ => rfl

/-- Contents that read alike through a view agree on its elements. -/
theorem agree_on {sp : Space} {s : Shape} {e : EltTy} (m : Memref sig .scVector sp s e) (f g : m.view.ty.Contents (Elt F))
    (h : m.view.read (Elt F) f = m.view.read (Elt F) g) (i : m.view.ty.Idx) (hi : i ∈ m.view.set) : f i = g i := by
  obtain ⟨x, -, rfl⟩ := Finset.mem_map.mp hi
  have := congrFun h x
  unfold View.read at this
  simpa using this

end Cert.Proof

end
-- ==== Proof.Whole.lean ====
/- The tile's task over whole arrays: what it is lent and what it leaves, as the calls hand it. -/
module

public import proofs.«01_k».proof.Proof.Call

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- A share of a whole array lends a part of it. -/
theorem lend {ℓ : Loc nD τ sig} (I : Finset (Idx ℓ)) (s : PosShare TreeShare) (f : Buf (Elt F) ℓ) :
    (ℓ ↦{s} f : sProp (MM F)) ⊢ iprop((ℓ ↦[I]{s} f) ∗ ((ℓ ↦[I]{s} f) -∗ (ℓ ↦{s} f))) := by
  have h := (pointsTo_split_subset (Ix := HIx 2) (Val := Elt F) (Name := ℕ) (U := UU) (Lvl := ℕ) (ℓ := ℓ) (q := s) (f := f) (Finset.subset_univ I))
  iintro H
  ihave H' := h.1 $$ H
  icases H' with ⟨Ha, Hb⟩
  isplitl [Ha]; · iexact Ha
  iintro Hc
  iapply h.2
  isplitl [Hc] <;> iassumption

/-- Taking a list of distinct members out of a product over a set. -/
theorem take_list {I : Type} [DecidableEq I] {M : Type} [URA M] (Φ : I → sProp M) : ∀ (l : List I) (S : Finset I), l.Nodup → (∀ i ∈ l, i ∈ S) →
    bigSep S Φ = iprop((l.foldr (fun i P => iprop(Φ i ∗ P)) iprop(emp)) ∗ bigSep (S \ l.toFinset) Φ)
  | [], S, _, _ => by
      simp only [List.foldr_nil, List.toFinset_nil, Finset.sdiff_empty]
      exact (equiv_iff.mp BI.emp_sep).symm
  | i :: l, S, hn, hl => by
      have hi : i ∈ S := hl i List.mem_cons_self
      rw [SparseCore.bigSep_erase' hi, take_list Φ l (S.erase i) (List.nodup_cons.mp hn).2 fun j hj =>
        Finset.mem_erase.mpr ⟨fun e => (List.nodup_cons.mp hn).1 (e ▸ hj), hl j (List.mem_cons_of_mem _ hj)⟩]
      rw [List.foldr_cons, List.toFinset_cons, Finset.sdiff_insert, Finset.erase_sdiff_comm]
      exact equiv_iff.mp ⟨BI.sep_assoc', BI.sep_assoc⟩

variable [FloatOps F] [Named F]

set_option maxHeartbeats 1000000 in
/-- The task over whole arrays: the six inputs at a share, the two results' rows at the closed forms. -/
theorem wp_tile (d : Dev nD) (i : grid0.Coords) (arg2 : Memref sig .scVector .hbm S32x48x128 .i32) (harg2 : arg2.IsWhole) (arg3 : Memref sig .scVector .hbm S32x48x128 .i32) (harg3 : arg3.IsWhole) (arg4 : Memref sig .scVector .hbm S4x1024 .i32) (harg4 : arg4.IsWhole) (arg5 : Memref sig .scVector .hbm S4x1024 .f32) (harg5 : arg5.IsWhole) (arg6 : Memref sig .scVector .hbm S4x1024 .f32) (harg6 : arg6.IsWhole) (arg7 : Memref sig .scVector .hbm S4x1024 .f32) (harg7 : arg7.IsWhole) (arg8 : Memref sig .scVector .hbm S32x48x128 .i32) (harg8 : arg8.IsWhole) (arg9 : Memref sig .scVector .hbm S32x48x128 .f32) (harg9 : arg9.IsWhole) (arg10 : Memref sig .scVector .vmem S48x128 .i32) (harg10 : arg10.IsWhole) (arg11 : Memref sig .scVector .vmem S48x128 .i32) (harg11 : arg11.IsWhole) (arg12 : Memref sig .scVector .vmem S48x128 .i32) (harg12 : arg12.IsWhole) (arg13 : Memref sig .scVector .vmem S48x128 .f32) (harg13 : arg13.IsWhole) (arg14 : Memref sig .scVector .vmem S1024 .i32) (harg14 : arg14.IsWhole) (arg15 : Memref sig .scVector .vmem S1024 .f32) (harg15 : arg15.IsWhole) (arg16 : Memref sig .scVector .vmem S1024 .f32) (harg16 : arg16.IsWhole) (arg17 : Memref sig .scVector .vmem S1024 .f32) (harg17 : arg17.IsWhole) (v20_r0 : DmaSems sig S_) (v20_r1 : DmaSems sig S_) (v20_r2 : DmaSems sig S_) (v20_r3 : DmaSems sig S_) (v20_r4 : DmaSems sig S_) (v20_r5 : DmaSems sig S_) (v20_r6 : DmaSems sig S_) (v20_r7 : DmaSems sig S_)
    (O : CellTallies nD τ sig (HIx 2)) (W : Waits sig (HIx 2)) (s : PosShare TreeShare)
    (f2 : Buf (Elt F) (arg2.view.loc (thr d i))) (f3 : Buf (Elt F) (arg3.view.loc (thr d i))) (f4 : Buf (Elt F) (arg4.view.loc (thr d i))) (f5 : Buf (Elt F) (arg5.view.loc (thr d i))) (f6 : Buf (Elt F) (arg6.view.loc (thr d i))) (f7 : Buf (Elt F) (arg7.view.loc (thr d i))) (f8 : Buf (Elt F) (arg8.view.loc (thr d i))) (f9 : Buf (Elt F) (arg9.view.loc (thr d i))) (g8 : Buf (Elt F) (arg8.view.loc (thr d i))) (g9 : Buf (Elt F) (arg9.view.loc (thr d i)))
    (hIX : ∀ j, (arg2.view.read (Elt F) f2 j).toNat < 1024) (hCT : ∀ j, (arg3.view.read (Elt F) f3 j).toNat < 1024)
    (h8 : arg8.view.read (Elt F) g8 = zArr (arg2.view.read (Elt F) f2) (arg4.view.read (Elt F) f4))
    (h9 : arg9.view.read (Elt F) g9 = dArr (arg2.view.read (Elt F) f2) (arg3.view.read (Elt F) f3) (arg5.view.read (Elt F) f5) (arg6.view.read (Elt F) f6) (arg7.view.read (Elt F) f7)) :
    (iprop(Transfers.MayWaits (thr d i) (default : HIx 2) O
        ∗ ((arg2.view.loc (thr d i) ↦{s} f2) ∗ (arg3.view.loc (thr d i) ↦{s} f3) ∗ (arg4.view.loc (thr d i) ↦{s} f4) ∗ (arg5.view.loc (thr d i) ↦{s} f5) ∗ (arg6.view.loc (thr d i) ↦{s} f6) ∗ (arg7.view.loc (thr d i) ↦{s} f7))
        ∗ (((rowA arg8 i).view.loc (thr d i) ↦[(rowA arg8 i).view.set]{fullShare} f8) ∗ ((rowA arg9 i).view.loc (thr d i) ↦[(rowA arg9 i).view.set]{fullShare} f9))
        ∗ ((∃ f : Buf (Elt F) (arg10.view.loc (thr d i)), arg10.view.loc (thr d i) ↦{fullShare} f) ∗ (∃ f : Buf (Elt F) (arg11.view.loc (thr d i)), arg11.view.loc (thr d i) ↦{fullShare} f) ∗ (∃ f : Buf (Elt F) (arg12.view.loc (thr d i)), arg12.view.loc (thr d i) ↦{fullShare} f) ∗ (∃ f : Buf (Elt F) (arg13.view.loc (thr d i)), arg13.view.loc (thr d i) ↦{fullShare} f) ∗ (∃ f : Buf (Elt F) (arg14.view.loc (thr d i)), arg14.view.loc (thr d i) ↦{fullShare} f) ∗ (∃ f : Buf (Elt F) (arg15.view.loc (thr d i)), arg15.view.loc (thr d i) ↦{fullShare} f) ∗ (∃ f : Buf (Elt F) (arg16.view.loc (thr d i)), arg16.view.loc (thr d i) ↦{fullShare} f) ∗ (∃ f : Buf (Elt F) (arg17.view.loc (thr d i)), arg17.view.loc (thr d i) ↦{fullShare} f))
        ∗ (semVal (thr d i, SemLoc.dma v20_r0.sem) 0 ∗ semVal (thr d i, SemLoc.dma v20_r1.sem) 0 ∗ semVal (thr d i, SemLoc.dma v20_r2.sem) 0 ∗ semVal (thr d i, SemLoc.dma v20_r3.sem) 0 ∗ semVal (thr d i, SemLoc.dma v20_r4.sem) 0 ∗ semVal (thr d i, SemLoc.dma v20_r5.sem) 0 ∗ semVal (thr d i, SemLoc.dma v20_r6.sem) 0 ∗ semVal (thr d i, SemLoc.dma v20_r7.sem) 0)
        ∗ owes (thr d i) O W) : sProp (MM F))
      ⊢ wp frame (wpE (defs₀ (F := F)) 𝒱₀ (thr d i) none) Set.univ (cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20_r0 v20_r1 v20_r2 v20_r3 v20_r4 v20_r5 v20_r6 v20_r7)
        fun _ => iprop(((arg2.view.loc (thr d i) ↦{s} f2) ∗ (arg3.view.loc (thr d i) ↦{s} f3) ∗ (arg4.view.loc (thr d i) ↦{s} f4) ∗ (arg5.view.loc (thr d i) ↦{s} f5) ∗ (arg6.view.loc (thr d i) ↦{s} f6) ∗ (arg7.view.loc (thr d i) ↦{s} f7))
        ∗ (((rowA arg8 i).view.loc (thr d i) ↦[(rowA arg8 i).view.set]{fullShare} g8) ∗ ((rowA arg9 i).view.loc (thr d i) ↦[(rowA arg9 i).view.set]{fullShare} g9))
        ∗ ((∃ f : Buf (Elt F) (arg10.view.loc (thr d i)), arg10.view.loc (thr d i) ↦{fullShare} f) ∗ (∃ f : Buf (Elt F) (arg11.view.loc (thr d i)), arg11.view.loc (thr d i) ↦{fullShare} f) ∗ (∃ f : Buf (Elt F) (arg12.view.loc (thr d i)), arg12.view.loc (thr d i) ↦{fullShare} f) ∗ (∃ f : Buf (Elt F) (arg13.view.loc (thr d i)), arg13.view.loc (thr d i) ↦{fullShare} f) ∗ (∃ f : Buf (Elt F) (arg14.view.loc (thr d i)), arg14.view.loc (thr d i) ↦{fullShare} f) ∗ (∃ f : Buf (Elt F) (arg15.view.loc (thr d i)), arg15.view.loc (thr d i) ↦{fullShare} f) ∗ (∃ f : Buf (Elt F) (arg16.view.loc (thr d i)), arg16.view.loc (thr d i) ↦{fullShare} f) ∗ (∃ f : Buf (Elt F) (arg17.view.loc (thr d i)), arg17.view.loc (thr d i) ↦{fullShare} f))
        ∗ (semVal (thr d i, SemLoc.dma v20_r0.sem) 0 ∗ semVal (thr d i, SemLoc.dma v20_r1.sem) 0 ∗ semVal (thr d i, SemLoc.dma v20_r2.sem) 0 ∗ semVal (thr d i, SemLoc.dma v20_r3.sem) 0 ∗ semVal (thr d i, SemLoc.dma v20_r4.sem) 0 ∗ semVal (thr d i, SemLoc.dma v20_r5.sem) 0 ∗ semVal (thr d i, SemLoc.dma v20_r6.sem) 0 ∗ semVal (thr d i, SemLoc.dma v20_r7.sem) 0)
        ∗ ∃ W', ⌜∀ p ∈ W', p ∈ W ∨ p.2 = none⌝ ∗ owes (thr d i) O W') := by
  have task := wp_task d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20_r0 v20_r1 v20_r2 v20_r3 v20_r4 v20_r5 v20_r6 v20_r7 O W s s s s s s f2 f3 f4 f5 f6 f7 f8 f9
    (fun j => by rw [readA]; exact hIX _) (fun j => by rw [readA]; exact hCT _)
  iintro ⟨#Hmw, ⟨H2, H3, H4, H5, H6, H7⟩, H89, Hb, Hs, HO⟩
  ihave L2 := (lend (ℓ := arg2.view.loc (thr d i)) (rowA arg2 i).view.set s f2) $$ H2
  ihave L3 := (lend (ℓ := arg3.view.loc (thr d i)) (rowA arg3 i).view.set s f3) $$ H3
  ihave L4 := (lend (ℓ := arg4.view.loc (thr d i)) (rowB arg4 i).view.set s f4) $$ H4
  ihave L5 := (lend (ℓ := arg5.view.loc (thr d i)) (rowB arg5 i).view.set s f5) $$ H5
  ihave L6 := (lend (ℓ := arg6.view.loc (thr d i)) (rowB arg6 i).view.set s f6) $$ H6
  ihave L7 := (lend (ℓ := arg7.view.loc (thr d i)) (rowB arg7 i).view.set s f7) $$ H7
  icases L2 with ⟨H2, B2⟩
  icases L3 with ⟨H3, B3⟩
  icases L4 with ⟨H4, B4⟩
  icases L5 with ⟨H5, B5⟩
  icases L6 with ⟨H6, B6⟩
  icases L7 with ⟨H7, B7⟩
  ihave Hwp := task $$ [H2 H3 H4 H5 H6 H7 H89 Hb Hs HO]
  · isplitr; · iexact Hmw
    isplitl [H2 H3 H4 H5 H6 H7]
    · isplitl [H2]; · iexact H2
      isplitl [H3]; · iexact H3
      isplitl [H4]; · iexact H4
      isplitl [H5]; · iexact H5
      isplitl [H6]; · iexact H6
      iexact H7
    isplitl [H89]; · iexact H89
    isplitl [Hb]; · iexact Hb
    isplitl [Hs]; · iexact Hs
    iexact HO
  iapply (wp_wand_r _ _ _) $$ [Hwp B2 B3 B4 B5 B6 B7]
  isplitl [Hwp]; · iexact Hwp
  iintro %_ ⟨⟨H2, H3, H4, H5, H6, H7⟩, ⟨⟨%k8, %e8, H8⟩, ⟨%k9, %e9, H9⟩⟩, Hb, Hs, HO⟩
  isplitl [H2 H3 H4 H5 H6 H7 B2 B3 B4 B5 B6 B7]
  · isplitl [H2 B2]; · iapply B2; iexact H2
    isplitl [H3 B3]; · iapply B3; iexact H3
    isplitl [H4 B4]; · iapply B4; iexact H4
    isplitl [H5 B5]; · iapply B5; iexact H5
    isplitl [H6 B6]; · iapply B6; iexact H6
    iapply B7; iexact H7
  isplitl [H8 H9]
  · clear task
    isplitl [H8]
    · iapply (Entails.of_eq (pointsTo_congr (agree_on (rowA arg8 i) k8 g8 (e8.trans (by rw [readA arg8 i g8, readA arg2 i f2, readB arg4 i f4, h8, row3_zArr])))))
      iexact H8
    · iapply (Entails.of_eq (pointsTo_congr (agree_on (rowA arg9 i) k9 g9 (e9.trans (by rw [readA arg9 i g9, readA arg2 i f2, readA arg3 i f3, readB arg5 i f5, readB arg6 i f6, readB arg7 i f7, h9, row3_dArr])))))
      iexact H9
  isplitl [Hb]; · iexact Hb
  isplitl [Hs]; · iexact Hs
  iexact HO

end Cert.Proof

end
-- ==== Proof.Same.lean ====
/- The second half's two kernels have the first half's text. -/
module

public import proofs.«01_k».proof.Proof.Base

@[expose] public section

set_option maxRecDepth 65536

namespace Cert.Proof

open Cert.KernelIdeal Cert.KernelIdeal.Gen
open Idealize.ShloMosaic

variable {F : FTy → Type} [FloatOps F] [Named F]

/-- The TensorCore kernel of the second half is that of the first. -/
theorem half_same : cc3__tc_body (F := F) = cc1__tc_body (F := F) := rfl

/-- The SparseCore kernel of the second half is that of the first. -/
theorem tile_same : cc2__sc_body (F := F) = cc0__sc_body (F := F) := rfl

end Cert.Proof

end
-- ==== Proof.Pay.lean ====
/- The two SparseCore calls: what they hand out, how it splits over cores and tiles, and the tiles' obligations. -/
module

public import proofs.«01_k».proof.Proof.Whole
public import proofs.«01_k».proof.Proof.Same
public import Idealize.ShloMosaic.Lib.StableHlo.Run

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type}

/-! ## The arrays of the two calls -/

/-- A TensorCore on its device. -/
abbrev tc (d : Dev nD) : Thread nD τ := SparseCore.T d
abbrev dr (b : Ref sig .tc) : DevRef τ sig := Proc.devRef (.tc : Proc τ) b

/-- The six arrays a call reads: neighbours, centres, atomic numbers, three coordinates. -/
def insL : Fin 2 → List (Ref sig .tc)
  | 0 => [main_v22, main_v6, main_v23, main_v24, main_v25, main_v26]
  | 1 => [main_v34, main_v6, main_v35, main_v36, main_v37, main_v38]
def insS (q : Fin 2) : Finset (DevRef τ sig) := ((insL q).map dr).toFinset

/-- The entries of a call's two results under `I`, at a valuation. -/
def outs (d : Dev nD) (q : Fin 2) (I : Finset S32x48x128.Idx) (V : Valuation τ sig (Elt F)) : sProp (MM F) :=
  match q with
  | 0 => iprop(((tc d).loc main_v27_0 ↦[I]{fullShare} V (dr main_v27_0)) ∗ ((tc d).loc main_v27_1 ↦[I]{fullShare} V (dr main_v27_1)))
  | 1 => iprop(((tc d).loc main_v39_0 ↦[I]{fullShare} V (dr main_v39_0)) ∗ ((tc d).loc main_v39_1 ↦[I]{fullShare} V (dr main_v39_1)))

/-- The six arrays at a share. -/
def ins (d : Dev nD) (q : Fin 2) (s : PosShare TreeShare) (V : Valuation τ sig (Elt F)) : sProp (MM F) :=
  StableHlo.heldAt (tc d) (insS q) (fun _ => s) V

instance outs_storable (d : Dev nD) (q : Fin 2) (I : Finset S32x48x128.Idx) (V : Valuation τ sig (Elt F)) :
    BI.Storable (upEmb : UEmb _ (MM F)) (outs d q I V) := by
  match q with
  | 0 => unfold outs; infer_instance
  | 1 => unfold outs; infer_instance
instance ins_storable (d : Dev nD) (q : Fin 2) (s : PosShare TreeShare) (V : Valuation τ sig (Elt F)) :
    BI.Storable (upEmb : UEmb _ (MM F)) (ins d q s V) := by
  unfold ins StableHlo.heldAt; infer_instance

theorem assoc (P Q R : sProp (MM F)) : iprop((P ∗ Q) ∗ R) = iprop(P ∗ Q ∗ R) := equiv_iff.mp ⟨BI.sep_assoc, BI.sep_assoc'⟩

/-- A family over a set and `n` places, either way round. -/
theorem swap {I : Type} [DecidableEq I] (S : Finset I) (n : ℕ) (Φ : I → Fin n → sProp (MM F)) :
    (bigSep S fun b => bigSep Finset.univ fun i => Φ b i) = bigSep Finset.univ fun i => bigSep S fun b => Φ b i := by
  induction S using Finset.induction_on with
  | empty => simp only [bigSep_empty]; exact (bigSep_emp_const _).symm
  | insert a S ha ih =>
    rw [SparseCore.bigSep_insert' ha, ih, ← bigSep_sep']
    exact bigSep_congr fun i _ => (SparseCore.bigSep_insert' (Φ := fun b => Φ b i) ha).symm

/-- The six arrays' share dealt into `n` and a remainder. -/
theorem ins_deal (d : Dev nD) (q : Fin 2) (s : PosShare TreeShare) (n : ℕ) (V : Valuation τ sig (Elt F)) :
    (ins d q s V : sProp (MM F)) = iprop(ins d q (shareDrop s n) V ∗ bigSep Finset.univ fun i : Fin n => ins d q (shareTok s n i) V) := by
  unfold ins StableHlo.heldAt
  rw [← swap, ← bigSep_sep']
  exact bigSep_congr fun b _ => equiv_iff.mp ⟨(pointsTo_toks s n).1, (pointsTo_toks s n).2⟩

theorem outs_core (d : Dev nD) (q : Fin 2) (c : Fin 2) (V : Valuation τ sig (Elt F)) :
    (outs d q (coreSet c) V : sProp (MM F)) = bigSep Finset.univ fun s : Fin 16 => outs d q (rowSet (coordsV c s)) V := by
  match q with
  | 0 =>
    unfold outs coreSet
    rw [bigSep_sep', pointsTo_biUnion (ℓ := (tc d).loc main_v27_0) _ _ (rows_disjoint c), pointsTo_biUnion (ℓ := (tc d).loc main_v27_1) _ _ (rows_disjoint c)]
  | 1 =>
    unfold outs coreSet
    rw [bigSep_sep', pointsTo_biUnion (ℓ := (tc d).loc main_v39_0) _ _ (rows_disjoint c), pointsTo_biUnion (ℓ := (tc d).loc main_v39_1) _ _ (rows_disjoint c)]
theorem outs_all (d : Dev nD) (q : Fin 2) (V : Valuation τ sig (Elt F)) :
    (outs d q Finset.univ V : sProp (MM F)) = bigSep Finset.univ fun c : Fin 2 => outs d q (coreSet c) V := by
  match q with
  | 0 =>
    unfold outs
    rw [bigSep_sep', ← pointsTo_biUnion (ℓ := (tc d).loc main_v27_0) _ _ cores_disjoint, ← pointsTo_biUnion (ℓ := (tc d).loc main_v27_1) _ _ cores_disjoint, cores_cover]
  | 1 =>
    unfold outs
    rw [bigSep_sep', ← pointsTo_biUnion (ℓ := (tc d).loc main_v39_0) _ _ cores_disjoint, ← pointsTo_biUnion (ℓ := (tc d).loc main_v39_1) _ _ cores_disjoint, cores_cover]

/-! ## What the handshakes carry -/

theorem nCore_two : ∀ q : Fin 2, (K (F := F)).nCore q = 2
  | 0 => rfl
  | 1 => rfl
theorem nSub_sixteen : ∀ q : Fin 2, (K (F := F)).nSub q = 16
  | 0 => rfl
  | 1 => rfl

abbrev coreShare (c : Fin 2) : PosShare TreeShare := shareTok fullShare 2 c
abbrev tileShare (c : Fin 2) (s : Fin 16) : PosShare TreeShare := shareTok (coreShare c) 16 s

section Pay

variable (A B : Fin 2 → Dev nD → Valuation τ sig (Elt F))

/-- A call entered at valuation `A` and left at `B`: a core takes a share of the six arrays and its tiles' rows of the
    results, a tile a share of that share and its own row; both bring them back, the rows at `B`. -/
def P : (K (F := F)).Pay (nD := nD) (Val := Elt F) (Name := ℕ) (U := UU) where
  st := fun q d c => iprop(ins d q (coreShare (Fin.cast (nCore_two q) c)) (A q d) ∗ outs d q (coreSet (Fin.cast (nCore_two q) c)) (A q d))
  dn := fun q d c => iprop(ins d q (coreShare (Fin.cast (nCore_two q) c)) (A q d) ∗ outs d q (coreSet (Fin.cast (nCore_two q) c)) (B q d))
  go := fun q d c i => iprop(ins d q (tileShare (Fin.cast (nCore_two q) c) (Fin.cast (nSub_sixteen q) i)) (A q d)
    ∗ outs d q (rowSet (coordsV (Fin.cast (nCore_two q) c) (Fin.cast (nSub_sixteen q) i))) (A q d))
  td := fun q d c i => iprop(ins d q (tileShare (Fin.cast (nCore_two q) c) (Fin.cast (nSub_sixteen q) i)) (A q d)
    ∗ outs d q (rowSet (coordsV (Fin.cast (nCore_two q) c) (Fin.cast (nSub_sixteen q) i))) (B q d))
  x := fun _ _ => iprop(emp)

instance P_storable : (P A B).IsStorable where
  st q d c := by unfold P; infer_instance
  dn q d c := by unfold P; infer_instance
  go q d c i := by unfold P; infer_instance
  td q d c i := by unfold P; infer_instance

theorem bigSep_cast {n m : ℕ} (h : n = m) (Φ : Fin m → sProp (MM F)) :
    (bigSep Finset.univ fun i : Fin n => Φ (Fin.cast h i)) = bigSep Finset.univ Φ := by
  subst h; rfl

/-- What a core of a call takes, and what it brings back. -/
abbrev coreRes (V : Fin 2 → Dev nD → Valuation τ sig (Elt F)) (q : Fin 2) (d : Dev nD) (c : Fin 2) : sProp (MM F) :=
  iprop(ins d q (coreShare c) (A q d) ∗ outs d q (coreSet c) (V q d))
abbrev tileRes (V : Fin 2 → Dev nD → Valuation τ sig (Elt F)) (q : Fin 2) (d : Dev nD) (c : Fin 2) (i : Fin 16) : sProp (MM F) :=
  iprop(ins d q (tileShare c i) (A q d) ∗ outs d q (rowSet (coordsV c i)) (V q d))

theorem st_sum (q : Fin 2) (d : Dev nD) : (bigSep Finset.univ fun c => (P A B).st q d c) = bigSep Finset.univ fun c => coreRes A A q d c :=
  bigSep_cast (nCore_two (F := F) q) (fun c => coreRes A A q d c)
theorem dn_sum (q : Fin 2) (d : Dev nD) : (bigSep Finset.univ fun c => (P A B).dn q d c) = bigSep Finset.univ fun c => coreRes A B q d c :=
  bigSep_cast (nCore_two (F := F) q) (fun c => coreRes A B q d c)
theorem go_sum (q : Fin 2) (d : Dev nD) (c : Fin ((K (F := F)).nCore q)) :
    (bigSep Finset.univ fun i => (P A B).go q d c i) = bigSep Finset.univ fun i => tileRes A A q d (Fin.cast (nCore_two q) c) i :=
  bigSep_cast (nSub_sixteen (F := F) q) (fun i => tileRes A A q d (Fin.cast (nCore_two q) c) i)
theorem td_sum (q : Fin 2) (d : Dev nD) (c : Fin ((K (F := F)).nCore q)) :
    (bigSep Finset.univ fun i => (P A B).td q d c i) = bigSep Finset.univ fun i => tileRes A B q d (Fin.cast (nCore_two q) c) i :=
  bigSep_cast (nSub_sixteen (F := F) q) (fun i => tileRes A B q d (Fin.cast (nCore_two q) c) i)

theorem vecSplit (q : Fin 2) : (K (F := F)).VecSplit' (P A B) q := by
  intro d c
  rw [go_sum, td_sum]
  rw [show (P A B).st q d c = coreRes A A q d (Fin.cast (nCore_two q) c) from rfl,
    show (P A B).dn q d c = coreRes A B q d (Fin.cast (nCore_two q) c) from rfl, bigSep_sep', bigSep_sep', ← outs_core, ← outs_core]
  unfold coreRes
  rw [ins_deal d q (coreShare (Fin.cast (nCore_two q) c)) 16]
  iintro ⟨⟨Hr, Hi⟩, Ho⟩
  imodintro
  isplitl [Hi Ho]
  · isplitl [Hi] <;> iassumption
  iintro ⟨Hi, Ho⟩
  isplitl [Hr Hi]
  · isplitl [Hr] <;> iassumption
  iexact Ho

/-- A call's operands from the six arrays and the two results held whole, and back. -/
theorem st_eq (q : Fin 2) (d : Dev nD) :
    (iprop(ins d q fullShare (A q d) ∗ outs d q Finset.univ (A q d)) : sProp (MM F))
      = iprop(ins d q (shareDrop fullShare 2) (A q d) ∗ bigSep Finset.univ fun c => (P A B).st q d c) := by
  rw [st_sum, bigSep_sep', ← outs_all, ins_deal d q fullShare 2, assoc]
theorem dn_eq (q : Fin 2) (d : Dev nD) :
    (iprop(ins d q fullShare (A q d) ∗ outs d q Finset.univ (B q d)) : sProp (MM F))
      = iprop(ins d q (shareDrop fullShare 2) (A q d) ∗ bigSep Finset.univ fun c => (P A B).dn q d c) := by
  rw [dn_sum, bigSep_sep', ← outs_all, ins_deal d q fullShare 2, assoc]

end Pay

end Cert.Proof

end
-- ==== Proof.Obl.lean ====
/- The tiles' obligations of the two SparseCore calls. -/
module

public import proofs.«01_k».proof.Proof.Pay

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type}

/-! ## A tile's scratch and semaphores -/

theorem sep_emp' (P : sProp (MM F)) : iprop(P ∗ emp) = P := equiv_iff.mp BI.sep_emp

/-- A vector subcore's scratch buffers `lb` and semaphores `ls` taken out of its own, and the rest. -/
theorem own_take (d : Dev nD) (c : Fin τ.nSC) (i : Fin τ.nSub) (lb : List (Ref sig .scVector)) (ls : List (SemLoc sig))
    (hb : lb.Nodup) (ho : ∀ b ∈ lb, ((Proc.scVector c i).devRef b).owner = .proc (.scVector c i))
    (hs : ls.Nodup) (hsc : ∀ g ∈ ls, g.isScoped .scVector = true) :
    (iprop(ownBufs (V d c i) ∗ ownSems0 (V d c i)) : sProp (MM F))
      = iprop(((lb.map (Proc.scVector c i).devRef).foldr (fun b P => iprop((∃ f, ((d, b) : Loc nD τ sig) ↦{fullShare} f) ∗ P)) iprop(emp)
            ∗ bigSep (ownRefs (.scVector c i) \ (lb.map (Proc.scVector c i).devRef).toFinset) fun b => iprop(∃ f, ((d, b) : Loc nD τ sig) ↦{fullShare} f))
          ∗ ((ls.map fun g => ((V d c i, g) : GSem nD τ sig)).foldr (fun g P => iprop(semVal g 0 ∗ P)) iprop(emp)
            ∗ bigSep (ownCells (V d c i) \ (ls.map fun g => ((V d c i, g) : GSem nD τ sig)).toFinset) fun g => semVal g 0)) := by
  unfold ownBufs ownSems0
  rw [take_list (fun b => iprop(∃ f, ((d, b) : Loc nD τ sig) ↦{fullShare} f)) (lb.map (Proc.scVector c i).devRef) (ownRefs (.scVector c i))
      (hb.map (Proc.devRef_injective _)) ?_,
    take_list (fun g => semVal g 0) (ls.map fun g => ((V d c i, g) : GSem nD τ sig)) (ownCells (V d c i)) (hs.map fun _ _ e => (Prod.ext_iff.mp e).2) ?_]
  · intro g hg
    obtain ⟨x, hx, rfl⟩ := List.mem_map.mp hg
    exact mem_ownCells.mpr ⟨rfl, hsc x hx⟩
  · intro b hb'
    obtain ⟨x, hx, rfl⟩ := List.mem_map.mp hb'
    exact SparseCore.Cfg.mem_ownRefs_of_owner (ho x hx)

/-- The six arrays, one by one. -/
theorem ins_list (d : Dev nD) (q : Fin 2) (s : PosShare TreeShare) (V : Valuation τ sig (Elt F)) (h : ((insL q).map dr).Nodup) :
    (ins d q s V : sProp (MM F)) = ((insL q).map dr).foldr (fun b P => iprop((((d, b) : Loc nD τ sig) ↦{s} V b) ∗ P)) iprop(emp) := by
  unfold ins StableHlo.heldAt insS
  rw [take_list (fun b => (((d, b) : Loc nD τ sig) ↦{s} V b)) ((insL q).map dr) _ h fun b hb => List.mem_toFinset.mpr hb,
    Finset.sdiff_self, bigSep_empty]
  exact sep_emp' _

theorem insL_nodup : ∀ q : Fin 2, ((insL q).map dr).Nodup
  | 0 => by decide
  | 1 => by decide

variable [FloatOps F] [Named F]

/-- A tile's task with its scratch and semaphores named, as the call asks for it. -/
theorem tile_wrap {R : Type} (hF : (K (F := F)).Facts) (d : Dev nD) (i : grid0.Coords) (q : Fin 2) (lb : List (Ref sig .scVector)) (ls : List (SemLoc sig))
    (hb : lb.Nodup) (ho : ∀ b ∈ lb, ((thr d i).2.devRef b).owner = .proc (thr d i).2)
    (hs : ls.Nodup) (hsc : ∀ g ∈ ls, g.isScoped .scVector = true)
    (O : CellTallies nD τ sig (HIx 2)) (W : Waits sig (HIx 2)) (hO : ∀ g, O g none = 0) (J X Y : sProp (MM F))
    (e : Prog (TpuEff nD τ sig (Elt F) Λ₀ (thr d i).2) R)
    (h : iprop(Transfers.MayWaits (thr d i) (default : HIx 2) O ∗ J ∗ X
        ∗ ((lb.map (thr d i).2.devRef).foldr (fun b P => iprop((∃ f, ((d, b) : Loc nD τ sig) ↦{fullShare} f) ∗ P)) iprop(emp))
        ∗ ((ls.map fun g => ((thr d i, g) : GSem nD τ sig)).foldr (fun g P => iprop(semVal g 0 ∗ P)) iprop(emp)) ∗ owes (thr d i) O W)
      ⊢ wp frame (wpE (defs₀ (F := F)) 𝒱₀ (thr d i) none) Set.univ e fun _ => iprop(J ∗ Y
        ∗ ((lb.map (thr d i).2.devRef).foldr (fun b P => iprop((∃ f, ((d, b) : Loc nD τ sig) ↦{fullShare} f) ∗ P)) iprop(emp))
        ∗ ((ls.map fun g => ((thr d i, g) : GSem nD τ sig)).foldr (fun g P => iprop(semVal g 0 ∗ P)) iprop(emp))
        ∗ ∃ W', ⌜∀ p ∈ W', p ∈ W ∨ p.2 = none⌝ ∗ owes (thr d i) O W')) :
    iprop(levAts (K (F := F)).L (K (F := F)).lev ∗ emp ∗ (J ∗ X) ∗ scopedBufs (thr d i) ∗ scopedSems0 (thr d i) ∗ owes (thr d i) O W)
      ⊢ wp frame (wpE (defs₀ (F := F)) 𝒱₀ (thr d i) none) Set.univ e fun _ => iprop((J ∗ Y) ∗ scopedBufs (thr d i) ∗ scopedSems0 (thr d i)
        ∗ ∃ W', ⌜∀ p ∈ W', p ∈ W ∨ p.2 = none ∨ p.2 = some q⌝ ∗ owes (thr d i) O W') := by
  rw [(K (F := F)).scopedBufs_V hF d _ _, SparseCore.Cfg.scopedSems0_V (Val := Elt F) d _ _]
  have t := own_take (F := F) d ((i 0).castLE hcore0) ((i 1).castLE hsub0) lb ls hb ho hs hsc
  iintro ⟨#Hlv, -, ⟨HJ, HX⟩, HB, HS, HO⟩
  ihave Hmw := (show levAts (K (F := F)).L (K (F := F)).lev ⊢ Transfers.MayWaits (thr d i) (default : HIx 2) O from
    (K (F := F)).mayWaits_none (thr := thr d i) hO) $$ Hlv
  ihave HBS := (Entails.of_eq t) $$ [HB HS]
  · isplitl [HB]; · iexact HB
    iexact HS
  icases HBS with ⟨⟨HB, HBr⟩, HS, HSr⟩
  ihave Hwp := h $$ [HJ HX HB HS HO]
  · isplitr; · iexact Hmw
    isplitl [HJ]; · iexact HJ
    isplitl [HX]; · iexact HX
    isplitl [HB]; · iexact HB
    isplitl [HS]; · iexact HS
    iexact HO
  iapply (wp_wand_r _ _ _) $$ [Hwp HBr HSr]
  isplitl [Hwp]; · iexact Hwp
  iintro %_ ⟨HJ, HY, HB, HS, ⟨%W', %hW, HO⟩⟩
  ihave HBS := (Entails.of_eq t.symm) $$ [HB HS HBr HSr]
  · isplitl [HB HBr]
    · isplitl [HB]; · iexact HB
      iexact HBr
    isplitl [HS]; · iexact HS
    iexact HSr
  icases HBS with ⟨HB, HS⟩
  isplitl [HJ HY]
  · isplitl [HJ]; · iexact HJ
    iexact HY
  isplitl [HB]; · iexact HB
  isplitl [HS]; · iexact HS
  iexists W'
  isplitr
  · ipureintro; exact fun p hp => (hW p hp).imp_right Or.inl
  iexact HO

section Obl

variable (A B : Fin 2 → Dev nD → Valuation τ sig (Elt F))

/-! ## Call 0 -/

def bufs0 : List (Ref sig .scVector) := [cc0_scratch0, cc0_scratch1, cc0_scratch2, cc0_scratch3, cc0_scratch4, cc0_scratch5, cc0_scratch6, cc0_scratch7]
def sems0 : List (SemLoc sig) := [.dma cc0_scoped0.sem, .dma cc0_scoped1.sem, .dma cc0_scoped2.sem, .dma cc0_scoped3.sem, .dma cc0_scoped4.sem, .dma cc0_scoped5.sem, .dma cc0_scoped6.sem, .dma cc0_scoped7.sem]

theorem own0 (c : Fin τ.nSC) (s : Fin τ.nSub) : ∀ b ∈ bufs0, ((Proc.scVector c s).devRef b).owner = .proc (.scVector c s) := by
  intro b hb
  simp only [bufs0, List.mem_cons, List.not_mem_nil, or_false] at hb
  rcases hb with rfl | rfl | rfl | rfl | rfl | rfl | rfl | rfl <;> rfl

theorem defs₀_call0 (c : Fin τ.nSC) (s : Fin τ.nSub) :
    defs₀ (F := F) (.scVector c s) 0 () = SparseCore.onTile hcore0 hsub0 (fun c s => cc0__sc_body (coordsV c s) (Memref.whole main_v22_scv) (Memref.isWhole_whole _) (Memref.whole main_v6_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_0_scv) (Memref.isWhole_whole _) (Memref.whole main_v27_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2 cc0_scoped3 cc0_scoped4 cc0_scoped5 cc0_scoped6 cc0_scoped7) ⟨⟩ c s := rfl

theorem rows0 (d : Dev nD) (i : grid0.Coords) (V : Valuation τ sig (Elt F)) :
    (iprop(((rowA (Memref.whole main_v27_0_scv) i).view.loc (thr d i) ↦[(rowA (Memref.whole main_v27_0_scv) i).view.set]{fullShare} V (dr main_v27_0))
        ∗ ((rowA (Memref.whole main_v27_1_scv) i).view.loc (thr d i) ↦[(rowA (Memref.whole main_v27_1_scv) i).view.set]{fullShare} V (dr main_v27_1))) : sProp (MM F))
      = outs d 0 (rowSet i) V := by
  rw [show (rowA (Memref.whole main_v27_0_scv) i).view.set = rowSet i from (View.set_reshape _ _).trans (View.set_slice_whole _ _),
    show (rowA (Memref.whole main_v27_1_scv) i).view.set = rowSet i from (View.set_reshape _ _).trans (View.set_slice_whole _ _)]
  rfl

/-- Call 0's operands in range, and its results the gathered numbers and the squared distances. -/
structure CallOk0 : Prop where
  idx : ∀ d j, (A 0 d (dr main_v22) j).toNat < 1024
  ctr : ∀ d j, (A 0 d (dr main_v6) j).toNat < 1024
  z : ∀ d, B 0 d (dr main_v27_0) = zArr (A 0 d (dr main_v22)) (A 0 d (dr main_v23))
  d2 : ∀ d, B 0 d (dr main_v27_1) = dArr (A 0 d (dr main_v22)) (A 0 d (dr main_v6)) (A 0 d (dr main_v24)) (A 0 d (dr main_v25)) (A 0 d (dr main_v26))

set_option maxHeartbeats 1000000 in
theorem tileObl0 (hF : (K (F := F)).Facts) (hC : CallOk0 A B) : (K (F := F)).TileObl (D (F := F)) 𝒱 (P A B) v₀ 0 := by
  intro d c i O W hO _ _
  simp only [show (P A B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  refine tile_wrap hF d (coordsV ⟨_, hci.1⟩ ⟨_, hci.2⟩) 0 bufs0 sems0 (by decide) (own0 _ _) (by decide) (by decide) O W hO
    (ins d 0 (tileShare ⟨_, hci.1⟩ ⟨_, hci.2⟩) (A 0 d)) (outs d 0 (rowSet (coordsV ⟨_, hci.1⟩ ⟨_, hci.2⟩)) (A 0 d))
    (outs d 0 (rowSet (coordsV ⟨_, hci.1⟩ ⟨_, hci.2⟩)) (B 0 d)) _ ?_
  have w := wp_tile d (coordsV ⟨_, hci.1⟩ ⟨_, hci.2⟩) (Memref.whole main_v22_scv) (Memref.isWhole_whole _) (Memref.whole main_v6_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_0_scv) (Memref.isWhole_whole _) (Memref.whole main_v27_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2 cc0_scoped3 cc0_scoped4 cc0_scoped5 cc0_scoped6 cc0_scoped7 O W (tileShare ⟨_, hci.1⟩ ⟨_, hci.2⟩)
    (A 0 d (dr main_v22)) (A 0 d (dr main_v6)) (A 0 d (dr main_v23)) (A 0 d (dr main_v24)) (A 0 d (dr main_v25)) (A 0 d (dr main_v26)) (A 0 d (dr main_v27_0)) (A 0 d (dr main_v27_1)) (B 0 d (dr main_v27_0)) (B 0 d (dr main_v27_1)) (hC.idx d) (hC.ctr d) (hC.z d) (hC.d2 d)
  rw [rows0, rows0] at w
  rw [ins_list _ _ _ _ (insL_nodup 0)]
  simp only [insL, bufs0, sems0, List.map, List.foldr, sep_emp']
  exact w

/-! ## Call 1 -/

def bufs1 : List (Ref sig .scVector) := [cc2_scratch0, cc2_scratch1, cc2_scratch2, cc2_scratch3, cc2_scratch4, cc2_scratch5, cc2_scratch6, cc2_scratch7]
def sems1 : List (SemLoc sig) := [.dma cc2_scoped0.sem, .dma cc2_scoped1.sem, .dma cc2_scoped2.sem, .dma cc2_scoped3.sem, .dma cc2_scoped4.sem, .dma cc2_scoped5.sem, .dma cc2_scoped6.sem, .dma cc2_scoped7.sem]

theorem own1 (c : Fin τ.nSC) (s : Fin τ.nSub) : ∀ b ∈ bufs1, ((Proc.scVector c s).devRef b).owner = .proc (.scVector c s) := by
  intro b hb
  simp only [bufs1, List.mem_cons, List.not_mem_nil, or_false] at hb
  rcases hb with rfl | rfl | rfl | rfl | rfl | rfl | rfl | rfl <;> rfl

theorem defs₀_call1 (c : Fin τ.nSC) (s : Fin τ.nSub) :
    defs₀ (F := F) (.scVector c s) 2 () = SparseCore.onTile hcore2 hsub2 (fun c s => cc2__sc_body (coordsV c s) (Memref.whole main_v34_scv) (Memref.isWhole_whole _) (Memref.whole main_v6_scv) (Memref.isWhole_whole _) (Memref.whole main_v35_scv) (Memref.isWhole_whole _) (Memref.whole main_v36_scv) (Memref.isWhole_whole _) (Memref.whole main_v37_scv) (Memref.isWhole_whole _) (Memref.whole main_v38_scv) (Memref.isWhole_whole _) (Memref.whole main_v39_0_scv) (Memref.isWhole_whole _) (Memref.whole main_v39_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) cc2_scoped0 cc2_scoped1 cc2_scoped2 cc2_scoped3 cc2_scoped4 cc2_scoped5 cc2_scoped6 cc2_scoped7) ⟨⟩ c s := rfl

theorem rows1 (d : Dev nD) (i : grid0.Coords) (V : Valuation τ sig (Elt F)) :
    (iprop(((rowA (Memref.whole main_v39_0_scv) i).view.loc (thr d i) ↦[(rowA (Memref.whole main_v39_0_scv) i).view.set]{fullShare} V (dr main_v39_0))
        ∗ ((rowA (Memref.whole main_v39_1_scv) i).view.loc (thr d i) ↦[(rowA (Memref.whole main_v39_1_scv) i).view.set]{fullShare} V (dr main_v39_1))) : sProp (MM F))
      = outs d 1 (rowSet i) V := by
  rw [show (rowA (Memref.whole main_v39_0_scv) i).view.set = rowSet i from (View.set_reshape _ _).trans (View.set_slice_whole _ _),
    show (rowA (Memref.whole main_v39_1_scv) i).view.set = rowSet i from (View.set_reshape _ _).trans (View.set_slice_whole _ _)]
  rfl

/-- Call 1's operands in range, and its results the gathered numbers and the squared distances. -/
structure CallOk1 : Prop where
  idx : ∀ d j, (A 1 d (dr main_v34) j).toNat < 1024
  ctr : ∀ d j, (A 1 d (dr main_v6) j).toNat < 1024
  z : ∀ d, B 1 d (dr main_v39_0) = zArr (A 1 d (dr main_v34)) (A 1 d (dr main_v35))
  d2 : ∀ d, B 1 d (dr main_v39_1) = dArr (A 1 d (dr main_v34)) (A 1 d (dr main_v6)) (A 1 d (dr main_v36)) (A 1 d (dr main_v37)) (A 1 d (dr main_v38))

set_option maxHeartbeats 1000000 in
theorem tileObl1 (hF : (K (F := F)).Facts) (hC : CallOk1 A B) : (K (F := F)).TileObl (D (F := F)) 𝒱 (P A B) v₀ 1 := by
  intro d c i O W hO _ _
  simp only [show (P A B).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  rw [tile_same]
  refine tile_wrap hF d (coordsV ⟨_, hci.1⟩ ⟨_, hci.2⟩) 1 bufs1 sems1 (by decide) (own1 _ _) (by decide) (by decide) O W hO
    (ins d 1 (tileShare ⟨_, hci.1⟩ ⟨_, hci.2⟩) (A 1 d)) (outs d 1 (rowSet (coordsV ⟨_, hci.1⟩ ⟨_, hci.2⟩)) (A 1 d))
    (outs d 1 (rowSet (coordsV ⟨_, hci.1⟩ ⟨_, hci.2⟩)) (B 1 d)) _ ?_
  have w := wp_tile d (coordsV ⟨_, hci.1⟩ ⟨_, hci.2⟩) (Memref.whole main_v34_scv) (Memref.isWhole_whole _) (Memref.whole main_v6_scv) (Memref.isWhole_whole _) (Memref.whole main_v35_scv) (Memref.isWhole_whole _) (Memref.whole main_v36_scv) (Memref.isWhole_whole _) (Memref.whole main_v37_scv) (Memref.isWhole_whole _) (Memref.whole main_v38_scv) (Memref.isWhole_whole _) (Memref.whole main_v39_0_scv) (Memref.isWhole_whole _) (Memref.whole main_v39_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) cc2_scoped0 cc2_scoped1 cc2_scoped2 cc2_scoped3 cc2_scoped4 cc2_scoped5 cc2_scoped6 cc2_scoped7 O W (tileShare ⟨_, hci.1⟩ ⟨_, hci.2⟩)
    (A 1 d (dr main_v34)) (A 1 d (dr main_v6)) (A 1 d (dr main_v35)) (A 1 d (dr main_v36)) (A 1 d (dr main_v37)) (A 1 d (dr main_v38)) (A 1 d (dr main_v39_0)) (A 1 d (dr main_v39_1)) (B 1 d (dr main_v39_0)) (B 1 d (dr main_v39_1)) (hC.idx d) (hC.ctr d) (hC.z d) (hC.d2 d)
  rw [rows1, rows1] at w
  rw [ins_list _ _ _ _ (insL_nodup 1)]
  simp only [insL, bufs1, sems1, List.map, List.foldr, sep_emp']
  exact w

end Obl

end Cert.Proof

end
-- ==== Proof.Point.lean ====
/- One grid point of a half's TensorCore kernel: what it leaves in its output block and in its three scratches. -/
module

public import proofs.«01_k».proof.Proof.Pay
public import Idealize.ShloMosaic.Lib.VecWindow

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F] [Named F]

/-! ## The two conditions -/

theorem first_iff : ∀ t : Fin 8, (Scalar.cmpi .ne (Scalar.extui (Scalar.cmpi .eq (BitVec.ofNat 32 t.val) 0#32) : BitVec 32) 0#32 = 1#1) ↔ t.val = 0 := by
  decide +kernel
theorem last_iff : ∀ t : Fin 8, (Scalar.cmpi .ne (Scalar.extui (Scalar.cmpi .eq (BitVec.ofNat 32 t.val) 7#32) : BitVec 32) 0#32 = 1#1) ↔ t.val = 7 := by
  decide +kernel
theorem cond2_iff (i : grid1.Coords) : k1_cond2 i = 1#1 ↔ (i 1).val = 7 := last_iff (i 1)

/-! ## What a point leaves -/

/-- The batch's atom features: set at the batch's first point, kept after. -/
def xNew (t : ℕ) (zr : Vec F S1x1x1024 .i32) (emb : Vec F S128x100 .f32) (old : Vec F S128x1024 .f32) : Vec F S128x1024 .f32 :=
  if t = 0 then k1_pay3 zr emb else old
/-- The embedding in half precision: set at the batch's first point, kept after. -/
def eNew (t : ℕ) (emb : Vec F S128x100 .f32) (old : Vec F S128x100 .bf16) : Vec F S128x100 .bf16 :=
  if t = 0 then k1_pay4 emb else old
/-- The messages: columns `128 t` to `128 t + 127` set to the point's block. -/
def mNew (t : ℕ) (blk : Vec F S128x128 .f32) (old : Vec F S128x1024 .f32) : Vec F S128x1024 .f32 := fun j =>
  if h : 128 * t ≤ (j 1).val ∧ (j 1).val < 128 * t + 128 then blk (ix2 (j 0) ⟨(j 1).val - 128 * t, by omega⟩) else old j
/-- The output block: set at the batch's last point. -/
def oNew (t : ℕ) (x : Vec F S128x1024 .f32) (wm : Vec F S128x128 .f32) (ms : Vec F S128x1024 .f32) (bm : Vec F S128x1 .f32)
    (w1 : Vec F S64x128 .f32) (b1 : Vec F S64x1 .f32) (w2 : Vec F S1x64 .f32) (old : Vec F S1x1x128 .f32) : Vec F S1x1x128 .f32 :=
  if t = 7 then k1_pay2 x wm ms bm w1 b1 w2 else old

/-- A store of the point's block of messages over the earlier ones. -/
theorem read_block (i : grid1.Coords) (m : Memref sig .tc .vmem S128x1024 .f32) (f : m.view.ty.Contents (Elt F)) (w : Vec F S128x128 .f32) :
    m.view.read (Elt F) (m.view.writes (Elt F) f [⟨Rect.unit (s := S128x1024) (k1_off1 i) S128x128.size (k1_off1_inb i), w⟩])
      = mNew (i 1).val w (m.view.read (Elt F) f) := by
  funext j
  rw [View.read_writes_cons_unit _ _ _ _ _ _ (k1_off1_eq i)]
  have hj : (j 0).val < 128 := (j 0).isLt
  unfold mNew
  by_cases h : 128 * (i 1).val ≤ (j 1).val ∧ (j 1).val < 128 * (i 1).val + 128
  · rw [dif_pos h, dif_pos (fun a => match a with
      | ⟨0, _⟩ => ⟨Nat.zero_le _, by show (j 0).val < 0 + 128; omega⟩
      | ⟨1, _⟩ => h)]
    refine congrArg w (funext fun a => ?_)
    match a with
    | ⟨0, _⟩ => exact Fin.ext (Nat.sub_zero _)
    | ⟨1, _⟩ => rfl
  · rw [dif_neg h, dif_neg fun h' => h (h' 1)]
    rfl

theorem block_congr {a a' : Vec F S1x1x6144 .i32} {b b' : Vec F S128x100 .bf16} {c c' : Vec F S1x1x6144 .f32} {e e' : Vec F S128x32 .f32} {g g' : Vec F S6144x128 .bf16}
    (ha : a = a') (hb : b = b') (hc : c = c') (he : e = e') (hg : g = g') : k1_pay1 (k1_pay5 a b c e g) = k1_pay1 (k1_pay5 a' b' c' e' g') := by
  rw [ha, hb, hc, he, hg]
theorem out_congr {a a' : Vec F S128x1024 .f32} {b b' : Vec F S128x128 .f32} {c c' : Vec F S128x1024 .f32} {e e' : Vec F S128x1 .f32} {g g' : Vec F S64x128 .f32}
    {k k' : Vec F S64x1 .f32} {l l' : Vec F S1x64 .f32}
    (ha : a = a') (hb : b = b') (hc : c = c') (he : e = e') (hg : g = g') (hk : k = k') (hl : l = l') : k1_pay2 a b c e g k l = k1_pay2 a' b' c' e' g' k' l' := by
  rw [ha, hb, hc, he, hg, hk, hl]

set_option maxHeartbeats 2000000 in
theorem wp_point (d : Dev nD) (i : grid1.Coords) (arg2 : Memref sig .tc .vmem S1x1x6144 .i32) (harg2 : arg2.IsWhole) (arg3 : Memref sig .tc .vmem S1x1x6144 .f32) (harg3 : arg3.IsWhole) (arg4 : Memref sig .tc .vmem S1x1x1024 .i32) (harg4 : arg4.IsWhole) (arg5 : Memref sig .tc .vmem S128x100 .f32) (harg5 : arg5.IsWhole) (arg6 : Memref sig .tc .vmem S128x32 .f32) (harg6 : arg6.IsWhole) (arg7 : Memref sig .tc .vmem S6144x128 .bf16) (harg7 : arg7.IsWhole) (arg8 : Memref sig .tc .vmem S128x128 .f32) (harg8 : arg8.IsWhole) (arg9 : Memref sig .tc .vmem S128x1 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S1x64 .f32) (harg12 : arg12.IsWhole) (arg13 : Memref sig .tc .vmem S1x1x128 .f32) (harg13 : arg13.IsWhole) (arg14 : Memref sig .tc .vmem S128x1024 .f32) (harg14 : arg14.IsWhole) (arg15 : Memref sig .tc .vmem S128x100 .bf16) (harg15 : arg15.IsWhole) (arg16 : Memref sig .tc .vmem S128x1024 .f32) (harg16 : arg16.IsWhole)
    (f2 : Buf (Elt F) (arg2.view.loc (tc d))) (f3 : Buf (Elt F) (arg3.view.loc (tc d))) (f4 : Buf (Elt F) (arg4.view.loc (tc d))) (f5 : Buf (Elt F) (arg5.view.loc (tc d))) (f6 : Buf (Elt F) (arg6.view.loc (tc d))) (f7 : Buf (Elt F) (arg7.view.loc (tc d))) (f8 : Buf (Elt F) (arg8.view.loc (tc d))) (f9 : Buf (Elt F) (arg9.view.loc (tc d))) (f10 : Buf (Elt F) (arg10.view.loc (tc d))) (f11 : Buf (Elt F) (arg11.view.loc (tc d))) (f12 : Buf (Elt F) (arg12.view.loc (tc d))) (f13 : Buf (Elt F) (arg13.view.loc (tc d))) (f14 : Buf (Elt F) (arg14.view.loc (tc d))) (f15 : Buf (Elt F) (arg15.view.loc (tc d))) (f16 : Buf (Elt F) (arg16.view.loc (tc d)))
    (E : Set ℕ) (Q : PUnit → sProp (MM F)) :
    iprop(((arg2.view.loc (tc d) ↦{fullShare} f2) ∗ (arg3.view.loc (tc d) ↦{fullShare} f3) ∗ (arg4.view.loc (tc d) ↦{fullShare} f4) ∗ (arg5.view.loc (tc d) ↦{fullShare} f5) ∗ (arg6.view.loc (tc d) ↦{fullShare} f6) ∗ (arg7.view.loc (tc d) ↦{fullShare} f7) ∗ (arg8.view.loc (tc d) ↦{fullShare} f8) ∗ (arg9.view.loc (tc d) ↦{fullShare} f9) ∗ (arg10.view.loc (tc d) ↦{fullShare} f10) ∗ (arg11.view.loc (tc d) ↦{fullShare} f11) ∗ (arg12.view.loc (tc d) ↦{fullShare} f12)) ∗ ((arg13.view.loc (tc d) ↦{fullShare} f13) ∗ (arg14.view.loc (tc d) ↦{fullShare} f14) ∗ (arg15.view.loc (tc d) ↦{fullShare} f15) ∗ (arg16.view.loc (tc d) ↦{fullShare} f16))
        ∗ (((arg2.view.loc (tc d) ↦{fullShare} f2) ∗ (arg3.view.loc (tc d) ↦{fullShare} f3) ∗ (arg4.view.loc (tc d) ↦{fullShare} f4) ∗ (arg5.view.loc (tc d) ↦{fullShare} f5) ∗ (arg6.view.loc (tc d) ↦{fullShare} f6) ∗ (arg7.view.loc (tc d) ↦{fullShare} f7) ∗ (arg8.view.loc (tc d) ↦{fullShare} f8) ∗ (arg9.view.loc (tc d) ↦{fullShare} f9) ∗ (arg10.view.loc (tc d) ↦{fullShare} f10) ∗ (arg11.view.loc (tc d) ↦{fullShare} f11) ∗ (arg12.view.loc (tc d) ↦{fullShare} f12)) -∗ (∃ (g13 : Buf (Elt F) (arg13.view.loc (tc d))) (g14 : Buf (Elt F) (arg14.view.loc (tc d))) (g15 : Buf (Elt F) (arg15.view.loc (tc d))) (g16 : Buf (Elt F) (arg16.view.loc (tc d))),
          ⌜arg14.view.read (Elt F) g14 = xNew (i 1).val (arg4.view.read (Elt F) f4) (arg5.view.read (Elt F) f5) (arg14.view.read (Elt F) f14)
            ∧ arg15.view.read (Elt F) g15 = eNew (i 1).val (arg5.view.read (Elt F) f5) (arg15.view.read (Elt F) f15)
            ∧ arg16.view.read (Elt F) g16 = mNew (i 1).val (k1_pay1 (k1_pay5 (arg2.view.read (Elt F) f2) (arg15.view.read (Elt F) g15) (arg3.view.read (Elt F) f3) (arg6.view.read (Elt F) f6) (arg7.view.read (Elt F) f7))) (arg16.view.read (Elt F) f16)
            ∧ arg13.view.read (Elt F) g13 = oNew (i 1).val (arg14.view.read (Elt F) g14) (arg8.view.read (Elt F) f8) (arg16.view.read (Elt F) g16) (arg9.view.read (Elt F) f9) (arg10.view.read (Elt F) f10) (arg11.view.read (Elt F) f11) (arg12.view.read (Elt F) f12) (arg13.view.read (Elt F) f13)⌝
          ∗ (arg13.view.loc (tc d) ↦{fullShare} g13) ∗ (arg14.view.loc (tc d) ↦{fullShare} g14) ∗ (arg15.view.loc (tc d) ↦{fullShare} g15) ∗ (arg16.view.loc (tc d) ↦{fullShare} g16)) -∗ Q ⟨⟩))
      ⊢ wp frame (wpE (defs₀ (F := F)) 𝒱₀ (tc d) none) E (cc1__tc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨⟨H2, H3, H4, H5, H6, H7, H8, H9, H10, H11, H12⟩, ⟨H13, H14, H15, H16⟩, Hk⟩
  rw [cc1__tc_body_eq_skeleton]; unfold cc1__tc_body_skel; rw [k1_part1_eq_skeleton]; unfold k1_part1_skel
  have e1 := first_iff (i 1)
  have e2 := cond2_iff i
  by_cases h1 : (i 1).val = 0 <;> by_cases h2 : (i 1).val = 7
  · omega
  · simp only [dif_pos (e1.mpr h1), dif_neg (mt e2.mp h2)]
    sl_exec
    sl_step
    iapply Hk $$ [H2 H3 H4 H5 H6 H7 H8 H9 H10 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexists _, _, _, _
    isplitr
    swap
    · isplitl [H13]; · iexact H13
      isplitl [H14]; · iexact H14
      isplitl [H15]; · iexact H15
      iexact H16
    ipureintro
    have r15 : arg15.view.read (Elt F) (arg15.view.writes (Elt F) f15 (wp_point.sl.H15_1 d arg5 f5)) = eNew (i 1).val (arg5.view.read (Elt F) f5) (arg15.view.read (Elt F) f15) := by
      rw [eNew, if_pos h1]; exact (View.read_writes_full ..).trans (congrArg k1_pay4 (View.readAt_full ..))
    refine ⟨?_, r15, ?_, ?_⟩
    · rw [xNew, if_pos h1]
      exact (View.read_writes_full ..).trans (congrArg₂ k1_pay3 (View.readAt_full ..) (View.readAt_full ..))
    · rw [r15, eNew, if_pos h1]
      exact (read_block ..).trans (congrArg (fun w => mNew (i 1).val w _) (block_congr (View.readAt_full ..)
        ((View.readCov_full arg15.view ..).trans (congrArg k1_pay4 (View.readAt_full ..))) (View.readAt_full ..) (View.readAt_full ..) (View.readAt_full ..)))
    · rw [oNew, if_neg h2]
  · simp only [dif_neg (mt e1.mp h1), dif_pos (e2.mpr h2)]
    sl_exec
    sl_step
    iapply Hk $$ [H2 H3 H4 H5 H6 H7 H8 H9 H10 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexists _, _, _, _
    isplitr
    swap
    · isplitl [H13]; · iexact H13
      isplitl [H14]; · iexact H14
      isplitl [H15]; · iexact H15
      iexact H16
    ipureintro
    refine ⟨by rw [xNew, if_neg h1], by rw [eNew, if_neg h1], (read_block ..).trans (congrArg (fun w => mNew (i 1).val w _) (block_congr (View.readAt_full ..)
      (View.readAt_full ..) (View.readAt_full ..) (View.readAt_full ..) (View.readAt_full ..))), ?_⟩
    rw [oNew, if_pos h2]
    exact (View.read_writes_full ..).trans (out_congr (View.readAt_full ..) (View.readAt_full ..) (View.readAt_full ..) (View.readAt_full ..)
      (View.readAt_full ..) (View.readAt_full ..) (View.readAt_full ..))
  · simp only [dif_neg (mt e1.mp h1), dif_neg (mt e2.mp h2)]
    sl_exec
    sl_step
    iapply Hk $$ [H2 H3 H4 H5 H6 H7 H8 H9 H10 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexists _, _, _, _
    isplitr
    swap
    · isplitl [H13]; · iexact H13
      isplitl [H14]; · iexact H14
      isplitl [H15]; · iexact H15
      iexact H16
    ipureintro
    exact ⟨by rw [xNew, if_neg h1], by rw [eNew, if_neg h1], (read_block ..).trans (congrArg (fun w => mNew (i 1).val w _) (block_congr (View.readAt_full ..)
      (View.readAt_full ..) (View.readAt_full ..) (View.readAt_full ..) (View.readAt_full ..))), by rw [oNew, if_neg h2]⟩

end Cert.Proof

end
-- ==== Proof.Half.lean ====
/- What a half's TensorCore kernel computes from its arrays, and one grid point of it against those values. -/
module

public import proofs.«01_k».proof.Proof.Point

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F] [Named F]

/-! ## The values -/

/-- The arrays a half's TensorCore kernel reads. -/
structure Arrays (F : FTy → Type) where
  zj : Vec F S32x1x6144 .i32
  d2 : Vec F S32x1x6144 .f32
  z : Vec F S4x1x1024 .i32
  emb : Vec F S128x100 .f32
  wf : Vec F S128x32 .f32
  oh : Vec F S6144x128 .bf16
  wm : Vec F S128x128 .f32
  bm : Vec F S128x1 .f32
  w1 : Vec F S64x128 .f32
  b1 : Vec F S64x1 .f32
  w2 : Vec F S1x64 .f32

/-- Row `n` of an array of 32 rows. -/
def rowAt {e : EltTy} (A : Vec F S32x1x6144 e) (n : ℕ) : Vec F S1x1x6144 e := fun j => A (ix3 ⟨n % 32, Nat.mod_lt _ (by decide)⟩ 0 (j 2))
/-- The atoms' numbers of batch `b`. -/
def zAt (A : Vec F S4x1x1024 .i32) (b : ℕ) : Vec F S1x1x1024 .i32 := fun j => A (ix3 ⟨b % 4, Nat.mod_lt _ (by decide)⟩ 0 (j 2))

namespace Arrays
variable (A : Arrays F)

/-- The features of batch `b`'s atoms. -/
def x (b : ℕ) : Vec F S128x1024 .f32 := k1_pay3 (zAt A.z b) A.emb
/-- The messages of grid point `n`'s 128 atoms. -/
def msg (n : ℕ) : Vec F S128x128 .f32 := k1_pay1 (k1_pay5 (rowAt A.zj n) (k1_pay4 A.emb) (rowAt A.d2 n) A.wf A.oh)
/-- The messages of batch `b`'s atoms. -/
def msgs (b : ℕ) : Vec F S128x1024 .f32 := fun j => A.msg (8 * b + (j 1).val / 128) (ix2 (j 0) ⟨(j 1).val % 128, Nat.mod_lt _ (by decide)⟩)
/-- The output block of batch `b`. -/
def out (b : ℕ) : Vec F S1x1x128 .f32 := k1_pay2 (A.x b) A.wm (A.msgs b) A.bm A.w1 A.b1 A.w2

/-- What the scratches hold before grid point `n`: within a batch, its features and the messages so far. -/
def Inv (n : ℕ) (x : Vec F S128x1024 .f32) (e : Vec F S128x100 .bf16) (m : Vec F S128x1024 .f32) : Prop :=
  n % 8 ≠ 0 → x = A.x (n / 8) ∧ e = k1_pay4 A.emb ∧ ∀ j, (j 1).val < 128 * (n % 8) → m j = A.msgs (n / 8) j

/-- One grid point carries the invariant, and at a batch's last point its output is the batch's. -/
theorem step {n : ℕ} {x x' : Vec F S128x1024 .f32} {e e' : Vec F S128x100 .bf16} {m m' : Vec F S128x1024 .f32} {o o' : Vec F S1x1x128 .f32}
    (h : A.Inv n x e m) (hx : x' = xNew (n % 8) (zAt A.z (n / 8)) A.emb x) (he : e' = eNew (n % 8) A.emb e)
    (hm : m' = mNew (n % 8) (k1_pay1 (k1_pay5 (rowAt A.zj n) e' (rowAt A.d2 n) A.wf A.oh)) m)
    (ho : o' = oNew (n % 8) x' A.wm m' A.bm A.w1 A.b1 A.w2 o) :
    A.Inv (n + 1) x' e' m' ∧ (n % 8 ≠ 7 → o' = o) ∧ (n % 8 = 7 → o' = A.out (n / 8)) := by
  have ex : x' = A.x (n / 8) := by
    by_cases h0 : n % 8 = 0
    · rw [hx, xNew, if_pos h0]; rfl
    · rw [hx, xNew, if_neg h0, (h h0).1]
  have ee : e' = k1_pay4 A.emb := by
    by_cases h0 : n % 8 = 0
    · rw [he, eNew, if_pos h0]
    · rw [he, eNew, if_neg h0, (h h0).2.1]
  have em : ∀ j, (j 1).val < 128 * (n % 8) + 128 → m' j = A.msgs (n / 8) j := by
    intro j hj
    rw [hm, mNew]
    by_cases hc : 128 * (n % 8) ≤ (j 1).val
    · rw [dif_pos ⟨hc, hj⟩, ee]
      have e1 : (j 1).val / 128 = n % 8 := by omega
      have e2 : (j 1).val - 128 * (n % 8) = (j 1).val % 128 := by omega
      have e3 : 8 * (n / 8) + n % 8 = n := by omega
      unfold msgs
      simp only [e1, e2, e3]
      rfl
    · rw [dif_neg fun h' => hc h'.1]
      exact (h (by omega)).2.2 j (by omega)
  refine ⟨fun h1 => ?_, fun h7 => by rw [ho, oNew, if_neg h7], fun h7 => ?_⟩
  · have e1 : (n + 1) / 8 = n / 8 := by omega
    have e2 : (n + 1) % 8 = n % 8 + 1 := by omega
    rw [e1, e2]
    exact ⟨ex, ee, fun j hj => em j (by omega)⟩
  · rw [ho, oNew, if_pos h7, ex]
    have : m' = A.msgs (n / 8) := funext fun j => em j (by have : (j 1).val < 1024 := (j 1).isLt; omega)
    rw [this]; rfl

end Arrays

/-! ## One grid point -/

/-- A whole memref owned at known contents is its buffer, holding them. -/
theorem owns_all (d : Dev nD) {sp : Space} {sh : Shape} {e : EltTy} (m : Memref sig .tc sp sh e) (h : m.IsWhole) (X : sh.Idx → Elt F e) :
    (owns (tc d) m fullShare X : sProp (MM F)) = iprop(∃ f : Buf (Elt F) (m.view.loc (tc d)), ⌜m.view.read (Elt F) f = X⌝ ∗ (m.view.loc (tc d) ↦{fullShare} f)) := by
  unfold owns
  rw [h.set_eq_univ]

/-- The three scratches, holding contents with a property. -/
def scr (d : Dev nD) (a : Memref sig .tc .vmem S128x1024 .f32) (b : Memref sig .tc .vmem S128x100 .bf16) (c : Memref sig .tc .vmem S128x1024 .f32)
    (I : Vec F S128x1024 .f32 → Vec F S128x100 .bf16 → Vec F S128x1024 .f32 → Prop) : sProp (MM F) :=
  iprop(∃ (f : Buf (Elt F) (a.view.loc (tc d))) (g : Buf (Elt F) (b.view.loc (tc d))) (h : Buf (Elt F) (c.view.loc (tc d))),
    ⌜I (a.view.read (Elt F) f) (b.view.read (Elt F) g) (c.view.read (Elt F) h)⌝ ∗ (a.view.loc (tc d) ↦{fullShare} f) ∗ (b.view.loc (tc d) ↦{fullShare} g) ∗ (c.view.loc (tc d) ↦{fullShare} h))

set_option maxHeartbeats 1000000 in
/-- One grid point over a half's arrays: the input blocks as found, the invariant carried, the output block as found but at a
    batch's last point. -/
theorem wp_half (A : Arrays F) (n : ℕ) (d : Dev nD) (i : grid1.Coords) (hi : (i 1).val = n % 8) (arg2 : Memref sig .tc .vmem S1x1x6144 .i32) (harg2 : arg2.IsWhole) (arg3 : Memref sig .tc .vmem S1x1x6144 .f32) (harg3 : arg3.IsWhole) (arg4 : Memref sig .tc .vmem S1x1x1024 .i32) (harg4 : arg4.IsWhole) (arg5 : Memref sig .tc .vmem S128x100 .f32) (harg5 : arg5.IsWhole) (arg6 : Memref sig .tc .vmem S128x32 .f32) (harg6 : arg6.IsWhole) (arg7 : Memref sig .tc .vmem S6144x128 .bf16) (harg7 : arg7.IsWhole) (arg8 : Memref sig .tc .vmem S128x128 .f32) (harg8 : arg8.IsWhole) (arg9 : Memref sig .tc .vmem S128x1 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S1x64 .f32) (harg12 : arg12.IsWhole) (arg13 : Memref sig .tc .vmem S1x1x128 .f32) (harg13 : arg13.IsWhole) (arg14 : Memref sig .tc .vmem S128x1024 .f32) (harg14 : arg14.IsWhole) (arg15 : Memref sig .tc .vmem S128x100 .bf16) (harg15 : arg15.IsWhole) (arg16 : Memref sig .tc .vmem S128x1024 .f32) (harg16 : arg16.IsWhole)
    (X : Vec F S1x1x128 .f32) (E : Set ℕ) (Q : PUnit → sProp (MM F)) :
    iprop((owns (tc d) arg2 fullShare (rowAt A.zj n) ∗ owns (tc d) arg3 fullShare (rowAt A.d2 n) ∗ owns (tc d) arg4 fullShare (zAt A.z (n / 8)) ∗ owns (tc d) arg5 fullShare A.emb ∗ owns (tc d) arg6 fullShare A.wf ∗ owns (tc d) arg7 fullShare A.oh ∗ owns (tc d) arg8 fullShare A.wm ∗ owns (tc d) arg9 fullShare A.bm ∗ owns (tc d) arg10 fullShare A.w1 ∗ owns (tc d) arg11 fullShare A.b1 ∗ owns (tc d) arg12 fullShare A.w2)
        ∗ owns (tc d) arg13 fullShare X ∗ scr d arg14 arg15 arg16 (A.Inv n)
        ∗ ((owns (tc d) arg2 fullShare (rowAt A.zj n) ∗ owns (tc d) arg3 fullShare (rowAt A.d2 n) ∗ owns (tc d) arg4 fullShare (zAt A.z (n / 8)) ∗ owns (tc d) arg5 fullShare A.emb ∗ owns (tc d) arg6 fullShare A.wf ∗ owns (tc d) arg7 fullShare A.oh ∗ owns (tc d) arg8 fullShare A.wm ∗ owns (tc d) arg9 fullShare A.bm ∗ owns (tc d) arg10 fullShare A.w1 ∗ owns (tc d) arg11 fullShare A.b1 ∗ owns (tc d) arg12 fullShare A.w2)
          -∗ (∃ Y, ⌜(n % 8 ≠ 7 → Y = X) ∧ (n % 8 = 7 → Y = A.out (n / 8))⌝ ∗ owns (tc d) arg13 fullShare Y) -∗ scr d arg14 arg15 arg16 (A.Inv (n + 1)) -∗ Q ⟨⟩))
      ⊢ wp frame (wpE (defs₀ (F := F)) 𝒱₀ (tc d) none) E (cc1__tc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold scr
  simp only [owns_all d arg2 harg2, owns_all d arg3 harg3, owns_all d arg4 harg4, owns_all d arg5 harg5, owns_all d arg6 harg6, owns_all d arg7 harg7, owns_all d arg8 harg8,
    owns_all d arg9 harg9, owns_all d arg10 harg10, owns_all d arg11 harg11, owns_all d arg12 harg12, owns_all d arg13 harg13]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%f13, %e13, H13⟩, ⟨%f14, %f15, %f16, %hI, H14, H15, H16⟩, Hk⟩
  iapply (wp_point d i arg2 harg2 arg3 harg3 arg4 harg4 arg5 harg5 arg6 harg6 arg7 harg7 arg8 harg8 arg9 harg9 arg10 harg10 arg11 harg11 arg12 harg12 arg13 harg13 arg14 harg14 arg15 harg15 arg16 harg16
    f2 f3 f4 f5 f6 f7 f8 f9 f10 f11 f12 f13 f14 f15 f16 E Q)
  isplitl [H2 H3 H4 H5 H6 H7 H8 H9 H10 H11 H12]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13 H14 H15 H16]
  · isplitl [H13]; · iexact H13
    isplitl [H14]; · iexact H14
    isplitl [H15]; · iexact H15
    iexact H16
  iintro ⟨H2, H3, H4, H5, H6, H7, H8, H9, H10, H11, H12⟩ ⟨%g13, %g14, %g15, %g16, %hg, H13, H14, H15, H16⟩
  obtain ⟨h14, h15, h16, h13⟩ := hg
  rw [hi, e4, e5] at h14
  rw [hi, e5] at h15
  rw [hi, e2, e3, e6, e7] at h16
  rw [hi, e8, e9, e10, e11, e12, e13] at h13
  obtain ⟨s1, s2, s3⟩ := A.step hI h14 h15 h16 h13
  iapply Hk $$ [H2 H3 H4 H5 H6 H7 H8 H9 H10 H11 H12] [H13] [H14 H15 H16]
  · isplitl [H2]; · (iexists f2; isplitr; (ipureintro; exact e2); iexact H2)
    isplitl [H3]; · (iexists f3; isplitr; (ipureintro; exact e3); iexact H3)
    isplitl [H4]; · (iexists f4; isplitr; (ipureintro; exact e4); iexact H4)
    isplitl [H5]; · (iexists f5; isplitr; (ipureintro; exact e5); iexact H5)
    isplitl [H6]; · (iexists f6; isplitr; (ipureintro; exact e6); iexact H6)
    isplitl [H7]; · (iexists f7; isplitr; (ipureintro; exact e7); iexact H7)
    isplitl [H8]; · (iexists f8; isplitr; (ipureintro; exact e8); iexact H8)
    isplitl [H9]; · (iexists f9; isplitr; (ipureintro; exact e9); iexact H9)
    isplitl [H10]; · (iexists f10; isplitr; (ipureintro; exact e10); iexact H10)
    isplitl [H11]; · (iexists f11; isplitr; (ipureintro; exact e11); iexact H11)
    iexists f12; isplitr; · (ipureintro; exact e12)
    iexact H12
  · iexists _
    isplitr; · (ipureintro; exact ⟨s2, s3⟩)
    iexists g13; isplitr; · (ipureintro; rfl)
    iexact H13
  · iexists g14, g15, g16
    isplitr; · (ipureintro; exact s1)
    isplitl [H14]; · iexact H14
    isplitl [H15]; · iexact H15
    iexact H16

end Cert.Proof

end
-- ==== Proof.Region.lean ====
/- The two TensorCore calls' regions: their arrays, what each point leaves, and the whole call from any entry contents. -/
module

public import proofs.«01_k».proof.Proof.Half
public import proofs.«01_k».proof.Proof.Gen.KernelIdeal.Points
public import proofs.«01_k».proof.Proof.Gen.KernelIdeal.Launch
public import Idealize.ShloMosaic.Lib.Pipeline.RegionArraysS
public import Idealize.ShloMosaic.Lib.Pipeline.FrameBody
public import Idealize.ShloMosaic.Lib.Pipeline.Value

@[expose] public section

set_option maxRecDepth 16384

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers
open Idealize.ShloMosaic.Pipeline (Dat Cfg Window BodyObligation)

variable {F : FTy → Type} [FloatOps F] [Named F]

/-- The pairs at which the TensorCore may have waited by the time it has made `n` calls: those at or below the calls' levels. -/
def settled (d : Dev nD) (n : ℕ) : Set (SemLoc sig × HIx 2) := {x | (K (F := F)).lev (T d, x.1) x.2 ≤ 8 * n}

/-! ## Where a point's blocks lie -/

theorem coord1 : ∀ t : Fin grid1.N, (grid1.coords t 1).val = t.val % 8 := by decide +kernel
theorem index1_0 : ∀ (t : Fin grid1.N) a, win1_0.index t a = ![t.val, 0, 0] a := by decide +kernel
theorem index1_2 : ∀ (t : Fin grid1.N) a, win1_2.index t a = ![t.val / 8, 0, 0] a := by decide +kernel

/-- A place of the block of window 0 or 1 is in the point's row. -/
theorem row_place (t : Fin grid1.N) (j : S1x1x6144.Idx) : (win1_0.rect t).emb j = ix3 ⟨t.val % 32, Nat.mod_lt _ (by decide)⟩ 0 (j 2) := by
  have ht : t.val < 32 := lt_of_lt_of_eq t.isLt N_1
  have h0 : ((win1_0.rect t).emb j 0 : ℕ) = t.val * 1 + (j 0).val := (win1_0.rect_emb_val t j 0).trans (by rw [index1_0 t 0]; rfl)
  have h1 : ((win1_0.rect t).emb j 1 : ℕ) = 0 * 1 + (j 1).val := (win1_0.rect_emb_val t j 1).trans (by rw [index1_0 t 1]; rfl)
  have h2 : ((win1_0.rect t).emb j 2 : ℕ) = 0 * 6144 + (j 2).val := (win1_0.rect_emb_val t j 2).trans (by rw [index1_0 t 2]; rfl)
  have e0 : (j 0).val < 1 := (j 0).isLt
  have e1 : (j 1).val < 1 := (j 1).isLt
  refine funext fun a => Fin.ext ?_
  match a with
  | ⟨0, _⟩ => exact h0.trans (show t.val * 1 + (j 0).val = t.val % 32 by omega)
  | ⟨1, _⟩ => exact h1.trans (show 0 * 1 + (j 1).val = 0 by omega)
  | ⟨2, _⟩ => exact h2.trans (show 0 * 6144 + (j 2).val = (j 2).val by omega)

/-- A place of the block of window 2 is in the point's batch. -/
theorem batch_place (t : Fin grid1.N) (j : S1x1x1024.Idx) : (win1_2.rect t).emb j = ix3 ⟨t.val / 8 % 4, Nat.mod_lt _ (by decide)⟩ 0 (j 2) := by
  have ht : t.val < 32 := lt_of_lt_of_eq t.isLt N_1
  have h0 : ((win1_2.rect t).emb j 0 : ℕ) = t.val / 8 * 1 + (j 0).val := (win1_2.rect_emb_val t j 0).trans (by rw [index1_2 t 0]; rfl)
  have h1 : ((win1_2.rect t).emb j 1 : ℕ) = 0 * 1 + (j 1).val := (win1_2.rect_emb_val t j 1).trans (by rw [index1_2 t 1]; rfl)
  have h2 : ((win1_2.rect t).emb j 2 : ℕ) = 0 * 1024 + (j 2).val := (win1_2.rect_emb_val t j 2).trans (by rw [index1_2 t 2]; rfl)
  have e0 : (j 0).val < 1 := (j 0).isLt
  have e1 : (j 1).val < 1 := (j 1).isLt
  refine funext fun a => Fin.ext ?_
  match a with
  | ⟨0, _⟩ => exact h0.trans (show t.val / 8 * 1 + (j 0).val = t.val / 8 % 4 by omega)
  | ⟨1, _⟩ => exact h1.trans (show 0 * 1 + (j 1).val = 0 by omega)
  | ⟨2, _⟩ => exact h2.trans (show 0 * 1024 + (j 2).val = (j 2).val by omega)

/-- A window whose block is its whole array: every place is itself. -/
theorem whole_place (w : Window sig grid1) (t : Fin grid1.N) (h : ∀ a, w.index t a = 0) (j : (w.xblock (grid1.coords t)).Idx) (a : Fin w.shape.rank) :
    ((w.rect t).emb j a : ℕ) = j a := w.rect_emb_val_of_index_zero t a (h a) j

theorem zero2 {f : Fin 2 → ℕ} (h0 : f 0 = 0) (h1 : f 1 = 0) : ∀ a, f a = 0 := fun a => match a with | ⟨0, _⟩ => h0 | ⟨1, _⟩ => h1

theorem rowEq {e : EltTy} (A : Vec F S32x1x6144 e) (t : Fin grid1.N) : (fun j => A ((win1_0.rect t).emb j)) = rowAt A t.val :=
  funext fun j => congrArg A (row_place t j)
theorem batchEq (A : Vec F S4x1x1024 .i32) (t : Fin grid1.N) : (fun j => A ((win1_2.rect t).emb j)) = zAt A (t.val / 8) :=
  funext fun j => congrArg A (batch_place t j)
theorem allEq {S : Shape} {e : EltTy} (A : Vec F S e) (emb : S.Idx → S.Idx) (h : ∀ j a, (emb j a : ℕ) = j a) : (fun j => A (emb j)) = A :=
  funext fun j => congrArg A (funext fun a => Fin.ext (h j a))

/-! ## One point, in the order the pipeline holds its buffers -/

/-- `wp_half` with the buffers in the order the pipeline holds them, beside what the point does not touch. -/
theorem wp_half' (A : Arrays F) (n : ℕ) (d : Dev nD) (i : grid1.Coords) (hi : (i 1).val = n % 8) (arg2 : Memref sig .tc .vmem S1x1x6144 .i32) (harg2 : arg2.IsWhole) (arg3 : Memref sig .tc .vmem S1x1x6144 .f32) (harg3 : arg3.IsWhole) (arg4 : Memref sig .tc .vmem S1x1x1024 .i32) (harg4 : arg4.IsWhole) (arg5 : Memref sig .tc .vmem S128x100 .f32) (harg5 : arg5.IsWhole) (arg6 : Memref sig .tc .vmem S128x32 .f32) (harg6 : arg6.IsWhole) (arg7 : Memref sig .tc .vmem S6144x128 .bf16) (harg7 : arg7.IsWhole) (arg8 : Memref sig .tc .vmem S128x128 .f32) (harg8 : arg8.IsWhole) (arg9 : Memref sig .tc .vmem S128x1 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S1x64 .f32) (harg12 : arg12.IsWhole) (arg13 : Memref sig .tc .vmem S1x1x128 .f32) (harg13 : arg13.IsWhole) (arg14 : Memref sig .tc .vmem S128x1024 .f32) (harg14 : arg14.IsWhole) (arg15 : Memref sig .tc .vmem S128x100 .bf16) (harg15 : arg15.IsWhole) (arg16 : Memref sig .tc .vmem S128x1024 .f32) (harg16 : arg16.IsWhole)
    (R O O' : sProp (MM F)) (hO : O = O') (E : Set ℕ) (X : Vec F S1x1x128 .f32) (L : sProp (MM F))
    (hL : ∀ Y, (n % 8 ≠ 7 → Y = X) → (n % 8 = 7 → Y = A.out (n / 8)) → (owns (tc d) arg13 fullShare Y : sProp (MM F)) ⊢ L) :
    iprop((scr d arg14 arg15 arg16 (A.Inv n) ∗ R) ∗ O ∗ owns (tc d) arg2 fullShare (rowAt A.zj n) ∗ owns (tc d) arg3 fullShare (rowAt A.d2 n) ∗ owns (tc d) arg4 fullShare (zAt A.z (n / 8)) ∗ owns (tc d) arg5 fullShare A.emb ∗ owns (tc d) arg6 fullShare A.wf ∗ owns (tc d) arg7 fullShare A.oh ∗ owns (tc d) arg8 fullShare A.wm ∗ owns (tc d) arg9 fullShare A.bm ∗ owns (tc d) arg10 fullShare A.w1 ∗ owns (tc d) arg11 fullShare A.b1 ∗ owns (tc d) arg12 fullShare A.w2 ∗ owns (tc d) arg13 fullShare X)
      ⊢ wp frame (wpE (defs₀ (F := F)) 𝒱₀ (tc d) none) E (cc1__tc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          fun _ => iprop((scr d arg14 arg15 arg16 (A.Inv (n + 1)) ∗ R) ∗ O' ∗ owns (tc d) arg2 fullShare (rowAt A.zj n) ∗ owns (tc d) arg3 fullShare (rowAt A.d2 n) ∗ owns (tc d) arg4 fullShare (zAt A.z (n / 8)) ∗ owns (tc d) arg5 fullShare A.emb ∗ owns (tc d) arg6 fullShare A.wf ∗ owns (tc d) arg7 fullShare A.oh ∗ owns (tc d) arg8 fullShare A.wm ∗ owns (tc d) arg9 fullShare A.bm ∗ owns (tc d) arg10 fullShare A.w1 ∗ owns (tc d) arg11 fullShare A.b1 ∗ owns (tc d) arg12 fullShare A.w2 ∗ L) := by
  subst hO
  iintro ⟨⟨Hs, HR⟩, HO, H2, H3, H4, H5, H6, H7, H8, H9, H10, H11, H12, H13⟩
  iapply (wp_half A n d i hi arg2 harg2 arg3 harg3 arg4 harg4 arg5 harg5 arg6 harg6 arg7 harg7 arg8 harg8 arg9 harg9 arg10 harg10 arg11 harg11 arg12 harg12 arg13 harg13 arg14 harg14 arg15 harg15 arg16 harg16 X E _)
  isplitl [H2 H3 H4 H5 H6 H7 H8 H9 H10 H11 H12]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  isplitl [Hs]; · iexact Hs
  iintro ⟨H2, H3, H4, H5, H6, H7, H8, H9, H10, H11, H12⟩ ⟨%Y, %hY, H13⟩ Hs
  isplitl [Hs HR]
  · isplitl [Hs]; · iexact Hs
    iexact HR
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (hL Y hY.1 hY.2)
  iexact H13

/-! ## Call 1 -/

/-- The arrays of the call at a valuation. -/
def arrs1 (V : Valuation τ sig (Elt F)) : Arrays F :=
  ⟨V (dr main_v28), V (dr main_v29), V (dr main_v31), V (dr main_v14), V (dr main_v15), V (dr main_v13), V (dr main_v16), V (dr main_v17), V (dr main_v18), V (dr main_v19), V (dr main_v20)⟩

/-- The scoped buffers: the call's three scratches, and the others. -/
theorem split1 (d : Dev nD) : (Pipeline.scopedRest spec1 d : sProp (MM F))
    = iprop(((∃ f : Buf (Elt F) ((tc d).loc cc1_scratch0), ((tc d).loc cc1_scratch0) ↦{fullShare} f) ∗ (∃ f : Buf (Elt F) ((tc d).loc cc1_scratch1), ((tc d).loc cc1_scratch1) ↦{fullShare} f) ∗ (∃ f : Buf (Elt F) ((tc d).loc cc1_scratch2), ((tc d).loc cc1_scratch2) ↦{fullShare} f))
        ∗ Pipeline.scopedRestBut spec1 d [cc1_scratch0, cc1_scratch1, cc1_scratch2]) :=
  Pipeline.scopedRest_split_of_list spec1 d [cc1_scratch0, cc1_scratch1, cc1_scratch2] (by decide) (by decide)

/-- The scratches and the other buffers open as what the first point finds. -/
theorem open1 (V : Valuation τ sig (Elt F)) (d : Dev nD) : (Pipeline.scopedRest spec1 d : sProp (MM F))
    ⊢ iprop(scr d (Memref.whole cc1_scratch0) (Memref.whole cc1_scratch1) (Memref.whole cc1_scratch2) ((arrs1 V).Inv 0) ∗ Pipeline.scopedRestBut spec1 d [cc1_scratch0, cc1_scratch1, cc1_scratch2]) := by
  rw [split1]
  iintro ⟨⟨⟨%f, Hf⟩, ⟨%g, Hg⟩, ⟨%h, Hh⟩⟩, HR⟩
  isplitr [HR]; swap; (· iexact HR)
  unfold scr
  iexists f, g, h
  isplitr; (ipureintro; exact fun h => absurd rfl h)
  isplitl [Hf]; · iexact Hf
  isplitl [Hg]; · iexact Hg
  iexact Hh

/-- What the last point leaves closes as the scoped buffers. -/
theorem close1 (V : Valuation τ sig (Elt F)) (d : Dev nD) (n : ℕ) :
    iprop(scr d (Memref.whole cc1_scratch0) (Memref.whole cc1_scratch1) (Memref.whole cc1_scratch2) ((arrs1 V).Inv n) ∗ Pipeline.scopedRestBut spec1 d [cc1_scratch0, cc1_scratch1, cc1_scratch2])
      ⊢ (Pipeline.scopedRest spec1 d : sProp (MM F)) := by
  rw [split1]
  unfold scr
  iintro ⟨⟨%f, %g, %h, -, Hf, Hg, Hh⟩, HR⟩
  isplitr [HR]; swap; (· iexact HR)
  isplitl [Hf]; · iexists f; iexact Hf
  isplitl [Hg]; · iexists g; iexact Hg
  iexists h; iexact Hh

/-- The scoped buffers the call does not use. -/
abbrev rest1 (d : Dev nD) : sProp (MM F) := Pipeline.scopedRestBut spec1 d [cc1_scratch0, cc1_scratch1, cc1_scratch2]

/-- The call's proof data, entered at `V`. -/
def dat1 (V : Valuation τ sig (Elt F)) (d : Dev nD) : Dat τ (Elt F) (HIx 2) ℕ UU ℕ cfg1 d where
  A w := V (dr (Pipeline.arrRef spec1 w))
  after w t := match w with
    | ⟨0, _⟩ => rowAt (V (dr main_v28)) t.val
    | ⟨1, _⟩ => rowAt (V (dr main_v29)) t.val
    | ⟨2, _⟩ => zAt (V (dr main_v31)) (t.val / 8)
    | ⟨3, _⟩ => V (dr main_v14)
    | ⟨4, _⟩ => V (dr main_v15)
    | ⟨5, _⟩ => V (dr main_v13)
    | ⟨6, _⟩ => V (dr main_v16)
    | ⟨7, _⟩ => V (dr main_v17)
    | ⟨8, _⟩ => V (dr main_v18)
    | ⟨9, _⟩ => V (dr main_v19)
    | ⟨10, _⟩ => V (dr main_v20)
    | ⟨11, _⟩ => (arrs1 V).out (t.val / 8)
  Φ n := iprop(scr d (Memref.whole cc1_scratch0) (Memref.whole cc1_scratch1) (Memref.whole cc1_scratch2) ((arrs1 V).Inv n.val) ∗ rest1 d)
  q _ := fullShare
  owed _ := (K (F := F)).Otc d 1
  recorded _ := settled (F := F) d 1

section
variable (V : Valuation τ sig (Elt F)) (d : Dev nD) (t : Fin cfg1.N)

/-- An input's buffer holds its block when the body runs, and the body leaves it. -/
theorem in1 (w : Fin 12) (hw : w ≠ 11) (X) : (dat1 V d).before w t X = (dat1 V d).after w t :=
  have key : ∀ (w : Fin 12) (_ : (cfg1.win w).isOut = false) (_ : ∀ i, cfg1.idle w i = false)
      (_ : ∀ t t' : Fin cfg1.N, (cfg1.win w).index t = (cfg1.win w).index t' → (cfg1.win w).clip (cfg1.grid.coords t) = (cfg1.win w).clip (cfg1.grid.coords t'))
      (_ : ∀ t, (cfg1.win w).cut (cfg1.grid.coords t) ((dat1 V d).after w t) = (dat1 V d).blockOf w t)
      (_ : ∀ X, (dat1 V d).fetched w t X = (dat1 V d).after w t), ∀ X, (dat1 V d).before w t X = (dat1 V d).after w t :=
    fun w h1 h2 h3 h4 h5 X => ((dat1 V d).before_in_eq_fetched w h1 h2 h3 h4 t X).trans (h5 X)
  match w with
  | ⟨0, _⟩ => key 0 rfl (fun _ => rfl) (fun _ _ _ => rfl) (fun t => (rowEq (V (dr main_v28)) t).symm) (fun _ => rowEq (V (dr main_v28)) t) X
  | ⟨1, _⟩ => key 1 rfl (fun _ => rfl) (fun _ _ _ => rfl) (fun t => (rowEq (V (dr main_v29)) t).symm) (fun _ => rowEq (V (dr main_v29)) t) X
  | ⟨2, _⟩ => key 2 rfl (fun _ => rfl) (fun _ _ _ => rfl) (fun t => (batchEq (V (dr main_v31)) t).symm) (fun _ => batchEq (V (dr main_v31)) t) X
  | ⟨3, _⟩ => key 3 rfl (fun _ => rfl) (fun _ _ _ => rfl) (fun t => (allEq (V (dr main_v14)) (win1_3.rect t).emb (whole_place win1_3 t (zero2 rfl rfl))).symm) (fun _ => allEq (V (dr main_v14)) (win1_3.rect t).emb (whole_place win1_3 t (zero2 rfl rfl))) X
  | ⟨4, _⟩ => key 4 rfl (fun _ => rfl) (fun _ _ _ => rfl) (fun t => (allEq (V (dr main_v15)) (win1_4.rect t).emb (whole_place win1_4 t (zero2 rfl rfl))).symm) (fun _ => allEq (V (dr main_v15)) (win1_4.rect t).emb (whole_place win1_4 t (zero2 rfl rfl))) X
  | ⟨5, _⟩ => key 5 rfl (fun _ => rfl) (fun _ _ _ => rfl) (fun t => (allEq (V (dr main_v13)) (win1_5.rect t).emb (whole_place win1_5 t (zero2 rfl rfl))).symm) (fun _ => allEq (V (dr main_v13)) (win1_5.rect t).emb (whole_place win1_5 t (zero2 rfl rfl))) X
  | ⟨6, _⟩ => key 6 rfl (fun _ => rfl) (fun _ _ _ => rfl) (fun t => (allEq (V (dr main_v16)) (win1_6.rect t).emb (whole_place win1_6 t (zero2 rfl rfl))).symm) (fun _ => allEq (V (dr main_v16)) (win1_6.rect t).emb (whole_place win1_6 t (zero2 rfl rfl))) X
  | ⟨7, _⟩ => key 7 rfl (fun _ => rfl) (fun _ _ _ => rfl) (fun t => (allEq (V (dr main_v17)) (win1_7.rect t).emb (whole_place win1_7 t (zero2 rfl rfl))).symm) (fun _ => allEq (V (dr main_v17)) (win1_7.rect t).emb (whole_place win1_7 t (zero2 rfl rfl))) X
  | ⟨8, _⟩ => key 8 rfl (fun _ => rfl) (fun _ _ _ => rfl) (fun t => (allEq (V (dr main_v18)) (win1_8.rect t).emb (whole_place win1_8 t (zero2 rfl rfl))).symm) (fun _ => allEq (V (dr main_v18)) (win1_8.rect t).emb (whole_place win1_8 t (zero2 rfl rfl))) X
  | ⟨9, _⟩ => key 9 rfl (fun _ => rfl) (fun _ _ _ => rfl) (fun t => (allEq (V (dr main_v19)) (win1_9.rect t).emb (whole_place win1_9 t (zero2 rfl rfl))).symm) (fun _ => allEq (V (dr main_v19)) (win1_9.rect t).emb (whole_place win1_9 t (zero2 rfl rfl))) X
  | ⟨10, _⟩ => key 10 rfl (fun _ => rfl) (fun _ _ _ => rfl) (fun t => (allEq (V (dr main_v20)) (win1_10.rect t).emb (whole_place win1_10 t (zero2 rfl rfl))).symm) (fun _ => allEq (V (dr main_v20)) (win1_10.rect t).emb (whole_place win1_10 t (zero2 rfl rfl))) X
  | ⟨11, _⟩ => absurd rfl hw

theorem idle1_last (h : t.val % 8 = 7) : idle1 11 (grid1.coords t) = false := by
  show (!(k1_cond2 (grid1.coords t) == 1#1)) = false
  rw [show k1_cond2 (grid1.coords t) = 1#1 from (last_iff (grid1.coords t 1)).mpr ((coord1 t).trans h)]; rfl
theorem idle1_else (h : t.val % 8 ≠ 7) : idle1 11 (grid1.coords t) = true := by
  show (!(k1_cond2 (grid1.coords t) == 1#1)) = true
  rw [Bool.not_eq_true', beq_eq_false_iff_ne]
  exact fun e => h ((coord1 t).symm.trans ((last_iff (grid1.coords t 1)).mp e))

set_option maxHeartbeats 1000000 in
/-- The body at every point, as the pipeline asks for it. -/
theorem body1 : BodyObligation (dat1 V d) (defs₀ (F := F)) 𝒱₀ none Set.univ := fun t => by
  rw [bigSep_W1, bigSep_W1]
  simp only [in1 V d t 0 (by decide), in1 V d t 1 (by decide), in1 V d t 2 (by decide), in1 V d t 3 (by decide), in1 V d t 4 (by decide), in1 V d t 5 (by decide),
    in1 V d t 6 (by decide), in1 V d t 7 (by decide), in1 V d t 8 (by decide), in1 V d t 9 (by decide), in1 V d t 10 (by decide)]
  rw [show (dat1 V d).Φ t.castSucc = iprop(scr d (Memref.whole cc1_scratch0) (Memref.whole cc1_scratch1) (Memref.whole cc1_scratch2) ((arrs1 V).Inv t.val) ∗ rest1 d) from rfl,
    show (dat1 V d).Φ t.succ = iprop(scr d (Memref.whole cc1_scratch0) (Memref.whole cc1_scratch1) (Memref.whole cc1_scratch2) ((arrs1 V).Inv (t.val + 1)) ∗ rest1 d) from rfl]
  iintro ⟨HΦ, HO, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%X, H11⟩⟩
  have hw := wp_half' (arrs1 V) t.val d (grid1.coords t) (coord1 t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3))
    _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8))
    _ (hstage1_9 ((cfg1.slots t 9).cast nbuf1_9)) _ (hstage1_10 ((cfg1.slots t 10).cast nbuf1_10)) _ (hstage1_11 ((cfg1.slots t 11).cast nbuf1_11)) (Memref.whole cc1_scratch0) (Memref.isWhole_whole _) (Memref.whole cc1_scratch1) (Memref.isWhole_whole _) (Memref.whole cc1_scratch2) (Memref.isWhole_whole _)
    (rest1 d) _ _ (show (dat1 V d).owesAt none t.castSucc = (dat1 V d).owesAt none t.succ from rfl) Set.univ ((dat1 V d).before 11 t X)
  by_cases h7 : t.val % 8 = 7
  · rw [idle1_last t h7]
    iapply (hw (owns (tc d) ((cfg1.win 11).stage (cfg1.slots t 11)) fullShare ((arrs1 V).out (t.val / 8))) fun Y _ h => by rw [h h7]; exact BI.Entails.refl _)
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [idle1_else t h7, show (win1 11).flush t = false from Bool.eq_false_iff.mpr (mt (flush1_11 t).mp h7)]
    iapply (hw iprop(∃ X, owns (tc d) ((cfg1.win 11).stage (cfg1.slots t 11)) fullShare ((dat1 V d).before 11 t X)) fun Y h _ => by
      rw [h h7]; exact exists_intro (Φ := fun X => (owns (tc d) ((cfg1.win 11).stage (cfg1.slots t 11)) fullShare ((dat1 V d).before 11 t X) : sProp (MM F))) X)
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
end

/-! ## Call 3 -/

/-- The arrays of the call at a valuation. -/
def arrs3 (V : Valuation τ sig (Elt F)) : Arrays F :=
  ⟨V (dr main_v40), V (dr main_v41), V (dr main_v43), V (dr main_v14), V (dr main_v15), V (dr main_v13), V (dr main_v16), V (dr main_v17), V (dr main_v18), V (dr main_v19), V (dr main_v20)⟩

/-- The scoped buffers: the call's three scratches, and the others. -/
theorem split3 (d : Dev nD) : (Pipeline.scopedRest spec3 d : sProp (MM F))
    = iprop(((∃ f : Buf (Elt F) ((tc d).loc cc3_scratch0), ((tc d).loc cc3_scratch0) ↦{fullShare} f) ∗ (∃ f : Buf (Elt F) ((tc d).loc cc3_scratch1), ((tc d).loc cc3_scratch1) ↦{fullShare} f) ∗ (∃ f : Buf (Elt F) ((tc d).loc cc3_scratch2), ((tc d).loc cc3_scratch2) ↦{fullShare} f))
        ∗ Pipeline.scopedRestBut spec3 d [cc3_scratch0, cc3_scratch1, cc3_scratch2]) :=
  Pipeline.scopedRest_split_of_list spec3 d [cc3_scratch0, cc3_scratch1, cc3_scratch2] (by decide) (by decide)

/-- The scratches and the other buffers open as what the first point finds. -/
theorem open3 (V : Valuation τ sig (Elt F)) (d : Dev nD) : (Pipeline.scopedRest spec3 d : sProp (MM F))
    ⊢ iprop(scr d (Memref.whole cc3_scratch0) (Memref.whole cc3_scratch1) (Memref.whole cc3_scratch2) ((arrs3 V).Inv 0) ∗ Pipeline.scopedRestBut spec3 d [cc3_scratch0, cc3_scratch1, cc3_scratch2]) := by
  rw [split3]
  iintro ⟨⟨⟨%f, Hf⟩, ⟨%g, Hg⟩, ⟨%h, Hh⟩⟩, HR⟩
  isplitr [HR]; swap; (· iexact HR)
  unfold scr
  iexists f, g, h
  isplitr; (ipureintro; exact fun h => absurd rfl h)
  isplitl [Hf]; · iexact Hf
  isplitl [Hg]; · iexact Hg
  iexact Hh

/-- What the last point leaves closes as the scoped buffers. -/
theorem close3 (V : Valuation τ sig (Elt F)) (d : Dev nD) (n : ℕ) :
    iprop(scr d (Memref.whole cc3_scratch0) (Memref.whole cc3_scratch1) (Memref.whole cc3_scratch2) ((arrs3 V).Inv n) ∗ Pipeline.scopedRestBut spec3 d [cc3_scratch0, cc3_scratch1, cc3_scratch2])
      ⊢ (Pipeline.scopedRest spec3 d : sProp (MM F)) := by
  rw [split3]
  unfold scr
  iintro ⟨⟨%f, %g, %h, -, Hf, Hg, Hh⟩, HR⟩
  isplitr [HR]; swap; (· iexact HR)
  isplitl [Hf]; · iexists f; iexact Hf
  isplitl [Hg]; · iexists g; iexact Hg
  iexists h; iexact Hh

/-- The scoped buffers the call does not use. -/
abbrev rest3 (d : Dev nD) : sProp (MM F) := Pipeline.scopedRestBut spec3 d [cc3_scratch0, cc3_scratch1, cc3_scratch2]

/-- The call's proof data, entered at `V`. -/
def dat3 (V : Valuation τ sig (Elt F)) (d : Dev nD) : Dat τ (Elt F) (HIx 2) ℕ UU ℕ cfg3 d where
  A w := V (dr (Pipeline.arrRef spec3 w))
  after w t := match w with
    | ⟨0, _⟩ => rowAt (V (dr main_v40)) t.val
    | ⟨1, _⟩ => rowAt (V (dr main_v41)) t.val
    | ⟨2, _⟩ => zAt (V (dr main_v43)) (t.val / 8)
    | ⟨3, _⟩ => V (dr main_v14)
    | ⟨4, _⟩ => V (dr main_v15)
    | ⟨5, _⟩ => V (dr main_v13)
    | ⟨6, _⟩ => V (dr main_v16)
    | ⟨7, _⟩ => V (dr main_v17)
    | ⟨8, _⟩ => V (dr main_v18)
    | ⟨9, _⟩ => V (dr main_v19)
    | ⟨10, _⟩ => V (dr main_v20)
    | ⟨11, _⟩ => (arrs3 V).out (t.val / 8)
  Φ n := iprop(scr d (Memref.whole cc3_scratch0) (Memref.whole cc3_scratch1) (Memref.whole cc3_scratch2) ((arrs3 V).Inv n.val) ∗ rest3 d)
  q _ := fullShare
  owed _ := (K (F := F)).Otc d 2
  recorded _ := settled (F := F) d 2

section
variable (V : Valuation τ sig (Elt F)) (d : Dev nD) (t : Fin cfg3.N)

/-- An input's buffer holds its block when the body runs, and the body leaves it. -/
theorem in3 (w : Fin 12) (hw : w ≠ 11) (X) : (dat3 V d).before w t X = (dat3 V d).after w t :=
  have key : ∀ (w : Fin 12) (_ : (cfg3.win w).isOut = false) (_ : ∀ i, cfg3.idle w i = false)
      (_ : ∀ t t' : Fin cfg3.N, (cfg3.win w).index t = (cfg3.win w).index t' → (cfg3.win w).clip (cfg3.grid.coords t) = (cfg3.win w).clip (cfg3.grid.coords t'))
      (_ : ∀ t, (cfg3.win w).cut (cfg3.grid.coords t) ((dat3 V d).after w t) = (dat3 V d).blockOf w t)
      (_ : ∀ X, (dat3 V d).fetched w t X = (dat3 V d).after w t), ∀ X, (dat3 V d).before w t X = (dat3 V d).after w t :=
    fun w h1 h2 h3 h4 h5 X => ((dat3 V d).before_in_eq_fetched w h1 h2 h3 h4 t X).trans (h5 X)
  match w with
  | ⟨0, _⟩ => key 0 rfl (fun _ => rfl) (fun _ _ _ => rfl) (fun t => (rowEq (V (dr main_v40)) t).symm) (fun _ => rowEq (V (dr main_v40)) t) X
  | ⟨1, _⟩ => key 1 rfl (fun _ => rfl) (fun _ _ _ => rfl) (fun t => (rowEq (V (dr main_v41)) t).symm) (fun _ => rowEq (V (dr main_v41)) t) X
  | ⟨2, _⟩ => key 2 rfl (fun _ => rfl) (fun _ _ _ => rfl) (fun t => (batchEq (V (dr main_v43)) t).symm) (fun _ => batchEq (V (dr main_v43)) t) X
  | ⟨3, _⟩ => key 3 rfl (fun _ => rfl) (fun _ _ _ => rfl) (fun t => (allEq (V (dr main_v14)) (win3_3.rect t).emb (whole_place win3_3 t (zero2 rfl rfl))).symm) (fun _ => allEq (V (dr main_v14)) (win3_3.rect t).emb (whole_place win3_3 t (zero2 rfl rfl))) X
  | ⟨4, _⟩ => key 4 rfl (fun _ => rfl) (fun _ _ _ => rfl) (fun t => (allEq (V (dr main_v15)) (win3_4.rect t).emb (whole_place win3_4 t (zero2 rfl rfl))).symm) (fun _ => allEq (V (dr main_v15)) (win3_4.rect t).emb (whole_place win3_4 t (zero2 rfl rfl))) X
  | ⟨5, _⟩ => key 5 rfl (fun _ => rfl) (fun _ _ _ => rfl) (fun t => (allEq (V (dr main_v13)) (win3_5.rect t).emb (whole_place win3_5 t (zero2 rfl rfl))).symm) (fun _ => allEq (V (dr main_v13)) (win3_5.rect t).emb (whole_place win3_5 t (zero2 rfl rfl))) X
  | ⟨6, _⟩ => key 6 rfl (fun _ => rfl) (fun _ _ _ => rfl) (fun t => (allEq (V (dr main_v16)) (win3_6.rect t).emb (whole_place win3_6 t (zero2 rfl rfl))).symm) (fun _ => allEq (V (dr main_v16)) (win3_6.rect t).emb (whole_place win3_6 t (zero2 rfl rfl))) X
  | ⟨7, _⟩ => key 7 rfl (fun _ => rfl) (fun _ _ _ => rfl) (fun t => (allEq (V (dr main_v17)) (win3_7.rect t).emb (whole_place win3_7 t (zero2 rfl rfl))).symm) (fun _ => allEq (V (dr main_v17)) (win3_7.rect t).emb (whole_place win3_7 t (zero2 rfl rfl))) X
  | ⟨8, _⟩ => key 8 rfl (fun _ => rfl) (fun _ _ _ => rfl) (fun t => (allEq (V (dr main_v18)) (win3_8.rect t).emb (whole_place win3_8 t (zero2 rfl rfl))).symm) (fun _ => allEq (V (dr main_v18)) (win3_8.rect t).emb (whole_place win3_8 t (zero2 rfl rfl))) X
  | ⟨9, _⟩ => key 9 rfl (fun _ => rfl) (fun _ _ _ => rfl) (fun t => (allEq (V (dr main_v19)) (win3_9.rect t).emb (whole_place win3_9 t (zero2 rfl rfl))).symm) (fun _ => allEq (V (dr main_v19)) (win3_9.rect t).emb (whole_place win3_9 t (zero2 rfl rfl))) X
  | ⟨10, _⟩ => key 10 rfl (fun _ => rfl) (fun _ _ _ => rfl) (fun t => (allEq (V (dr main_v20)) (win3_10.rect t).emb (whole_place win3_10 t (zero2 rfl rfl))).symm) (fun _ => allEq (V (dr main_v20)) (win3_10.rect t).emb (whole_place win3_10 t (zero2 rfl rfl))) X
  | ⟨11, _⟩ => absurd rfl hw

theorem idle3_last (h : t.val % 8 = 7) : idle3 11 (grid3.coords t) = false := by
  show (!(k3_cond2 (grid3.coords t) == 1#1)) = false
  rw [show k3_cond2 (grid3.coords t) = 1#1 from (last_iff (grid3.coords t 1)).mpr ((coord1 t).trans h)]; rfl
theorem idle3_else (h : t.val % 8 ≠ 7) : idle3 11 (grid3.coords t) = true := by
  show (!(k3_cond2 (grid3.coords t) == 1#1)) = true
  rw [Bool.not_eq_true', beq_eq_false_iff_ne]
  exact fun e => h ((coord1 t).symm.trans ((last_iff (grid3.coords t 1)).mp e))

set_option maxHeartbeats 1000000 in
/-- The body at every point, as the pipeline asks for it. -/
theorem body3 : BodyObligation (dat3 V d) (defs₀ (F := F)) 𝒱₀ none Set.univ := fun t => by
  rw [bigSep_W3, bigSep_W3]
  simp only [in3 V d t 0 (by decide), in3 V d t 1 (by decide), in3 V d t 2 (by decide), in3 V d t 3 (by decide), in3 V d t 4 (by decide), in3 V d t 5 (by decide),
    in3 V d t 6 (by decide), in3 V d t 7 (by decide), in3 V d t 8 (by decide), in3 V d t 9 (by decide), in3 V d t 10 (by decide)]
  rw [show (dat3 V d).Φ t.castSucc = iprop(scr d (Memref.whole cc3_scratch0) (Memref.whole cc3_scratch1) (Memref.whole cc3_scratch2) ((arrs3 V).Inv t.val) ∗ rest3 d) from rfl,
    show (dat3 V d).Φ t.succ = iprop(scr d (Memref.whole cc3_scratch0) (Memref.whole cc3_scratch1) (Memref.whole cc3_scratch2) ((arrs3 V).Inv (t.val + 1)) ∗ rest3 d) from rfl]
  iintro ⟨HΦ, HO, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%X, H11⟩⟩
  have hw := wp_half' (arrs3 V) t.val d (grid3.coords t) (coord1 t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3))
    _ (hstage3_4 ((cfg3.slots t 4).cast nbuf3_4)) _ (hstage3_5 ((cfg3.slots t 5).cast nbuf3_5)) _ (hstage3_6 ((cfg3.slots t 6).cast nbuf3_6)) _ (hstage3_7 ((cfg3.slots t 7).cast nbuf3_7)) _ (hstage3_8 ((cfg3.slots t 8).cast nbuf3_8))
    _ (hstage3_9 ((cfg3.slots t 9).cast nbuf3_9)) _ (hstage3_10 ((cfg3.slots t 10).cast nbuf3_10)) _ (hstage3_11 ((cfg3.slots t 11).cast nbuf3_11)) (Memref.whole cc3_scratch0) (Memref.isWhole_whole _) (Memref.whole cc3_scratch1) (Memref.isWhole_whole _) (Memref.whole cc3_scratch2) (Memref.isWhole_whole _)
    (rest3 d) _ _ (show (dat3 V d).owesAt none t.castSucc = (dat3 V d).owesAt none t.succ from rfl) Set.univ ((dat3 V d).before 11 t X)
  by_cases h7 : t.val % 8 = 7
  · rw [idle3_last t h7]
    iapply (hw (owns (tc d) ((cfg3.win 11).stage (cfg3.slots t 11)) fullShare ((arrs3 V).out (t.val / 8))) fun Y _ h => by rw [h h7]; exact BI.Entails.refl _)
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [idle3_else t h7, show (win3 11).flush t = false from Bool.eq_false_iff.mpr (mt (flush3_11 t).mp h7)]
    iapply (hw iprop(∃ X, owns (tc d) ((cfg3.win 11).stage (cfg3.slots t 11)) fullShare ((dat3 V d).before 11 t X)) fun Y h _ => by
      rw [h h7]; exact exists_intro (Φ := fun X => (owns (tc d) ((cfg3.win 11).stage (cfg3.slots t 11)) fullShare ((dat3 V d).before 11 t X) : sProp (MM F))) X)
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
end

end Cert.Proof

end
-- ==== Proof.Seg.lean ====
/- The two TensorCore calls as segments of the run: entered with every unscoped buffer held at a valuation, left with them held
   at what the call's pipeline leaves. -/
module

public import proofs.«01_k».proof.Proof.Region
public import proofs.«01_k».proof.Proof.Pay
public import Idealize.ShloMosaic.Lib.Pipeline.RegionArraysS

@[expose] public section

noncomputable section

namespace Cert.Proof

open Cert.KernelIdeal Cert.KernelIdeal.Gen

open Idealize.ShloMosaic
open Idealize.ShloMosaic.Pipeline (Dat BodyObligation ucRefs afterRegion)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The pipelines' only way to be laid out. -/
abbrev adm (p : Fin 2) : (pcfgs (F := F) p).Adm := (cfgs p).toPCfg_adm

/-- The proof data of the two pipelines, entered at `V` and `W`. -/
def pdats (V W : Dev nD → Valuation τ sig (Elt F)) : (p : Fin 2) → (c : Dev nD) → Dat τ (Elt F) (HIx 2) ℕ UU ℕ (Pipeline.pin (pcfgs (F := F)) adm p) c
  | ⟨0, _⟩ => fun c => dat1 (V c) c
  | ⟨1, _⟩ => fun c => dat3 (W c) c

/-- What the TensorCore owes the later calls sits above the pipelines' own waits. -/
theorem cut (p : Fin 2) (n : ℕ) : Pipeline.LevelCut (pcfgs (F := F)) adm none (K (F := F)).L (K (F := F)).lev p (fun c : Dev nD => (K (F := F)).Otc c n) fun _ => 0 where
  hι _ _ _ := Finset.mem_univ _
  hιb _ _ _ := le_of_eq rfl
  hD _ _ _ h := ⟨Finset.mem_univ _, lt_of_lt_of_le (Nat.succ_pos _) (SparseCore.Cfg.lev_of_Otc_pos h)⟩

/-- One call's segment, made from its launch facts, its body and its invariant's two ends: entered with every unscoped buffer held at `X c`
    and what is owed after `n` gather calls, left with the buffers at what the pipeline leaves. -/
def segOf (pd : (p : Fin 2) → (c : Dev nD) → Dat τ (Elt F) (HIx 2) ℕ UU ℕ (Pipeline.pin (pcfgs (F := F)) adm p) c) (p : Fin 2) (n : ℕ)
    (X : Dev nD → Valuation τ sig (Elt F)) (kit : Pipeline.PLaunchFacts (nD := nD) (τ := τ) (pcfgs (F := F)) p) (hK : (pcfgs (F := F) p).pre.K = 0)
    (hbody : ∀ c, Pipeline.BodyObligationLoose (pd p c) (defs₀ (F := F)) 𝒱₀ none Set.univ)
    (howed : ∀ c t, (pd p c).owed t = (K (F := F)).Otc c n) (hrec : ∀ c t, (pd p c).recorded t = settled (F := F) c n)
    (hshare : ∀ c w, (pd p c).share w = fullShare)
    (hin : ∀ c, Pipeline.scopedRest (Pipeline.pin (pcfgs (F := F)) adm p).spec c ⊢ (pd p c).Φ 0)
    (hout : ∀ c, (pd p c).Φ (Fin.last (Pipeline.pin (pcfgs (F := F)) adm p).N) ⊢ Pipeline.scopedRest (Pipeline.pin (pcfgs (F := F)) adm p).spec c)
    (hX : ∀ c w, (pd p c).arrAt w 0 = X c (Proc.devRef .tc (Pipeline.arrRef (Pipeline.pin (pcfgs (F := F)) adm p).spec w)))
    (hS : Pipeline.arrRefs (τ := τ) (pcfgs (F := F) p).spec ⊆ ucRefs τ sig) :
    Pipeline.RegionSeg (pcfgs (F := F)) adm pd none (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_of_cut (Pipeline.pin (pcfgs (F := F)) adm) pd none p c 0 _ (howed c) ((cut p n).hι c) ((cut p n).hιb c) ((cut p n).hD c)
  pre c := iprop(StableHlo.held (tc c) (ucRefs τ sig) (X c) ∗ ∃ W, ⌜(K (F := F)).WBelow (tc c) W (8 * n)⌝ ∗ owes (tc c) ((K (F := F)).Otc c n) W)
  post c := iprop(StableHlo.held (tc c) (ucRefs τ sig) (afterRegion (pd p c) (X c)) ∗ ∃ W, ⌜(K (F := F)).WBelow (tc c) W (8 * n)⌝ ∗ owes (tc c) ((K (F := F)).Otc c n) W)
  X _ := iprop(emp)
  Y _ := iprop(emp)
  Z c := StableHlo.held (tc c) (ucRefs τ sig \ Pipeline.arrRefs (pcfgs (F := F) p).spec) (X c)
  hentry c := by
    rw [Pipeline.ownSems0_none, Pipeline.prefHeld_of_none _ hK, StableHlo.held_sub_split (tc c) hS (X c),
      ← Pipeline.arrays_held (pcfgs (F := F)) adm pd p kit c (hshare c) ((pd p c).arrAt · 0) (X c) (hX c)]
    iintro ⟨⟨⟨Ha, Hr⟩, %W, %hW, HO⟩, -, -⟩
    imodintro
    isplitl [Ha]; · iexact Ha
    isplitr; · iempintro
    isplitl [HO]
    · unfold Dat.owesAt Pipeline.owesWithin Dat.bound
      rw [howed c 0, hrec c 0]
      iexists W; isplitr
      · ipureintro; exact fun x hx => Or.inl (hW x hx)
      iexact HO
    isplitr; · iempintro
    iexact Hr
  hin c := (show _ ⊢ Pipeline.scopedRest (Pipeline.pin (pcfgs (F := F)) adm p).spec c from by
    iintro ⟨-, -, Hr⟩
    iexact Hr).trans (hin c)
  hout c := (hout c).trans (by
    rw [Pipeline.ownSems0_none]
    iintro Hr
    isplitr; · iempintro
    isplitr; · iempintro
    iexact Hr)
  hexit c := by
    rw [StableHlo.held_sub_split (tc c) hS (afterRegion (pd p c) (X c)),
      ← Pipeline.arrays_held (pcfgs (F := F)) adm pd p kit c (hshare c) ((pd p c).arrAt · (Pipeline.pin (pcfgs (F := F)) adm p).N) (afterRegion (pd p c) (X c))
        (fun w => (Pipeline.afterRegion_arr (pd p c) (X c) kit.win.arr_inj w).symm),
      StableHlo.held_congr (tc c) (Pipeline.afterRegion_off (pd p c) (X c) (ucRefs τ sig))]
    iintro ⟨Ha, HO, -, Hr⟩
    imodintro
    isplitl [Ha Hr]
    · isplitl [Ha]; · iexact Ha
      iexact Hr
    unfold Dat.owesAt Pipeline.owesWithin Dat.bound
    rw [howed c (Fin.last _), hrec c (Fin.last _)]
    icases HO with ⟨%W, %hW, HO⟩
    iexists W; isplitr
    · ipureintro
      intro x hx
      rcases hW hx with h | ⟨w, s, rfl⟩
      · exact h
      · exact Nat.zero_le _
    iexact HO

variable (V W : Dev nD → Valuation τ sig (Elt F))

set_option backward.isDefEq.respectTransparency.types false in
/-- The first TensorCore call. -/
def seg1 : Pipeline.RegionSeg (pcfgs (F := F)) adm (pdats V W) none (defs₀ (F := F)) 𝒱₀ (K (F := F)).L (K (F := F)).lev 0 :=
  segOf (pdats V W) 0 1 V launch1.toP rfl (fun c => (body1 (V c) c).loose) (fun _ _ => rfl) (fun _ _ => rfl)
    (fun c w => (dat1 (V c) c).share_full (fun _ => rfl) w) (fun c => open1 (V c) c) (fun c => close1 (V c) c _) (fun _ _ => rfl)
    (Pipeline.arrRefs_sub_ucRefs _ launch1.win.to₀.arr_unscoped)

set_option backward.isDefEq.respectTransparency.types false in
/-- The second TensorCore call. -/
def seg3 : Pipeline.RegionSeg (pcfgs (F := F)) adm (pdats V W) none (defs₀ (F := F)) 𝒱₀ (K (F := F)).L (K (F := F)).lev 1 :=
  segOf (pdats V W) 1 2 W launch3.toP rfl (fun c => (body3 (W c) c).loose) (fun _ _ => rfl) (fun _ _ => rfl)
    (fun c w => (dat3 (W c) c).share_full (fun _ => rfl) w) (fun c => open3 (W c) c) (fun c => close3 (W c) c _) (fun _ _ => rfl)
    (Pipeline.arrRefs_sub_ucRefs _ launch3.win.to₀.arr_unscoped)

end Cert.Proof

end
-- ==== Proof.Ops.lean ====
/- The host operations of the kernel's run, in the five stretches its calls leave. -/
module

public import proofs.«01_k».proof.Proof.Seg

@[expose] public section

set_option maxRecDepth 16384

noncomputable section

namespace Cert.Proof

open Cert.KernelIdeal Cert.KernelIdeal.Gen
open Idealize.ShloMosaic Idealize.ShloMosaic.ValueIdx Idealize.ShloMosaic.StableHlo
open Idealize.ShloMosaic.Pipeline (ucRefs)
open Idealize.SL.Sem

variable {F : FTy → Type} [FloatOps F] [Named F]

/-- A line of operations that runs within the unscoped buffers, determines its results, and writes only `W`. -/
structure Line (ops : List (HloOp τ sig (Elt F))) (W : List (Ref sig .tc)) : Prop where
  bufs : ∀ op ∈ ops, op.bufs ⊆ ucRefs τ sig
  fresh : ∀ op ∈ ops, op.fresh = ∅
  keeps : ∀ (V : Valuation τ sig (Elt F)) (r : Ref sig .tc), r ∉ W → after ops V (dr r) = V (dr r)

theorem Line.of {ops : List (HloOp τ sig (Elt F))} {W : List (Ref sig .tc)} (hb : ops.Forall fun op => op.bufs ⊆ tcRefs τ sig)
    (hf : ops.Forall fun op => op.fresh = ∅) (hw : ops.Forall fun op => op.writes ⊆ (W.map dr).toFinset) : Line ops W where
  bufs op h := Pipeline.sub_ucRefs op (List.forall_iff_forall_mem.mp hb op h)
  fresh := List.forall_iff_forall_mem.mp hf
  keeps V r h := after_of_writes_sub ops V hw h

/-- An operation that writes one buffer of the list writes within it. -/
theorem one_mem {r : Ref sig .tc} {W : List (Ref sig .tc)} (h : r ∈ W) : ({dr r} : Finset (DevRef τ sig)) ⊆ (W.map dr).toFinset :=
  Finset.singleton_subset_iff.mpr (List.mem_toFinset.mpr (List.mem_map_of_mem h))

/-- Before the first gather call. -/
abbrev opsA : List (HloOp τ sig (Elt F)) :=
  [ nullary main_c (fun i => lit0 (S196608.rowMajor i)),
    unary main_arg0 main_v0 ((extractStridedSlice S8x1024x1 ![0, 0, 0] · slices_S8x1024x3_S8x1024x1_0_0_0) : (⟨S8x1024x3, .f32⟩ : BufTy).Contents (Elt F) → (⟨S8x1024x1, .f32⟩ : BufTy).Contents (Elt F)),
    reshape main_v0 main_v1 (rfl : (.f32 : EltTy) = .f32) shapeCasts_S8x1024x1_S8x1024,
    unary main_arg0 main_v2 ((extractStridedSlice S8x1024x1 ![0, 0, 1] · slices_S8x1024x3_S8x1024x1_0_0_1) : (⟨S8x1024x3, .f32⟩ : BufTy).Contents (Elt F) → (⟨S8x1024x1, .f32⟩ : BufTy).Contents (Elt F)),
    reshape main_v2 main_v3 (rfl : (.f32 : EltTy) = .f32) shapeCasts_S8x1024x1_S8x1024,
    unary main_arg0 main_v4 ((extractStridedSlice S8x1024x1 ![0, 0, 2] · slices_S8x1024x3_S8x1024x1_0_0_2) : (⟨S8x1024x3, .f32⟩ : BufTy).Contents (Elt F) → (⟨S8x1024x1, .f32⟩ : BufTy).Contents (Elt F)),
    reshape main_v4 main_v5 (rfl : (.f32 : EltTy) = .f32) shapeCasts_S8x1024x1_S8x1024,
    reshape main_c main_v6 (rfl : (.i32 : EltTy) = .i32) shapeCasts_S196608_S32x48x128,
    nullary main_v7 (iotaInDim S6144x128 32 0),
    nullary main_c_0 (constantI S_ 32 48#32),
    unary main_c_0 main_v8 (broadcastInDim S6144x128 ![] bcast_S_S6144x128 : (⟨S_, .i32⟩ : BufTy).Contents (Elt F) → (⟨S6144x128, .i32⟩ : BufTy).Contents (Elt F)),
    binary main_v7 main_v8 main_v9 (Host.divsi : (⟨S6144x128, .i32⟩ : BufTy).Contents (Elt F) → (⟨S6144x128, .i32⟩ : BufTy).Contents (Elt F) → (⟨S6144x128, .i32⟩ : BufTy).Contents (Elt F)),
    nullary main_v10 (iotaInDim S6144x128 32 1),
    binary main_v9 main_v10 main_v11 (cmpi .eq : (⟨S6144x128, .i32⟩ : BufTy).Contents (Elt F) → (⟨S6144x128, .i32⟩ : BufTy).Contents (Elt F) → (⟨S6144x128, .i1⟩ : BufTy).Contents (Elt F)),
    unary main_v11 main_v12 (uitofp .f32 : (⟨S6144x128, .i1⟩ : BufTy).Contents (Elt F) → (⟨S6144x128, .f32⟩ : BufTy).Contents (Elt F)),
    unary main_v12 main_v13 ((truncf .bf16 · bitsLt_bf16_f32) : (⟨S6144x128, .f32⟩ : BufTy).Contents (Elt F) → (⟨S6144x128, .bf16⟩ : BufTy).Contents (Elt F)),
    unary main_arg3 main_v14 ((transpose S128x100 [1, 0] · transposes_S100x128_S128x100_1_0) : (⟨S100x128, .f32⟩ : BufTy).Contents (Elt F) → (⟨S128x100, .f32⟩ : BufTy).Contents (Elt F)),
    unary main_arg4 main_v15 ((transpose S128x32 [1, 0] · transposes_S32x128_S128x32_1_0) : (⟨S32x128, .f32⟩ : BufTy).Contents (Elt F) → (⟨S128x32, .f32⟩ : BufTy).Contents (Elt F)),
    unary main_arg5 main_v16 ((transpose S128x128 [1, 0] · transposes_S128x128_S128x128_1_0) : (⟨S128x128, .f32⟩ : BufTy).Contents (Elt F) → (⟨S128x128, .f32⟩ : BufTy).Contents (Elt F)),
    reshape main_arg6 main_v17 (rfl : (.f32 : EltTy) = .f32) shapeCasts_S128_S128x1,
    unary main_arg7 main_v18 ((transpose S64x128 [1, 0] · transposes_S128x64_S64x128_1_0) : (⟨S128x64, .f32⟩ : BufTy).Contents (Elt F) → (⟨S64x128, .f32⟩ : BufTy).Contents (Elt F)),
    reshape main_arg8 main_v19 (rfl : (.f32 : EltTy) = .f32) shapeCasts_S64_S64x1,
    unary main_arg9 main_v20 ((transpose S1x64 [1, 0] · transposes_S64x1_S1x64_1_0) : (⟨S64x1, .f32⟩ : BufTy).Contents (Elt F) → (⟨S1x64, .f32⟩ : BufTy).Contents (Elt F)),
    unary main_arg2 main_v21 ((extractStridedSlice S4x1024x48 ![0, 0, 0] · slices_S8x1024x48_S4x1024x48_0_0_0) : (⟨S8x1024x48, .i32⟩ : BufTy).Contents (Elt F) → (⟨S4x1024x48, .i32⟩ : BufTy).Contents (Elt F)),
    reshape main_v21 main_v22 (rfl : (.i32 : EltTy) = .i32) shapeCasts_S4x1024x48_S32x48x128,
    unary main_arg1 main_v23 ((extractStridedSlice S4x1024 ![0, 0] · slices_S8x1024_S4x1024_0_0) : (⟨S8x1024, .i32⟩ : BufTy).Contents (Elt F) → (⟨S4x1024, .i32⟩ : BufTy).Contents (Elt F)),
    unary main_v1 main_v24 ((extractStridedSlice S4x1024 ![0, 0] · slices_S8x1024_S4x1024_0_0) : (⟨S8x1024, .f32⟩ : BufTy).Contents (Elt F) → (⟨S4x1024, .f32⟩ : BufTy).Contents (Elt F)),
    unary main_v3 main_v25 ((extractStridedSlice S4x1024 ![0, 0] · slices_S8x1024_S4x1024_0_0) : (⟨S8x1024, .f32⟩ : BufTy).Contents (Elt F) → (⟨S4x1024, .f32⟩ : BufTy).Contents (Elt F)),
    unary main_v5 main_v26 ((extractStridedSlice S4x1024 ![0, 0] · slices_S8x1024_S4x1024_0_0) : (⟨S8x1024, .f32⟩ : BufTy).Contents (Elt F) → (⟨S4x1024, .f32⟩ : BufTy).Contents (Elt F)) ]
def writesA : List (Ref sig .tc) := [main_c, main_v0, main_v1, main_v2, main_v3, main_v4, main_v5, main_v6, main_v7, main_c_0, main_v8, main_v9, main_v10, main_v11, main_v12, main_v13, main_v14, main_v15, main_v16, main_v17, main_v18, main_v19, main_v20, main_v21, main_v22, main_v23, main_v24, main_v25, main_v26]
theorem lineA : Line (F := F) opsA writesA :=
  .of ⟨nullary_bufs_sub .., unary_bufs_sub .., reshape_bufs_sub .., unary_bufs_sub .., reshape_bufs_sub .., unary_bufs_sub .., reshape_bufs_sub .., reshape_bufs_sub .., nullary_bufs_sub .., nullary_bufs_sub .., unary_bufs_sub .., binary_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., unary_bufs_sub .., reshape_bufs_sub .., unary_bufs_sub .., unary_bufs_sub .., unary_bufs_sub .., unary_bufs_sub ..⟩
    ⟨rfl, rfl, rfl, rfl, rfl, rfl, rfl, rfl, rfl, rfl, rfl, rfl, rfl, rfl, rfl, rfl, rfl, rfl, rfl, rfl, rfl, rfl, rfl, rfl, rfl, rfl, rfl, rfl, rfl⟩
    ⟨one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide), one_mem (by decide)⟩

/-- Between the first gather call and its energies. -/
abbrev opsB : List (HloOp τ sig (Elt F)) :=
  [ reshape main_v27_0 main_v28 (rfl : (.i32 : EltTy) = .i32) shapeCasts_S32x48x128_S32x1x6144,
    reshape main_v27_1 main_v29 (rfl : (.f32 : EltTy) = .f32) shapeCasts_S32x48x128_S32x1x6144,
    unary main_arg1 main_v30 ((extractStridedSlice S4x1024 ![0, 0] · slices_S8x1024_S4x1024_0_0) : (⟨S8x1024, .i32⟩ : BufTy).Contents (Elt F) → (⟨S4x1024, .i32⟩ : BufTy).Contents (Elt F)),
    reshape main_v30 main_v31 (rfl : (.i32 : EltTy) = .i32) shapeCasts_S4x1024_S4x1x1024 ]
def writesB : List (Ref sig .tc) := [main_v28, main_v29, main_v30, main_v31]
theorem lineB : Line (F := F) opsB writesB :=
  .of ⟨reshape_bufs_sub .., reshape_bufs_sub .., unary_bufs_sub .., reshape_bufs_sub ..⟩
    ⟨rfl, rfl, rfl, rfl⟩
    ⟨one_mem (by decide), one_mem (by decide), one_mem (by decide), one_mem (by decide)⟩

/-- Before the second gather call. -/
abbrev opsC : List (HloOp τ sig (Elt F)) :=
  [ unary main_arg2 main_v33 ((extractStridedSlice S4x1024x48 ![4, 0, 0] · slices_S8x1024x48_S4x1024x48_4_0_0) : (⟨S8x1024x48, .i32⟩ : BufTy).Contents (Elt F) → (⟨S4x1024x48, .i32⟩ : BufTy).Contents (Elt F)),
    reshape main_v33 main_v34 (rfl : (.i32 : EltTy) = .i32) shapeCasts_S4x1024x48_S32x48x128,
    unary main_arg1 main_v35 ((extractStridedSlice S4x1024 ![4, 0] · slices_S8x1024_S4x1024_4_0) : (⟨S8x1024, .i32⟩ : BufTy).Contents (Elt F) → (⟨S4x1024, .i32⟩ : BufTy).Contents (Elt F)),
    unary main_v1 main_v36 ((extractStridedSlice S4x1024 ![4, 0] · slices_S8x1024_S4x1024_4_0) : (⟨S8x1024, .f32⟩ : BufTy).Contents (Elt F) → (⟨S4x1024, .f32⟩ : BufTy).Contents (Elt F)),
    unary main_v3 main_v37 ((extractStridedSlice S4x1024 ![4, 0] · slices_S8x1024_S4x1024_4_0) : (⟨S8x1024, .f32⟩ : BufTy).Contents (Elt F) → (⟨S4x1024, .f32⟩ : BufTy).Contents (Elt F)),
    unary main_v5 main_v38 ((extractStridedSlice S4x1024 ![4, 0] · slices_S8x1024_S4x1024_4_0) : (⟨S8x1024, .f32⟩ : BufTy).Contents (Elt F) → (⟨S4x1024, .f32⟩ : BufTy).Contents (Elt F)) ]
def writesC : List (Ref sig .tc) := [main_v33, main_v34, main_v35, main_v36, main_v37, main_v38]
theorem lineC : Line (F := F) opsC writesC :=
  .of ⟨unary_bufs_sub .., reshape_bufs_sub .., unary_bufs_sub .., unary_bufs_sub .., unary_bufs_sub .., unary_bufs_sub ..⟩
    ⟨rfl, rfl, rfl, rfl, rfl, rfl⟩
    ⟨one_mem (by decide), one_mem (by decide), one_mem (by decide), one_mem (by decide), one_mem (by decide), one_mem (by decide)⟩

/-- Between the second gather call and its energies. -/
abbrev opsD : List (HloOp τ sig (Elt F)) :=
  [ reshape main_v39_0 main_v40 (rfl : (.i32 : EltTy) = .i32) shapeCasts_S32x48x128_S32x1x6144,
    reshape main_v39_1 main_v41 (rfl : (.f32 : EltTy) = .f32) shapeCasts_S32x48x128_S32x1x6144,
    unary main_arg1 main_v42 ((extractStridedSlice S4x1024 ![4, 0] · slices_S8x1024_S4x1024_4_0) : (⟨S8x1024, .i32⟩ : BufTy).Contents (Elt F) → (⟨S4x1024, .i32⟩ : BufTy).Contents (Elt F)),
    reshape main_v42 main_v43 (rfl : (.i32 : EltTy) = .i32) shapeCasts_S4x1024_S4x1x1024 ]
def writesD : List (Ref sig .tc) := [main_v40, main_v41, main_v42, main_v43]
theorem lineD : Line (F := F) opsD writesD :=
  .of ⟨reshape_bufs_sub .., reshape_bufs_sub .., unary_bufs_sub .., reshape_bufs_sub ..⟩
    ⟨rfl, rfl, rfl, rfl⟩
    ⟨one_mem (by decide), one_mem (by decide), one_mem (by decide), one_mem (by decide)⟩

/-- The sum of the two halves' results and the last bias. -/
abbrev opsE : List (HloOp τ sig (Elt F)) :=
  [ binary main_v32 main_v44 main_v45 ((fun a b => concatenate S8x1x128 0 [⟨S4x1x128, a⟩, ⟨S4x1x128, b⟩] concatenates_S4x1x128_S4x1x128_S8x1x128_d0) : (⟨S4x1x128, .f32⟩ : BufTy).Contents (Elt F) → (⟨S4x1x128, .f32⟩ : BufTy).Contents (Elt F) → (⟨S8x1x128, .f32⟩ : BufTy).Contents (Elt F)),
    unary main_v45 main_v46 ((extractStridedSlice S8x1x1 ![0, 0, 0] · slices_S8x1x128_S8x1x1_0_0_0) : (⟨S8x1x128, .f32⟩ : BufTy).Contents (Elt F) → (⟨S8x1x1, .f32⟩ : BufTy).Contents (Elt F)),
    reshape main_v46 main_v47 (rfl : (.f32 : EltTy) = .f32) shapeCasts_S8x1x1_S8x1,
    reshape main_arg10 main_v48 (rfl : (.f32 : EltTy) = .f32) shapeCasts_S1_S_,
    nullary main_cst (constant S_ .f32 0x44800000#32),
    binary main_cst main_v48 main_v49 (mulf : (⟨S_, .f32⟩ : BufTy).Contents (Elt F) → (⟨S_, .f32⟩ : BufTy).Contents (Elt F) → (⟨S_, .f32⟩ : BufTy).Contents (Elt F)),
    unary main_v49 main_v50 (broadcastInDim S8x1 ![] bcast_S_S8x1 : (⟨S_, .f32⟩ : BufTy).Contents (Elt F) → (⟨S8x1, .f32⟩ : BufTy).Contents (Elt F)),
    binary main_v47 main_v50 main_v51 (addf : (⟨S8x1, .f32⟩ : BufTy).Contents (Elt F) → (⟨S8x1, .f32⟩ : BufTy).Contents (Elt F) → (⟨S8x1, .f32⟩ : BufTy).Contents (Elt F)) ]
def writesE : List (Ref sig .tc) := [main_v45, main_v46, main_v47, main_v48, main_cst, main_v49, main_v50, main_v51]
theorem lineE : Line (F := F) opsE writesE :=
  .of ⟨binary_bufs_sub .., unary_bufs_sub .., reshape_bufs_sub .., reshape_bufs_sub .., nullary_bufs_sub .., binary_bufs_sub .., unary_bufs_sub .., binary_bufs_sub ..⟩
    ⟨rfl, rfl, rfl, rfl, rfl, rfl, rfl, rfl⟩
    ⟨one_mem (by decide), one_mem (by decide), one_mem (by decide), one_mem (by decide), one_mem (by decide), one_mem (by decide), one_mem (by decide), one_mem (by decide)⟩

/-- The run: the five stretches with the four calls between them. -/
theorem main_eq (d : Dev nD) : main (F := F) d = (seq opsA >>= fun _ => sc.run d 0 >>= fun _ => seq opsB >>= fun _ =>
    Prog.lift (.customCall (SparseCore.inner (Pipeline.entry 0)) ()) >>= fun _ => seq opsC >>= fun _ => sc.run d 1 >>= fun _ => seq opsD >>= fun _ =>
    Prog.lift (.customCall (SparseCore.inner (Pipeline.entry 1)) ()) >>= fun _ => seq opsE >>= fun _ => pure ⟨⟩) := rfl

end Cert.Proof

end
-- ==== Proof.Steps.lean ====
/- The calls of the run as steps: from the unscoped buffers held at one valuation to the same held at the next. -/
module

public import proofs.«01_k».proof.Proof.Obl
public import proofs.«01_k».proof.Proof.Ops
public import Idealize.ShloMosaic.Lib.SparseCore.Quiescent

@[expose] public section

set_option maxRecDepth 16384

noncomputable section

namespace Cert.Proof

open Cert.KernelIdeal Cert.KernelIdeal.Gen
open Idealize.ShloMosaic
open Idealize.ShloMosaic.Pipeline (Dat ucRefs afterRegion)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)

variable {F : FTy → Type} [FloatOps F] [Named F]

/-! ## The buffers of a gather call among the unscoped ones -/

theorem mem_uc (r : Ref sig .tc) (h : r.isScoped = false) : dr r ∈ ucRefs τ sig :=
  Finset.mem_filter.mpr ⟨StableHlo.devRef_mem_tcRefs _, fun h' => Bool.false_ne_true (h.symm.trans h')⟩

/-- A call's two results. -/
def outL : Fin 2 → List (Ref sig .tc)
  | 0 => [main_v27_0, main_v27_1]
  | 1 => [main_v39_0, main_v39_1]
def outS (q : Fin 2) : Finset (DevRef τ sig) := ((outL q).map dr).toFinset

theorem mem_list {l : List (Ref sig .tc)} {b : DevRef τ sig} (h : b ∈ (l.map dr).toFinset) : ∃ r ∈ l, dr r = b :=
  List.mem_map.mp (List.mem_toFinset.mp h)

theorem calls_uc : ∀ q : Fin 2, ∀ r ∈ insL q ++ outL q, r.isScoped = false := by decide
theorem calls_apart : ∀ q : Fin 2, ∀ r ∈ insL q, r ∉ outL q := by decide

theorem ins_uc (q : Fin 2) : insS q ⊆ ucRefs τ sig := fun b hb => by
  obtain ⟨r, hr, rfl⟩ := mem_list hb
  exact mem_uc r (calls_uc q r (List.mem_append_left _ hr))
theorem outs_uc (q : Fin 2) : outS q ⊆ ucRefs τ sig \ insS q := fun b hb => by
  obtain ⟨r, hr, rfl⟩ := mem_list hb
  refine Finset.mem_sdiff.mpr ⟨mem_uc r (calls_uc q r (List.mem_append_right _ hr)), fun hi => ?_⟩
  obtain ⟨r', hr', e⟩ := mem_list hi
  exact calls_apart q r' hr' (Proc.devRef_injective _ e ▸ hr)

theorem outs_held (q : Fin 2) (d : Dev nD) (V : Valuation τ sig (Elt F)) : (held (tc d) (outS q) V : sProp (MM F)) = outs d q Finset.univ V := by
  have two : ∀ a b : Ref sig .tc, a ≠ b → (held (tc d) (([a, b].map dr).toFinset) V : sProp (MM F))
      = iprop(((tc d).loc a ↦{fullShare} V (dr a)) ∗ ((tc d).loc b ↦{fullShare} V (dr b))) := fun a b h => by
    have hn : dr a ∉ ({dr b} : Finset (DevRef τ sig)) := fun h' => h (Proc.devRef_injective _ (Finset.mem_singleton.mp h'))
    rw [show ([a, b].map dr).toFinset = insert (dr a) {dr b} from by simp only [List.map, List.toFinset_cons, List.toFinset_nil]; rfl]
    unfold held
    rw [SparseCore.bigSep_insert' hn, bigSep_singleton]
  match q with
  | 0 => exact two main_v27_0 main_v27_1 (by decide)
  | 1 => exact two main_v39_0 main_v39_1 (by decide)

/-- The unscoped buffers are a call's six arrays, its two results, and the rest. -/
theorem held_open (q : Fin 2) (d : Dev nD) (V : Valuation τ sig (Elt F)) :
    (held (tc d) (ucRefs τ sig) V : sProp (MM F))
      = iprop((ins d q fullShare V ∗ outs d q Finset.univ V) ∗ held (tc d) ((ucRefs τ sig \ insS q) \ outS q) V) := by
  rw [held_sub_split (tc d) (ins_uc q) V, held_sub_split (tc d) (outs_uc q) V, outs_held, assoc]
  rfl

/-! ## The steps -/

section Steps

variable (A B : Fin 2 → Dev nD → Valuation τ sig (Elt F))

/-- A gather call, entered with the unscoped buffers at `A`, leaves them at `B`, which differs from `A` at its two results only. -/
theorem wp_call (κ : GSem nD τ sig → ℕ) (d : Dev nD) (q : Fin 2) (hB : ∀ b, b ∉ outS q → B q d b = A q d b) (Φ : PUnit → sProp (MM F)) :
    iprop((K (F := F)).ctx EH (P A B) κ ∗ (K (F := F)).tcSt EH d q.val ∗ held (tc d) (ucRefs τ sig) (A q d)
        ∗ (iprop((K (F := F)).tcSt EH d (q.val + 1) ∗ held (tc d) (ucRefs τ sig) (B q d)) -∗ Φ ⟨⟩))
      ⊢ wp frame (wpE ((K (F := F)).defs (D (F := F))) 𝒱 (tc d) none) Set.univ ((K (F := F)).run d q) Φ := by
  have hin : (ins d q fullShare (B q d) : sProp (MM F)) = ins d q fullShare (A q d) := by
    unfold ins
    exact held_congr (tc d) fun b hb => hB b fun ho => (Finset.mem_sdiff.mp (outs_uc q ho)).2 hb
  rw [held_open q d (A q d), held_open q d (B q d), st_eq, hin, dn_eq,
    held_congr (tc d) (V := B q d) (V' := A q d) fun b hb => hB b (Finset.mem_sdiff.mp hb).2]
  iintro ⟨#Hctx, Hst, ⟨⟨Hi, Hs⟩, Hr⟩, Hk⟩
  iapply ((K (F := F)).wp_run (D (F := F)) 𝒱 (EH := EH) (P := P A B) κ d q) $$ [Hst Hs Hi Hr Hk]
  isplitr; · iexact Hctx
  isplitl [Hst]; · iexact Hst
  isplitl [Hs]; · iexact Hs
  iintro ⟨Hst, Hdn⟩
  iapply Hk
  isplitl [Hst]; · iexact Hst
  isplitr [Hr]
  · isplitl [Hi]; · iexact Hi
    iexact Hdn
  iexact Hr

end Steps

abbrev pcs : Fin 2 → Pipeline.Cfg sig Λ₀ := Pipeline.pin (pcfgs (F := F)) adm

/-- The pipelines' part of the launch's ghost state on one device. -/
abbrev ghost (p : Fin 2) (d : Dev nD) : sProp (MM F) :=
  iprop(Pipeline.cellsGhost (pcs (F := F)) EP p d ∗ Pipeline.toksInit (pcs (F := F)) EP p d)

/-- A TensorCore call by itself. -/
def entered (p : Fin 2) : Prog (TpuEff nD τ sig (Elt F) (ΛP (F := F)) .tc) PUnit := .op (.customCall (Pipeline.entry p) ()) fun _ => .ret ⟨⟩

/-- A TensorCore call after `n` gather calls. -/
theorem wp_region [∀ e, Nonempty (Elt F e)] (pd : (p : Fin 2) → (c : Dev nD) → Dat τ (Elt F) (HIx 2) ℕ UU ℕ (pcs (F := F) p) c) (p : Fin 2) (n : ℕ)
    (X : Dev nD → Valuation τ sig (Elt F)) (R : Pipeline.RegionSeg (pcfgs (F := F)) adm pd none (defs₀ (F := F)) 𝒱₀ (K (F := F)).L (K (F := F)).lev p) (d : Dev nD)
    (hpre : R.pre d = iprop(held (tc d) (ucRefs τ sig) (X d) ∗ ∃ W, ⌜(K (F := F)).WBelow (tc d) W (8 * n)⌝ ∗ owes (tc d) ((K (F := F)).Otc d n) W))
    (hpost : R.post d = iprop(held (tc d) (ucRefs τ sig) (afterRegion (pd p d) (X d)) ∗ ∃ W, ⌜(K (F := F)).WBelow (tc d) W (8 * n)⌝ ∗ owes (tc d) ((K (F := F)).Otc d n) W))
    (Φ : PUnit → sProp (MM F)) :
    iprop(boundary (tc d) ∗ (K (F := F)).tcSt EH d n ∗ held (tc d) (ucRefs τ sig) (X d) ∗ levAts (K (F := F)).L (K (F := F)).lev ∗ ghost p d
        ∗ (iprop(boundary (tc d) ∗ (K (F := F)).tcSt EH d n ∗ held (tc d) (ucRefs τ sig) (afterRegion (pd p d) (X d))) -∗ Φ ⟨⟩))
      ⊢ wp frame (wpE ((K (F := F)).defs (D (F := F))) 𝒱 (tc d) none) Set.univ (Prog.lift (.customCall (SparseCore.inner (Pipeline.entry p)) ())) Φ := by
  have h := (K (F := F)).wp_liftProg (N := 2) (Name := ℕ) (U := UU) (D (F := F)) 𝒱 (tc d) Set.univ none (entered p) Φ
  have r := Pipeline.RegionSeg.wp (pcfgs (F := F)) adm pd none (launch1.toP.cellOf_inj adm) EP (defs₀ (F := F)) 𝒱₀ (K (F := F)).L (K (F := F)).lev R d none
    (fun _ h => nomatch h) (fun _ => .ret ⟨⟩) Φ
  rw [hpre, hpost] at r
  unfold SparseCore.Cfg.tcSt
  iintro ⟨Hb, ⟨HO, Hst⟩, HX, Hlev, ⟨Hg, Ht⟩, Hk⟩
  iapply h
  iapply r
  isplitl [Hst Hk]
  · iintro ⟨Hb, HX, HO⟩
    simp only [wp_ret]
    imodintro
    iapply Hk
    isplitl [Hb]; · iexact Hb
    isplitr [HX]
    · isplitl [HO]; · iexact HO
      iexact Hst
    iexact HX
  isplitl [Hb]; · iexact Hb
  isplitl [HX HO]
  · isplitl [HX]; · iexact HX
    iexact HO
  isplitl [Hlev]; · iexact Hlev
  isplitl [Hg]; · iexact Hg
  iexact Ht

end Cert.Proof

end
-- ==== Proof.Main.lean ====
/- The whole run: the valuations between the calls, and what every execution ends in. -/
module

public import proofs.«01_k».proof.Proof.Steps

@[expose] public section

set_option maxRecDepth 16384

noncomputable section

namespace Cert.Proof

open Cert.KernelIdeal Cert.KernelIdeal.Gen
open Idealize.ShloMosaic
open Idealize.ShloMosaic.Pipeline (Dat ucRefs afterRegion)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr after seq launchContents)
open Idealize.ShloMosaic.Rounds

variable {F : FTy → Type} [FloatOps F] [Named F]

/-! ## The valuations -/

theorem dr_ne {a b : Ref sig .tc} (h : a ≠ b) : dr a ≠ dr b := fun e => h (Proc.devRef_injective _ e)

/-- A valuation with two buffers' contents replaced. -/
def put (a b : Ref sig .tc) (V : Valuation τ sig (Elt F)) (x : (dr a).ty.Contents (Elt F)) (y : (dr b).ty.Contents (Elt F)) : Valuation τ sig (Elt F) :=
  Function.update (Function.update V (dr a) x) (dr b) y

section
variable {a b r : Ref sig .tc} (V : Valuation τ sig (Elt F)) (x : (dr a).ty.Contents (Elt F)) (y : (dr b).ty.Contents (Elt F))
theorem put_fst (h : a ≠ b) : put a b V x y (dr a) = x := (Function.update_of_ne (dr_ne h) _ _).trans (Function.update_self _ _ _)
theorem put_snd : put a b V x y (dr b) = y := Function.update_self _ _ _
theorem put_keeps (ha : r ≠ a) (hb : r ≠ b) : put a b V x y (dr r) = V (dr r) :=
  (Function.update_of_ne (dr_ne hb) _ _).trans (Function.update_of_ne (dr_ne ha) _ _)
end

section Valuations

variable (m : (ℓ : Loc nD τ sig) → Buf (Elt F) ℓ) (d : Dev nD)

/-- The first half: as its gather call is entered and left, as its energies' call is entered and left. -/
def VA : Valuation τ sig (Elt F) := after opsA (launchContents m d)
def V1 : Valuation τ sig (Elt F) :=
  put main_v27_0 main_v27_1 (VA m d) (zArr (VA m d (dr main_v22)) (VA m d (dr main_v23)))
    (dArr (VA m d (dr main_v22)) (VA m d (dr main_v6)) (VA m d (dr main_v24)) (VA m d (dr main_v25)) (VA m d (dr main_v26)))
def VB : Valuation τ sig (Elt F) := after opsB (V1 m d)
def V2 : Valuation τ sig (Elt F) := afterRegion (dat1 (VB m d) d) (VB m d)
/-- The second half. -/
def VC : Valuation τ sig (Elt F) := after opsC (V2 m d)
def V3 : Valuation τ sig (Elt F) :=
  put main_v39_0 main_v39_1 (VC m d) (zArr (VC m d (dr main_v34)) (VC m d (dr main_v35)))
    (dArr (VC m d (dr main_v34)) (VC m d (dr main_v6)) (VC m d (dr main_v36)) (VC m d (dr main_v37)) (VC m d (dr main_v38)))
def VD : Valuation τ sig (Elt F) := after opsD (V3 m d)
def V4 : Valuation τ sig (Elt F) := afterRegion (dat3 (VD m d) d) (VD m d)
/-- The end. -/
def VE : Valuation τ sig (Elt F) := after opsE (V4 m d)

/-- The two gather calls' entry and exit. -/
def goIn : Fin 2 → Dev nD → Valuation τ sig (Elt F)
  | 0 => VA m
  | 1 => VC m
def goOut : Fin 2 → Dev nD → Valuation τ sig (Elt F)
  | 0 => V1 m
  | 1 => V3 m

theorem goOut_eq (q : Fin 2) (b : DevRef τ sig) (hb : b ∉ outS q) : goOut m q d b = goIn m q d b := by
  have two : ∀ x y : Ref sig .tc, x ∈ outL q → y ∈ outL q → b ≠ dr x ∧ b ≠ dr y := fun x y hx hy =>
    ⟨fun e => hb (e ▸ List.mem_toFinset.mpr (List.mem_map_of_mem hx)), fun e => hb (e ▸ List.mem_toFinset.mpr (List.mem_map_of_mem hy))⟩
  match q with
  | 0 =>
    obtain ⟨h0, h1⟩ := two main_v27_0 main_v27_1 (by decide) (by decide)
    exact (Function.update_of_ne h1 _ _).trans (Function.update_of_ne h0 _ _)
  | 1 =>
    obtain ⟨h0, h1⟩ := two main_v39_0 main_v39_1 (by decide) (by decide)
    exact (Function.update_of_ne h1 _ _).trans (Function.update_of_ne h0 _ _)

/-- The neighbours and the centres of both calls are inside their batches. -/
structure Inside : Prop where
  idx0 : ∀ d j, (VA m d (dr main_v22) j).toNat < 1024
  ctr0 : ∀ d j, (VA m d (dr main_v6) j).toNat < 1024
  idx1 : ∀ d j, (VC m d (dr main_v34) j).toNat < 1024
  ctr1 : ∀ d j, (VC m d (dr main_v6) j).toNat < 1024

theorem ok0 (h : Inside m) : CallOk0 (goIn m) (goOut m) where
  idx := h.idx0
  ctr := h.ctr0
  z d := put_fst (a := main_v27_0) (b := main_v27_1) (VA m d) (zArr (VA m d (dr main_v22)) (VA m d (dr main_v23)))
    (dArr (VA m d (dr main_v22)) (VA m d (dr main_v6)) (VA m d (dr main_v24)) (VA m d (dr main_v25)) (VA m d (dr main_v26))) (by decide)
  d2 d := put_snd (a := main_v27_0) (b := main_v27_1) (VA m d) (zArr (VA m d (dr main_v22)) (VA m d (dr main_v23)))
    (dArr (VA m d (dr main_v22)) (VA m d (dr main_v6)) (VA m d (dr main_v24)) (VA m d (dr main_v25)) (VA m d (dr main_v26)))
theorem ok1 (h : Inside m) : CallOk1 (goIn m) (goOut m) where
  idx := h.idx1
  ctr := h.ctr1
  z d := put_fst (a := main_v39_0) (b := main_v39_1) (VC m d) (zArr (VC m d (dr main_v34)) (VC m d (dr main_v35)))
    (dArr (VC m d (dr main_v34)) (VC m d (dr main_v6)) (VC m d (dr main_v36)) (VC m d (dr main_v37)) (VC m d (dr main_v38))) (by decide)
  d2 d := put_snd (a := main_v39_0) (b := main_v39_1) (VC m d) (zArr (VC m d (dr main_v34)) (VC m d (dr main_v35)))
    (dArr (VC m d (dr main_v34)) (VC m d (dr main_v6)) (VC m d (dr main_v36)) (VC m d (dr main_v37)) (VC m d (dr main_v38)))

end Valuations

/-! ## The launch element -/

/-- The handshakes' rounds, the pipelines' rounds, and nothing of the transfers' own. -/
def u₀ : UU := (initOf (K (F := F)).hsCells (K (F := F)).hsToks,
  (initOf (Pipeline.cells (nD := nD) (τ := τ) (pcs (F := F)) (launch1.toP.cellOf_inj adm)) (Pipeline.launchToks (nD := nD) (τ := τ) (pcs (F := F)) (launch1.toP.cellOf_inj adm)), 1))

/-- One device's part of the pipelines' rounds. -/
def G (d : Dev nD) : sProp (MM F) := iprop(ghost 0 d ∗ ghost 1 d)

theorem no_sum {I : Type} (s : Finset I) : (bigSep s fun _ => iprop(emp)) = (iprop(emp) : sProp (MM F)) := bigSep_emp_const s

theorem hu₀ (A B : Fin 2 → Dev nD → Valuation τ sig (Elt F)) : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P A B).x q thr) := by
  have hG : (bigSep Finset.univ fun d : Dev nD => G (F := F) d)
      = iprop((bigSep Finset.univ fun c : Dev nD => bigSep Finset.univ fun p => Pipeline.cellsGhost (pcs (F := F)) EP p c)
          ∗ (bigSep Finset.univ fun c : Dev nD => bigSep Finset.univ fun p => (Pipeline.toksInit (pcs (F := F)) EP p c : sProp (MM F)))) := by
    rw [← bigSep_sep']
    refine bigSep_congr fun d _ => ?_
    rw [← bigSep_sep', show (Finset.univ : Finset (Fin 2)) = insert 0 {1} from rfl, SparseCore.bigSep_insert' (by decide), bigSep_singleton]
    rfl
  unfold u₀
  iintro Hu
  ihave H := (ownU_parts (F := F) _ _) $$ Hu
  icases H with ⟨HH, HP⟩
  imod (Pipeline.fund_ghost (pcs (F := F)) EP (launch1.toP.cellOf_inj adm)) $$ HP with HP
  imodintro
  isplitl [HH]; · iexact HH
  isplitl [HP]
  · rw [hG]; iexact HP
  rw [show (bigSep Finset.univ fun thr : Thread nD τ => bigSep Finset.univ fun q : Fin 2 => (P A B).x q thr) = bigSep Finset.univ fun _ : Thread nD τ => iprop(emp) from
    bigSep_congr fun _ _ => no_sum _, no_sum]
  iempintro

/-! ## @main on the TensorCore -/

/-- What the run leaves: the unscoped buffers at the last valuation. -/
abbrev FIN (m : (ℓ : Loc nD τ sig) → Buf (Elt F) ℓ) (d : Dev nD) : sProp (MM F) := held (tc d) (ucRefs τ sig) (VE m d)

theorem wp_host (d : Dev nD) {ops : List (HloOp τ sig (Elt F))} {W : List (Ref sig .tc)} (h : Line ops W) (V : Valuation τ sig (Elt F))
    (Φ : PUnit → sProp (MM F)) :
    iprop(boundary (tc d) ∗ held (tc d) (ucRefs τ sig) V ∗ (iprop(boundary (tc d) ∗ held (tc d) (ucRefs τ sig) (after ops V)) -∗ Φ ⟨⟩))
      ⊢ wp frame (wpE ((K (F := F)).defs (D (F := F))) 𝒱 (tc d) none) Set.univ (seq ops) Φ := by
  have w := StableHlo.wp_seq (defs := (K (F := F)).defs (D (F := F))) 𝒱 none Set.univ d (ucRefs τ sig) (fun _ => pure ⟨⟩) (K := Φ) ops h.bufs h.fresh V
  rw [show (seq ops >>= fun _ => pure ⟨⟩ : Prog (TpuEff nD τ sig (Elt F) (SparseCore.Sig (ΛP (F := F)) 2) .tc) PUnit) = seq ops from bind_pure _] at w
  iintro ⟨Hb, HV, Hk⟩
  iapply w $$ [Hb HV]
  · isplitl [Hb] <;> iassumption
  iintro H
  simp only [wp_pure]
  imodintro
  iapply Hk; iexact H

theorem hmain [∀ e, Nonempty (Elt F e)] (m : (ℓ : Loc nD τ sig) → Buf (Elt F) ℓ) (ρ : Dev nD → PrngReg) (κ : GSem nD τ sig → ℕ) (d : Dev nD) :
    iprop((K (F := F)).ctx EH (P (goIn m) (goOut m)) κ ∗ (K (F := F)).tcSt EH d 0 ∗ (K (F := F)).tcRes m ρ d ∗ G d)
      ⊢ wp frame (wpE ((K (F := F)).defs (D (F := F))) 𝒱 (tc d) none) Set.univ (main d)
          fun _ => iprop((K (F := F)).tcSt EH d 2 ∗ FIN m d ∗ (K (F := F)).tcEnd d) := by
  unfold SparseCore.Cfg.tcRes SparseCore.Cfg.tcEnd G
  rw [main_eq, show (unscopedBufs d (fun b => m ((tc d).loc b)) : sProp (MM F)) = held (tc d) (ucRefs τ sig) (launchContents m d) from
    Pipeline.unscopedBufs_held d (launchContents m d)]
  simp only [wp_bind, wp_pure]
  iintro ⟨#Hctx, Hst, ⟨Hb, HV, Hts, -⟩, Hg0, Hg1⟩
  ihave #Hlev := (SparseCore.Cfg.ctx_levAts κ) $$ Hctx
  iapply (wp_host d lineA (launchContents m d))
  isplitl [Hb]; · iexact Hb
  isplitl [HV]; · iexact HV
  iintro ⟨Hb, HV⟩
  iapply (wp_call (goIn m) (goOut m) κ d 0 (goOut_eq m d 0))
  isplitr; · iexact Hctx
  isplitl [Hst]; · iexact Hst
  isplitl [HV]; · iexact HV
  iintro ⟨Hst, HV⟩
  iapply (wp_host d lineB (V1 m d))
  isplitl [Hb]; · iexact Hb
  isplitl [HV]; · iexact HV
  iintro ⟨Hb, HV⟩
  iapply (wp_region (pdats (VB m) (VD m)) 0 1 (VB m) (seg1 (VB m) (VD m)) d rfl rfl)
  isplitl [Hb]; · iexact Hb
  isplitl [Hst]; · iexact Hst
  isplitl [HV]; · iexact HV
  isplitr; · iexact Hlev
  isplitl [Hg0]; · iexact Hg0
  iintro ⟨Hb, Hst, HV⟩
  iapply (wp_host d lineC (V2 m d))
  isplitl [Hb]; · iexact Hb
  isplitl [HV]; · iexact HV
  iintro ⟨Hb, HV⟩
  iapply (wp_call (goIn m) (goOut m) κ d 1 (goOut_eq m d 1))
  isplitr; · iexact Hctx
  isplitl [Hst]; · iexact Hst
  isplitl [HV]; · iexact HV
  iintro ⟨Hst, HV⟩
  iapply (wp_host d lineD (V3 m d))
  isplitl [Hb]; · iexact Hb
  isplitl [HV]; · iexact HV
  iintro ⟨Hb, HV⟩
  iapply (wp_region (pdats (VB m) (VD m)) 1 2 (VD m) (seg3 (VB m) (VD m)) d rfl rfl)
  isplitl [Hb]; · iexact Hb
  isplitl [Hst]; · iexact Hst
  isplitl [HV]; · iexact HV
  isplitr; · iexact Hlev
  isplitl [Hg1]; · iexact Hg1
  iintro ⟨Hb, Hst, HV⟩
  iapply (wp_host d lineE (V4 m d))
  isplitl [Hb]; · iexact Hb
  isplitl [HV]; · iexact HV
  iintro ⟨Hb, HV⟩
  imodintro
  isplitl [Hst]; · iexact Hst
  isplitl [HV]; · iexact HV
  isplitl [Hb] <;> iassumption

/-- At the end every unscoped buffer of a device is at the last valuation. -/
def fq (m : (ℓ : Loc nD τ sig) → Buf (Elt F) ℓ) (d : Dev nD) (s : Phys nD τ sig (Elt F)) : Prop :=
  ∀ b ∈ ucRefs τ sig, s.mem.mem (d, b) = VE m d b

theorem hfin (m : (ℓ : Loc nD τ sig) → Buf (Elt F) ℓ) (d : Dev nD) (s : Phys nD τ sig (Elt F)) : iprop(FIN m d ∗ SI s) ⊢ (⌜fq m d s⌝ : sProp (MM F)) := by
  unfold fq
  refine (Laws.forall_intro fun b => (Laws.forall_intro fun hb => ?_).trans Laws.pure_forall.2).trans Laws.pure_forall.2
  unfold FIN held
  rw [SparseCore.bigSep_erase' hb]
  iintro ⟨⟨Hb, -⟩, HSI⟩
  ihave H := (SI_pointsTo_agree (st := s) (ℓ := (d, b)) (I := Finset.univ) (q := fullShare) (f := VE m d b)) $$ [HSI Hb]
  · isplitl [HSI] <;> iassumption
  icases H with %hx
  ipureintro; exact funext fun i => hx i (Finset.mem_univ i)

/-- Every execution ends with every unscoped buffer at the last valuation and every semaphore at zero. -/
def QC (m : (ℓ : Loc nD τ sig) → Buf (Elt F) ℓ) : PUnit × MemSt nD τ sig (Elt F) → Prop := fun r =>
  (∀ (d : Dev nD), ∀ b ∈ ucRefs τ sig, r.2.mem (d, b) = VE m d b) ∧ r.2.sem = fun _ => 0

theorem kinds : ∀ q : Fin 2, (K (F := F)).kind q = .scVector
  | 0 => rfl
  | 1 => rfl

theorem run_main [∀ e, Nonempty (Elt F e)] (m : (ℓ : Loc nD τ sig) → Buf (Elt F) ℓ) (ρ : Dev nD → PrngReg) (h : Inside m) :
    θ_run (defs (F := F)) (threads (F := F)) ⟨m, fun _ => 0, ρ⟩ (QC m) :=
  SparseCore.Cfg.θ_run_sc_quiescent (K := K (F := F)) (D := D (F := F)) (𝒱 := 𝒱) (EH := EH) (P := P (goIn m) (goOut m)) (A := ∅) facts v₀
    (fun q hq => nomatch (kinds (F := F) q).symm.trans hq)
    (fun q _ => match q with | 0 => tileObl0 _ _ facts (ok0 m h) | 1 => tileObl1 _ _ facts (ok1 m h))
    (fun q _ => SparseCore.Cfg.VecSplit.of_plain (vecSplit _ _ q))
    m ρ main (G (F := F)) (FIN m) (u₀ (F := F)) (sep_elim_left.trans (hu₀ _ _)) (hmain m ρ) (fq m) (hfin m) (QC m) (fun _ h hz => ⟨h, hz⟩)

end Cert.Proof

end
-- ==== Proof.Table.lean ====
/- The centre table's entries: entry `i` is `i / 48 mod 1024`. -/
module

public import proofs.«01_k».proof.KernelIdeal

@[expose] public section

set_option maxRecDepth 65536

namespace Cert.Proof

open Cert.KernelIdeal Idealize.ShloMosaic

/-- `a k, a (k + 1), …, a (k + n - 1)` compared with `x` in turn: the shape of a match on numerals. -/
abbrev chain (x : Nat) (a : Nat → BitVec 32) (n : Nat) : Nat → BitVec 32 :=
  Nat.rec (motive := fun _ => Nat → BitVec 32) (fun _ => 0#32)
    (fun _ ih k => dite (x = k) (Eq.ndrec_symm (motive := fun _ => BitVec 32) (a k)) fun _ => ih (k + 1)) n

theorem chain_eq (x : Nat) (a : Nat → BitVec 32) (n : Nat) : ∀ k, k ≤ x → x < k + n → chain x a n k = a x := by
  induction n with
  | zero => intro k h h'; omega
  | succ n ih =>
    intro k h h'
    show dite (x = k) (Eq.ndrec_symm (motive := fun _ => BitVec 32) (a k)) (fun _ => chain x a n (k + 1)) = a x
    by_cases e : x = k
    · subst e; rw [dif_pos rfl]
    · rw [dif_neg e]; exact ih (k + 1) (by omega) (by omega)

/-- The table's three digits as chains, the value written out at the last. -/
noncomputable abbrev digits (i : Nat) : BitVec 32 :=
  chain (i / 16384) (fun a => chain (i / 128 % 128) (fun b => chain (i % 128)
    (fun c => BitVec.ofNat 32 ((16384 * a + 128 * b + c) / 48 % 1024)) 128 0) 128 0) 12 0

set_option smartUnfolding false in
set_option maxHeartbeats 0 in
theorem table_digits : (fun i => lit0t i) = digits := by rfl

theorem table_entry (i : Fin 196608) : lit0 i = BitVec.ofNat 32 (i.val / 48 % 1024) := by
  show lit0t i.val = _
  rw [show lit0t i.val = digits i.val from congrFun table_digits i.val]
  have hi := i.isLt
  show chain _ _ 12 0 = _
  rw [chain_eq _ _ 12 0 (by omega) (by omega)]
  show chain _ _ 128 0 = _
  rw [chain_eq _ _ 128 0 (by omega) (by omega)]
  show chain _ _ 128 0 = _
  rw [chain_eq _ _ 128 0 (by omega) (by omega)]
  rw [show 16384 * (i.val / 16384) + 128 * (i.val / 128 % 128) + i.val % 128 = i.val by omega]

end Cert.Proof

end
-- ==== Proof.Frame.lean ====
/- What the run keeps, and the frames: the precondition read off the arguments, the index arrays of the two gather
   calls inside their tables, every argument as it was. -/
module

public import proofs.«01_k».proof.Proof.Main
public import proofs.«01_k».proof.Proof.Table
public import proofs.«01_k».proof.Proof.Gen.Pre_in_range
public import proofs.«01_k».proof.Proof.Gen.Kernel
public import Idealize.ShloMosaic.Lib.ReduceAll

@[expose] public section

set_option maxRecDepth 16384

noncomputable section

namespace Cert.Proof

open Cert.KernelIdeal Cert.KernelIdeal.Gen
open Idealize.ShloMosaic Idealize.ShloMosaic.StableHlo
open Idealize.ShloMosaic.Pipeline (Dat ucRefs afterRegion afterRegion_keeps arrRef)
open Idealize.SL.Sem

/-! ## The precondition -/

/-- The atomic numbers name rows of the embedding, the neighbours name atoms. -/
structure Ranged (z : S8x1024.Idx → BitVec 32) (nb : S8x1024x48.Idx → BitVec 32) : Prop where
  z : ∀ i, (z i).toNat < 100
  nb : ∀ i, (nb i).toNat < 1024

theorem toNat_lt {x : BitVec 32} {n : ℕ} (h0 : (0#32 : BitVec 32).toInt ≤ x.toInt) (h1 : x.toInt < (BitVec.ofNat 32 n).toInt) (hn : n < 2 ^ 31) :
    x.toNat < n := by
  rw [show (0#32 : BitVec 32).toInt = 0 from rfl, BitVec.toInt_eq_toNat_cond] at h0
  rw [BitVec.toInt_eq_toNat_cond, BitVec.toInt_eq_toNat_cond, BitVec.toNat_ofNat] at h1
  have := x.isLt
  split_ifs at h0 h1 <;> omega

section
variable {F : FTy → Type} [FloatOps F]

theorem ranged [Cert.Pre_in_range.Facts] (a0 : FVec F Cert.Pre_in_range.S8x1024x3 .f32) (a1 : IVec Cert.Pre_in_range.S8x1024 32)
    (a2 : IVec Cert.Pre_in_range.S8x1024x48 32) (a3 : FVec F Cert.Pre_in_range.S100x128 .f32) (a4 : FVec F Cert.Pre_in_range.S32x128 .f32)
    (a5 : FVec F Cert.Pre_in_range.S128x128 .f32) (a6 : FVec F Cert.Pre_in_range.S128 .f32) (a7 : FVec F Cert.Pre_in_range.S128x64 .f32)
    (a8 : FVec F Cert.Pre_in_range.S64 .f32) (a9 : FVec F Cert.Pre_in_range.S64x1 .f32) (a10 : FVec F Cert.Pre_in_range.S1 .f32)
    (h : Cert.Pre_in_range.fn a0 a1 a2 a3 a4 a5 a6 a7 a8 a9 a10 = fun _ => 1#1) : Ranged a1 a2 := by
  have e := IntOp.andi_eq_one.1 (congrFun h (fun i => i.elim0))
  haveI : Subsingleton Cert.Pre_in_range.S_.Idx := ⟨fun a b => funext fun i => i.elim0⟩
  constructor
  · intro i
    obtain ⟨h0, h1⟩ := IntOp.andi_eq_one.1 (Host.reduce_andi_all _ _ _ _ _ e.1 i)
    exact toNat_lt (IntOp.cmpi_sge.1 h0) (IntOp.cmpi_slt.1 h1) (by decide)
  · intro i
    obtain ⟨h0, h1⟩ := IntOp.andi_eq_one.1 (Host.reduce_andi_all _ _ _ _ _ e.2 i)
    exact toNat_lt (IntOp.cmpi_sge.1 h0) (IntOp.cmpi_slt.1 h1) (by decide)
end

/-! ## What each part of the run keeps -/

variable {F : FTy → Type} [FloatOps F] [Named F] (m : (ℓ : Loc nD τ sig) → Buf (Elt F) ℓ) (d : Dev nD)

/-- A window of the first energies' call that is written is its result's. -/
theorem outs1 : ∀ w, (cfg1.win w).isOut = false ∨ arrRef cfg1.spec w = main_v32 := by decide +kernel
theorem outs3 : ∀ w, (cfg3.win w).isOut = false ∨ arrRef cfg3.spec w = main_v44 := by decide +kernel

/-- What is written from the first gather call to the end of the first half, and in the second half. -/
def writes1 : List (Ref sig .tc) := writesB ++ [main_v27_0, main_v27_1, main_v32]
def writes2 : List (Ref sig .tc) := writesD ++ [main_v39_0, main_v39_1, main_v44]

theorem keepsA (r : Ref sig .tc) (h : r ∉ writesA) : VA m d (dr r) = m ((tc d).loc r) := lineA.keeps _ r h

theorem keeps1 (r : Ref sig .tc) (h : r ∉ writes1) : V2 m d (dr r) = VA m d (dr r) := by
  unfold writes1 at h
  simp only [List.mem_append, List.mem_cons, List.not_mem_nil, not_or, or_false] at h
  exact (afterRegion_keeps (dat1 (VB m d) d) (VB m d) launch1.win.arr_inj (fun _ => rfl) r
      fun w e => (outs1 w).resolve_right fun e' => h.2.2.2 (e.symm.trans e')).trans
    ((lineB.keeps _ r h.1).trans (put_keeps _ _ _ h.2.1 h.2.2.1))

theorem keepsC (r : Ref sig .tc) (h : r ∉ writesC) : VC m d (dr r) = V2 m d (dr r) := lineC.keeps _ r h

theorem keeps2 (r : Ref sig .tc) (h : r ∉ writes2) : V4 m d (dr r) = VC m d (dr r) := by
  unfold writes2 at h
  simp only [List.mem_append, List.mem_cons, List.not_mem_nil, not_or, or_false] at h
  exact (afterRegion_keeps (dat3 (VD m d) d) (VD m d) launch3.win.arr_inj (fun _ => rfl) r
      fun w e => (outs3 w).resolve_right fun e' => h.2.2.2 (e.symm.trans e')).trans
    ((lineD.keeps _ r h.1).trans (put_keeps _ _ _ h.2.1 h.2.2.1))

theorem keepsE (r : Ref sig .tc) (h : r ∉ writesE) : VE m d (dr r) = V4 m d (dr r) := lineE.keeps _ r h

/-- A buffer the first stretch leaves and the first half keeps. -/
theorem atC (r : Ref sig .tc) (h1 : r ∉ writes1) (hC : r ∉ writesC) : VC m d (dr r) = VA m d (dr r) :=
  (keepsC m d r hC).trans (keeps1 m d r h1)

/-- A buffer nothing writes ends as it was. -/
theorem atE (r : Ref sig .tc) (h : r ∉ writesA ++ writes1 ++ writesC ++ writes2 ++ writesE) : VE m d (dr r) = m ((tc d).loc r) := by
  simp only [List.mem_append, not_or] at h
  obtain ⟨⟨⟨⟨hA, h1⟩, hC⟩, h2⟩, hE⟩ := h
  exact (keepsE m d r hE).trans ((keeps2 m d r h2).trans ((atC m d r h1 hC).trans (keepsA m d r hA)))

/-! ## The index arrays of the gather calls -/

theorem table_lt (i : Fin 196608) : (lit0 i).toNat < 1024 := by
  rw [table_entry, BitVec.toNat_ofNat]; omega

theorem VA_v22 : VA m d (dr main_v22) = shapeCast S32x48x128 (extractStridedSlice S4x1024x48 ![0, 0, 0] (m ((tc d).loc main_arg2) : S8x1024x48.Idx → BitVec 32)
    slices_S8x1024x48_S4x1024x48_0_0_0) shapeCasts_S4x1024x48_S32x48x128 := by
  unfold VA opsA; after_results_simp <;> rfl

theorem VA_v6 : VA m d (dr main_v6) = shapeCast S32x48x128 (fun i : S196608.Idx => lit0 (S196608.rowMajor i)) shapeCasts_S196608_S32x48x128 := by
  unfold VA opsA; after_results_simp <;> rfl

theorem centre_lt (j : S32x48x128.Idx) : (VA m d (dr main_v6) j).toNat < 1024 := by rw [VA_v6]; exact table_lt _

theorem V2_arg2 : V2 m d (dr main_arg2) = m ((tc d).loc main_arg2) :=
  (keeps1 m d main_arg2 (by decide)).trans (keepsA m d main_arg2 (by decide))

theorem VC_v34 : VC m d (dr main_v34) = shapeCast S32x48x128 (extractStridedSlice S4x1024x48 ![4, 0, 0] (m ((tc d).loc main_arg2) : S8x1024x48.Idx → BitVec 32)
    slices_S8x1024x48_S4x1024x48_4_0_0) shapeCasts_S4x1024x48_S32x48x128 := by
  rw [← V2_arg2 m d]
  unfold VC opsC; after_results_simp <;> rfl

theorem inside (h : ∀ d, Ranged (m ((tc d).loc main_arg1)) (m ((tc d).loc main_arg2))) : Inside m where
  idx0 d j := by rw [VA_v22]; exact (h d).nb _
  ctr0 := centre_lt m
  idx1 d j := by rw [VC_v34]; exact (h d).nb _
  ctr1 d j := (congrArg BitVec.toNat (congrFun (atC m d main_v6 (by decide) (by decide)) j)).trans_lt (centre_lt m d j)

/-! ## The frames -/

/-- Every execution ends with the arguments as they were and every semaphore at zero. -/
theorem run_frame [∀ e, Nonempty (Elt F e)] (ρ : Dev nD → PrngReg)
    (h : ∀ d, Ranged (m ((tc d).loc main_arg1)) (m ((tc d).loc main_arg2))) :
    θ_run (defs (F := F)) (threads (F := F)) ⟨m, fun _ => 0, ρ⟩ (fun r => (∀ c : Dev nD, ∀ a ∈ [main_arg0, main_arg1, main_arg2, main_arg3, main_arg4,
      main_arg5, main_arg6, main_arg7, main_arg8, main_arg9, main_arg10], r.2.mem ((tc c).loc a) = m ((tc c).loc a)) ∧ r.2.sem = fun _ => 0) :=
  (θ_run (defs (F := F)) _ _).mono (fun r q => ⟨fun c a ha => (q.1 c (dr a) (mem_uc a (by revert a; decide))).trans (atE m c a (by revert a; decide)), q.2⟩)
    (run_main m ρ (inside m h))

end Cert.Proof

end
-- ==== Proof.Words.lean ====
/- The kernel's own text and its idealization's: one program, the named constant read as the word the text has. -/
module

public import proofs.«01_k».proof.Proof.Base
public import proofs.«01_k».proof.Proof.Gen.Kernel
public import Idealize.ShloMosaic.PureOps.BitExact

@[expose] public section

set_option maxRecDepth 16384

noncomputable section

namespace Cert.Proof

open Idealize.ShloMosaic Idealize.SL.Sem

/-- The named constant read at the bit-exact instance: the word the kernel's own text has in its place. -/
abbrev words : Named Bits where
  named _ _ {φ} b := Scalar.ofBits φ b

attribute [local instance] words

set_option maxHeartbeats 4000000 in
/-- The bodies of the four calls are the same at the words. -/
theorem bodies : Cert.Kernel.defs₀ (F := Bits) = Cert.KernelIdeal.defs₀ (F := Bits) := by
  funext p ℓ a
  match p, ℓ, a with
  | .tc, 0, _ => rfl
  | .tc, 1, _ => rfl
  | .tc, 2, _ => rfl
  | .tc, 3, _ => rfl
  | .scScalar _, 0, _ => rfl
  | .scScalar _, 1, _ => rfl
  | .scScalar _, 2, _ => rfl
  | .scScalar _, 3, _ => rfl
  | .scVector _ _, 0, _ => rfl
  | .scVector _ _, 1, _ => rfl
  | .scVector _ _, 2, _ => rfl
  | .scVector _ _, 3, _ => rfl

set_option maxHeartbeats 800000 in
theorem defs_words : Cert.Kernel.defs (F := Bits) = Cert.KernelIdeal.defs (F := Bits) := by
  have h := congrArg (fun b => (Cert.KernelIdeal.sc (F := Bits)).defs (Pipeline.defs (Cert.KernelIdeal.pcfgs (F := Bits)) b)) bodies
  exact h

end Cert.Proof

end
-- ==== Proof.Threads.lean ====
/- The two texts' threads are the same at the words. -/
module

public import proofs.«01_k».proof.Proof.Words

@[expose] public section

set_option maxRecDepth 16384

noncomputable section

namespace Cert.Proof

open Idealize.ShloMosaic

attribute [local instance] words

set_option maxHeartbeats 4000000 in
theorem threads_words : Cert.Kernel.threads (F := Bits) = Cert.KernelIdeal.threads (F := Bits) := (rfl)

end Cert.Proof

end
-- ==== Proof.Claims.lean ====
/- The frames of the kernel, of its idealization and of the reference, and the named constant. -/
module

public import proofs.«01_k».proof.Defs
public import proofs.«01_k».proof.Proof.Frame
public import proofs.«01_k».proof.Proof.Threads
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.StableHlo
open Idealize.SL.Sem

attribute [local instance] words

/-- A property of each of the eleven arguments, one by one. -/
theorem eleven {α : Type} {p : α → Prop} {a0 a1 a2 a3 a4 a5 a6 a7 a8 a9 a10 : α}
    (h : ∀ a ∈ [a0, a1, a2, a3, a4, a5, a6, a7, a8, a9, a10], p a) :
    p a0 ∧ p a1 ∧ p a2 ∧ p a3 ∧ p a4 ∧ p a5 ∧ p a6 ∧ p a7 ∧ p a8 ∧ p a9 ∧ p a10 := by
  simpa only [List.forall_mem_cons, List.forall_mem_nil, and_true, List.not_mem_nil, false_imp_iff, implies_true] using h

section
open Cert.KernelIdeal

/-- The frame of the kernel's text at any instance. -/
theorem frame_any {F : FTy → Type} [FloatOps F] [Named F] [∀ e, Nonempty (Elt F e)] (m : (ℓ : Loc nD τ sig) → Buf (Elt F) ℓ) (ρ : Dev nD → PrngReg)
    (h : ∀ d, Ranged (m ((tc d).loc main_arg1)) (m ((tc d).loc main_arg2))) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run (defs (F := F)) _ _).mono (fun r q => ⟨fun c => eleven (p := fun a => r.2.mem ((tc c).loc a) = m ((tc c).loc a)) (q.1 c), q.2⟩) (run_frame m ρ h)

end

set_option maxHeartbeats 4000000 in
/-- The kernel's own text is the idealization's with the word for the named constant: one run, read at the words. -/
theorem frame_kernel : Cert.quiescent_Kernel := fun m ρ h => by
  rw [defs_words, threads_words]
  exact frame_any (F := Bits) m ρ fun d => ranged _ _ _ _ _ _ _ _ _ _ _ (h d)

theorem frame_ideal : Cert.quiescent_KernelIdeal := fun m ρ h =>
  frame_any (F := Ideal) m ρ fun d => ranged _ _ _ _ _ _ _ _ _ _ _ (h d)

/-- The named constant is the thirty-first part of five. -/
theorem preserves : Cert.preserves_Kernel_KernelIdeal :=
  IdealRules.named_const.statement Cert.KernelIdeal.κ "step" .f32 0x3E25294A#32 ((5 / 31 : ℝ) : EReal) rfl

/-- The reference declares no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Proof

end
-- ==== Proof.Spec.lean ====
/- The energy of a molecule as plain sums over the extended reals, which both programs are shown to compute. -/
module

public import Idealize.ShloMosaic.PureOps.Ideal
public import Idealize.ShloMosaic.Lib.Pointwise

@[expose] public section

noncomputable section

namespace Cert.Proof

open Idealize.ShloMosaic

/-- What the energy of one molecule is made of: the atoms' coordinates and features, the neighbours, and the weights. -/
structure Mol where
  pos : Fin 1024 → Fin 3 → EReal
  x : Fin 1024 → Fin 128 → EReal
  nb : Fin 1024 → Fin 48 → Fin 1024
  wf : Fin 32 → Fin 128 → EReal
  wm : Fin 128 → Fin 128 → EReal
  bm : Fin 128 → EReal
  w1 : Fin 128 → Fin 64 → EReal
  b1 : Fin 64 → EReal
  w2 : Fin 64 → EReal

/-- A point of the radial grid, which goes from 0 to 5 in 31 steps. -/
def knot (g : Fin 32) : EReal := ((g.val * (5 / 31) : ℝ) : EReal)

/-- One radial function of a squared distance. -/
def radial (d : EReal) (g : Fin 32) : EReal :=
  Ideal.exp (Ideal.ofBits .f32 0xC1200000#32
    * ((Ideal.sqrt (d + Ideal.ofBits .f32 0x322BCC77#32) - knot g) * (Ideal.sqrt (d + Ideal.ofBits .f32 0x322BCC77#32) - knot g)))

namespace Mol

/-- The squared distance of an atom to a neighbour. -/
def dist (M : Mol) (a : Fin 1024) (n : Fin 48) : EReal :=
  ∑ c : Fin 3, (M.pos (M.nb a n) c - M.pos a c) * (M.pos (M.nb a n) c - M.pos a c)

/-- The filter of a squared distance. -/
def filter (M : Mol) (d : EReal) (f : Fin 128) : EReal := ∑ g : Fin 32, radial d g * M.wf g f

/-- What an atom hears of its neighbours. -/
def message (M : Mol) (a : Fin 1024) (f : Fin 128) : EReal := ∑ n : Fin 48, M.x (M.nb a n) f * M.filter (M.dist a n) f

/-- The representation of an atom. -/
def rep (M : Mol) (a : Fin 1024) (f : Fin 128) : EReal :=
  M.x a f + Ideal.tanh (∑ k : Fin 128, M.message a k * M.wm k f + M.bm f)

/-- The energy of an atom, without the last bias. -/
def atom (M : Mol) (a : Fin 1024) : EReal :=
  ∑ h : Fin 64, Ideal.tanh (∑ f : Fin 128, M.rep a f * M.w1 f h + M.b1 h) * M.w2 h

end Mol

/-- The molecule `b` of the programs' arguments. -/
def molecule (p : (⟨3, ![8, 1024, 3]⟩ : Shape).Idx → EReal) (z : (⟨2, ![8, 1024]⟩ : Shape).Idx → BitVec 32)
    (nb : (⟨3, ![8, 1024, 48]⟩ : Shape).Idx → BitVec 32) (emb : (⟨2, ![100, 128]⟩ : Shape).Idx → EReal)
    (wf : (⟨2, ![32, 128]⟩ : Shape).Idx → EReal) (wm : (⟨2, ![128, 128]⟩ : Shape).Idx → EReal)
    (bm : (⟨1, ![128]⟩ : Shape).Idx → EReal) (w1 : (⟨2, ![128, 64]⟩ : Shape).Idx → EReal)
    (b1 : (⟨1, ![64]⟩ : Shape).Idx → EReal) (w2 : (⟨2, ![64, 1]⟩ : Shape).Idx → EReal) (b : Fin 8) : Mol where
  pos a c := p (ix3 b a c)
  x a f := emb (ix2 ⟨(z (ix2 b a)).toNat % 100, Nat.mod_lt _ (by decide)⟩ f)
  nb a n := ⟨(nb (ix3 b a n)).toNat % 1024, Nat.mod_lt _ (by decide)⟩
  wf g f := wf (ix2 g f)
  wm k f := wm (ix2 k f)
  bm f := bm (ix1 f)
  w1 f h := w1 (ix2 f h)
  b1 h := b1 (ix1 h)
  w2 h := w2 (ix2 h 0)

/-- A bias added at each of the 1024 atoms is the bias added 1024 times over. -/
theorem sum_bias (f : Fin 1024 → EReal) (b : EReal) :
    ∑ a : Fin 1024, (f a + b) = ∑ a : Fin 1024, f a + b * Ideal.ofBits .f32 0x44800000#32 := by
  have h : Ideal.ofBits .f32 0x44800000#32 = ((1024 : ℕ) : EReal) := by
    rw [show ((1024 : ℕ) : EReal) = ((1024 : ℝ) : EReal) by norm_cast]
    simp [Ideal.ofBits, Ideal.ieee, -EReal.coe_mul]; norm_num
  rw [Finset.sum_add_distrib, Finset.sum_const, Finset.card_univ, Fintype.card_fin, EReal.nsmul_eq_mul, h, mul_comm]

/-- A sum in which one number is picked by its own indicator. -/
theorem sum_pick {n : Nat} (f : Fin n → EReal) (k : Fin n) : ∑ i : Fin n, f i * (if i = k then 1 else 0) = f k := by
  rw [Finset.sum_eq_single k (fun i _ h => by rw [if_neg h, mul_zero]) (fun h => absurd (Finset.mem_univ k) h), if_pos rfl, mul_one]

end Cert.Proof

end
-- ==== Proof.KVal.lean ====
/- A half's TensorCore kernel at the extended reals: the energies of the molecules its arrays hold. -/
module

public import proofs.«01_k».proof.Proof.Half
public import proofs.«01_k».proof.Proof.Spec
public import Idealize.ShloMosaic.Lib.Pointwise

@[expose] public section

set_option maxRecDepth 16384

noncomputable section

namespace Cert.Proof

open Cert.KernelIdeal Cert.KernelIdeal.Gen
open Idealize.ShloMosaic

/-- An indicator of two equal numbers, as the kernel makes it. -/
theorem indicator (k x : Fin 100) :
    (FloatOps.sitofp (F := Ideal) .f32 (BitVec.setWidth 32 (IntOp.cmpi .eq (BitVec.ofNat 32 k.val) (BitVec.ofNat 32 x.val))) : EReal)
      = if x = k then 1 else 0 := by
  show (((BitVec.setWidth 32 (BitVec.ofBool (BitVec.ofNat 32 k.val == BitVec.ofNat 32 x.val))).toInt : ℝ) : EReal) = _
  by_cases h : x = k
  · subst h
    simp
  · have h' : ¬ BitVec.ofNat 32 k.val = BitVec.ofNat 32 x.val := fun e => h (Fin.ext (by
      have := congrArg BitVec.toNat e
      rw [BitVec.toNat_ofNat, BitVec.toNat_ofNat, Nat.mod_eq_of_lt (by omega), Nat.mod_eq_of_lt (by omega)] at this
      exact this.symm))
    rw [if_neg h, beq_eq_false_iff_ne.mpr h']
    simp

/-- The column of a table picked by a number. -/
theorem pick_col (e : Fin 100 → EReal) (w : BitVec 32) (k : Fin 100) (h : w = BitVec.ofNat 32 k.val) :
    (∑ x : Fin 100, e x * (FloatOps.sitofp (F := Ideal) .f32 (BitVec.setWidth 32 (IntOp.cmpi .eq w (BitVec.ofNat 32 x.val))) : EReal)) = e k := by
  subst h
  rw [← sum_pick e k]
  exact Finset.sum_congr rfl fun x _ => congrArg (e x * ·) (indicator k x)

/-- A sum over the pairs of 128 atoms, those of one atom picked. -/
theorem sum_block (f : Fin 6144 → EReal) (j : Fin 128) :
    ∑ p : Fin 6144, f p * (if p.val / 48 = j.val then 1 else 0) = ∑ n : Fin 48, f ⟨48 * j.val + n.val, by omega⟩ := by
  rw [← Fintype.sum_equiv (finProdFinEquiv (m := 128) (n := 48)) (fun q => f (finProdFinEquiv q) * (if (finProdFinEquiv q).val / 48 = j.val then 1 else 0)) _ (fun _ => rfl),
    Fintype.sum_prod_type, Finset.sum_eq_single j]
  · refine Finset.sum_congr rfl fun n _ => ?_
    have e : (finProdFinEquiv (j, n) : Fin (128 * 48)).val = n.val + 48 * j.val := rfl
    rw [if_pos (by rw [e]; omega), mul_one]
    exact congrArg f (Fin.ext (by rw [e]; show _ = 48 * j.val + n.val; omega))
  · intro i _ hi
    refine Finset.sum_eq_zero fun n _ => ?_
    have e : (finProdFinEquiv (i, n) : Fin (128 * 48)).val = n.val + 48 * i.val := rfl
    rw [if_neg (by rw [e]; intro h; exact hi (Fin.ext (by omega))), mul_zero]
  · exact fun h => absurd (Finset.mem_univ j) h

theorem step_eq (g : Fin 32) :
    (FloatOps.sitofp (F := Ideal) .f32 (BitVec.ofNat 32 g.val) : EReal) * Named.named (F := Ideal) κ "step" (φ := .f32) 1042622794#32 = knot g := by
  have hg : (BitVec.ofNat 32 g.val).toInt = (g.val : ℤ) := by
    have := g.isLt
    rw [BitVec.toInt_eq_toNat_cond, BitVec.toNat_ofNat, Nat.mod_eq_of_lt (by omega), if_pos (by omega)]
  show (((BitVec.ofNat 32 g.val).toInt : ℝ) : EReal) * ((5 / 31 : ℝ) : EReal) = _
  rw [hg, ← EReal.coe_mul]
  rfl

/-! ## The four values of a grid point, read -/

theorem pay3_apply (z : Vec Ideal S1x1x1024 .i32) (e : Vec Ideal S128x100 .f32) (f : Fin 128) (a : Fin 1024) (k : Fin 100)
    (h : z (ix3 0 0 a) = BitVec.ofNat 32 k.val) : k1_pay3 (F := Ideal) z e (ix2 f a) = e (ix2 f k) := by
  pointwise [k1_pay3]
  exact pick_col (fun x => e (ix2 f x)) _ k h

theorem pay4_apply (e : Vec Ideal S128x100 .f32) (f : Fin 128) (k : Fin 100) : k1_pay4 (F := Ideal) e (ix2 f k) = e (ix2 f k) := by
  pointwise [k1_pay4]

theorem pay5_apply (zj : Vec Ideal S1x1x6144 .i32) (e : Vec Ideal S128x100 .bf16) (d : Vec Ideal S1x1x6144 .f32) (wf : Vec Ideal S128x32 .f32)
    (oh : Vec Ideal S6144x128 .bf16) (ho : ∀ p j, oh (ix2 p j) = if p.val / 48 = j.val then 1 else 0) (k : Fin 6144 → Fin 100)
    (hk : ∀ p, zj (ix3 0 0 p) = BitVec.ofNat 32 (k p).val) (f j : Fin 128) :
    k1_pay5 (F := Ideal) zj e d wf oh (ix2 f j)
      = ∑ n : Fin 48, e (ix2 f (k ⟨48 * j.val + n.val, by omega⟩)) * ∑ g : Fin 32, radial (d (ix3 0 0 ⟨48 * j.val + n.val, by omega⟩)) g * wf (ix2 f g) := by
  pointwise [k1_pay5]
  rw [← sum_block (fun p => e (ix2 f (k p)) * ∑ g : Fin 32, radial (d (ix3 0 0 p)) g * wf (ix2 f g)) j]
  refine Finset.sum_congr rfl fun p _ => ?_
  rw [ho, pick_col (fun x => e (ix2 f x)) _ (k p) (hk p)]
  refine congrArg (fun t => e (ix2 f (k p)) * t * _) (Finset.sum_congr rfl fun g _ => ?_)
  rw [step_eq, mul_comm]
  refine congrArg (· * _) ?_
  unfold radial
  rw [mul_assoc]

theorem pay2_apply (x : Vec Ideal S128x1024 .f32) (wm : Vec Ideal S128x128 .f32) (ms : Vec Ideal S128x1024 .f32) (bm : Vec Ideal S128x1 .f32)
    (w1 : Vec Ideal S64x128 .f32) (b1 : Vec Ideal S64x1 .f32) (w2 : Vec Ideal S1x64 .f32) (j : Fin 128) :
    k1_pay2 (F := Ideal) x wm ms bm w1 b1 w2 (ix3 0 0 j)
      = ∑ a : Fin 1024, ∑ h : Fin 64, w2 (ix2 0 h) * Ideal.tanh (∑ k : Fin 128, w1 (ix2 h k)
          * (x (ix2 k a) + Ideal.tanh (∑ k' : Fin 128, wm (ix2 k k') * ms (ix2 k' a) + bm (ix2 k 0))) + b1 (ix2 h 0)) := by
  pointwise [k1_pay2]
  exact Fintype.sum_subsingleton _ (0 : Fin 1)

/-! ## The energies of a half -/

/-- The arrays of a half hold molecule `M` as their batch `b`. -/
structure Reads (A : Arrays Ideal) (b : Fin 4) (M : Mol) : Prop where
  x : ∀ a : Fin 1024, ∃ k : Fin 100, A.z (ix3 b 0 a) = BitVec.ofNat 32 k.val ∧ ∀ f, A.emb (ix2 f k) = M.x a f
  zj : ∀ (t : Fin 8) (j : Fin 128) (n : Fin 48), ∃ k : Fin 100,
    A.zj (ix3 ⟨8 * b.val + t.val, by omega⟩ 0 ⟨48 * j.val + n.val, by omega⟩) = BitVec.ofNat 32 k.val
      ∧ ∀ f, A.emb (ix2 f k) = M.x (M.nb ⟨128 * t.val + j.val, by omega⟩ n) f
  d2 : ∀ (t : Fin 8) (j : Fin 128) (n : Fin 48),
    A.d2 (ix3 ⟨8 * b.val + t.val, by omega⟩ 0 ⟨48 * j.val + n.val, by omega⟩) = M.dist ⟨128 * t.val + j.val, by omega⟩ n
  oh : ∀ p j, A.oh (ix2 p j) = if p.val / 48 = j.val then 1 else 0
  wf : ∀ f g, A.wf (ix2 f g) = M.wf g f
  wm : ∀ k f, A.wm (ix2 f k) = M.wm k f
  bm : ∀ f, A.bm (ix2 f 0) = M.bm f
  w1 : ∀ f h, A.w1 (ix2 h f) = M.w1 f h
  b1 : ∀ h, A.b1 (ix2 h 0) = M.b1 h
  w2 : ∀ h, A.w2 (ix2 0 h) = M.w2 h

namespace Reads
variable {A : Arrays Ideal} {b : Fin 4} {M : Mol} (R : Reads A b M)
include R

theorem x_apply (f : Fin 128) (a : Fin 1024) : A.x b.val (ix2 f a) = M.x a f := by
  obtain ⟨k, hk, he⟩ := R.x a
  refine (pay3_apply _ _ f a k ?_).trans (he f)
  show A.z (ix3 ⟨b.val % 4, _⟩ 0 a) = _
  rw [← hk]
  exact congrArg A.z (congrArg (fun i => ix3 i 0 a) (Fin.ext (Nat.mod_eq_of_lt b.isLt)))

theorem msg_apply (t : Fin 8) (f j : Fin 128) : A.msg (8 * b.val + t.val) (ix2 f j) = M.message ⟨128 * t.val + j.val, by omega⟩ f := by
  have hr : (⟨(8 * b.val + t.val) % 32, Nat.mod_lt _ (by decide)⟩ : Fin 32) = ⟨8 * b.val + t.val, by omega⟩ := Fin.ext (Nat.mod_eq_of_lt (by omega))
  have hp : ∀ p : Fin 6144, (⟨48 * (p.val / 48) + p.val % 48, by omega⟩ : Fin 6144) = p := fun p => Fin.ext (Nat.div_add_mod _ _)
  have hex : ∀ p : Fin 6144, ∃ k : Fin 100, rowAt A.zj (8 * b.val + t.val) (ix3 0 0 p) = BitVec.ofNat 32 k.val
      ∧ ∀ f, A.emb (ix2 f k) = M.x (M.nb ⟨128 * t.val + p.val / 48, by omega⟩ ⟨p.val % 48, Nat.mod_lt _ (by decide)⟩) f := fun p => by
    obtain ⟨k, h1, h2⟩ := R.zj t ⟨p.val / 48, by omega⟩ ⟨p.val % 48, Nat.mod_lt _ (by decide)⟩
    refine ⟨k, ?_, h2⟩
    rw [← h1]
    show A.zj (ix3 ⟨(8 * b.val + t.val) % 32, _⟩ 0 p) = A.zj (ix3 _ 0 ⟨48 * (p.val / 48) + p.val % 48, _⟩)
    rw [hr, hp]
  choose k h1 h2 using hex
  have e1 : A.msg (8 * b.val + t.val) (ix2 f j)
      = k1_pay5 (F := Ideal) (rowAt A.zj (8 * b.val + t.val)) (k1_pay4 A.emb) (rowAt A.d2 (8 * b.val + t.val)) A.wf A.oh (ix2 f j) := by
    unfold Arrays.msg
    pointwise [k1_pay1]
  rw [e1, pay5_apply _ _ _ _ _ R.oh k h1]
  refine Finset.sum_congr rfl fun n _ => ?_
  have ed : (48 * j.val + n.val) / 48 = j.val := by omega
  have em : (48 * j.val + n.val) % 48 = n.val := by omega
  have en : M.nb ⟨128 * t.val + (48 * j.val + n.val) / 48, by omega⟩ ⟨(48 * j.val + n.val) % 48, Nat.mod_lt _ (by decide)⟩
      = M.nb ⟨128 * t.val + j.val, by omega⟩ n := by congr 1 <;> exact Fin.ext (by first | exact em | (show 128 * t.val + _ = 128 * t.val + j.val; rw [ed]))
  rw [pay4_apply, h2]
  refine congr (congrArg (· * ·) (congrArg (fun i => M.x i f) en)) ?_
  refine Finset.sum_congr rfl fun g _ => ?_
  rw [R.wf]
  refine congrArg (fun d => radial d g * _) ?_
  rw [← R.d2 t j n]
  show A.d2 (ix3 ⟨(8 * b.val + t.val) % 32, _⟩ 0 ⟨48 * j.val + n.val, _⟩) = _
  rw [hr]

theorem msgs_apply (f : Fin 128) (a : Fin 1024) : A.msgs b.val (ix2 f a) = M.message a f := by
  show A.msg (8 * b.val + a.val / 128) (ix2 f ⟨a.val % 128, _⟩) = _
  refine (R.msg_apply ⟨a.val / 128, by omega⟩ f ⟨a.val % 128, Nat.mod_lt _ (by decide)⟩).trans ?_
  exact congrArg (fun i => M.message i f) (Fin.ext (Nat.div_add_mod _ _))

/-- A batch's output holds, in every lane, the energy of its molecule without the last bias. -/
theorem out_apply (j : Fin 128) : A.out b.val (ix3 0 0 j) = ∑ a : Fin 1024, M.atom a := by
  refine (pay2_apply _ _ _ _ _ _ _ j).trans (Finset.sum_congr (M := EReal) rfl fun a _ => Finset.sum_congr (M := EReal) rfl fun h _ => ?_)
  have hr : ∀ k : Fin 128, A.x b.val (ix2 k a) + Ideal.tanh (∑ k' : Fin 128, A.wm (ix2 k k') * A.msgs b.val (ix2 k' a) + A.bm (ix2 k 0)) = M.rep a k := fun k => by
    rw [R.x_apply, R.bm]
    refine congrArg (fun t => _ + Ideal.tanh (t + _)) (Finset.sum_congr rfl fun k' _ => ?_)
    rw [R.wm, R.msgs_apply, mul_comm]
  simp only [hr]
  rw [R.w2, R.b1, mul_comm]
  refine congrArg (fun t => Ideal.tanh (t + _) * _) (Finset.sum_congr rfl fun f _ => ?_)
  rw [R.w1, mul_comm]

end Reads

end Cert.Proof

end
-- ==== Proof.KHost.lean ====
/- The arrays of the two halves as the program's own operations make them, and the kernel's result at each molecule. -/
module

public import proofs.«01_k».proof.Proof.Frame
public import proofs.«01_k».proof.Proof.KVal
public import Idealize.ShloMosaic.Lib.Pointwise
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.StableHlo
open Idealize.ShloMosaic.Pipeline (Dat afterRegion afterRegion_arr arrRef)

/-! ## A half's arrays hold its molecules -/

/-- The one-hot matrix, read. -/
theorem onehot_apply (p : Fin 6144) (j : Fin 128) :
    truncf .bf16 (uitofp (F := Ideal) .f32 (cmpi .eq (Host.divsi (iotaInDim S6144x128 32 0) (broadcastInDim S6144x128 ![] bcast_S_S6144x128 (constantI S_ 32 48#32)))
      (iotaInDim S6144x128 32 1))) bitsLt_bf16_f32 (ix2 p j) = if p.val / 48 = j.val then 1 else 0 := by
  pointwise []
  have hd : ∀ p : Fin 6144, IntOp.divsi .host (BitVec.ofNat 32 p.val) 48#32 = BitVec.ofNat 32 (p.val / 48) := by decide +kernel
  rw [hd]
  show (((BitVec.ofBool (BitVec.ofNat 32 (p.val / 48) == BitVec.ofNat 32 j.val)).toNat : ℝ) : EReal) = _
  have hb : (BitVec.ofNat 32 (p.val / 48) == BitVec.ofNat 32 j.val) = decide (p.val / 48 = j.val) := by
    rw [Bool.eq_iff_iff, beq_iff_eq, decide_eq_true_iff]
    refine ⟨fun e => ?_, fun e => by rw [e]⟩
    have := congrArg BitVec.toNat e
    rwa [BitVec.toNat_ofNat, BitVec.toNat_ofNat, Nat.mod_eq_of_lt (by omega), Nat.mod_eq_of_lt (by omega)] at this
  rw [hb]
  by_cases h : p.val / 48 = j.val
  · rw [if_pos h, decide_eq_true h]; simp
  · rw [if_neg h, decide_eq_false h]; simp

section
variable (o : ℕ) (ho : o + 4 ≤ 8) (p : S8x1024x3.Idx → EReal) (z : S8x1024.Idx → BitVec 32) (nb : S8x1024x48.Idx → BitVec 32)
  (emb : S100x128.Idx → EReal) (wf : S32x128.Idx → EReal) (wm : S128x128.Idx → EReal) (bm : S128.Idx → EReal)
  (w1 : S128x64.Idx → EReal) (b1 : S64.Idx → EReal) (w2 : S64x1.Idx → EReal)

/-- The arrays of the half from molecule `o` on, as they come from the arguments. -/
structure From (A : Arrays Ideal) where
  IX : S32x48x128.Idx → BitVec 32
  CT : S32x48x128.Idx → BitVec 32
  Z : S4x1024.Idx → BitVec 32
  X : S4x1024.Idx → EReal
  Y : S4x1024.Idx → EReal
  W : S4x1024.Idx → EReal
  ix : ∀ (g : Fin 32) (r : Fin 48) (c : Fin 128), IX (ix3 g r c) = nb (ix3 ⟨o + g.val / 8, by omega⟩
    ⟨(g.val * 6144 + r.val * 128 + c.val) / 48 % 1024, Nat.mod_lt _ (by decide)⟩ ⟨(g.val * 6144 + r.val * 128 + c.val) % 48, Nat.mod_lt _ (by decide)⟩)
  ct : ∀ (g : Fin 32) (r : Fin 48) (c : Fin 128), CT (ix3 g r c) = BitVec.ofNat 32 ((g.val * 6144 + r.val * 128 + c.val) / 48 % 1024)
  hZ : ∀ (b : Fin 4) (a : Fin 1024), Z (ix2 b a) = z (ix2 ⟨o + b.val, by omega⟩ a)
  hX : ∀ (b : Fin 4) (a : Fin 1024), X (ix2 b a) = p (ix3 ⟨o + b.val, by omega⟩ a 0)
  hY : ∀ (b : Fin 4) (a : Fin 1024), Y (ix2 b a) = p (ix3 ⟨o + b.val, by omega⟩ a 1)
  hW : ∀ (b : Fin 4) (a : Fin 1024), W (ix2 b a) = p (ix3 ⟨o + b.val, by omega⟩ a 2)
  zj : A.zj = shapeCast S32x1x6144 (zArr IX Z) shapeCasts_S32x48x128_S32x1x6144
  d2 : A.d2 = shapeCast S32x1x6144 (dArr (F := Ideal) IX CT X Y W) shapeCasts_S32x48x128_S32x1x6144
  z' : ∀ (b : Fin 4) (a : Fin 1024), A.z (ix3 b 0 a) = z (ix2 ⟨o + b.val, by omega⟩ a)
  emb' : ∀ f k, A.emb (ix2 f k) = emb (ix2 k f)
  wf' : ∀ f g, A.wf (ix2 f g) = wf (ix2 g f)
  oh : ∀ p j, A.oh (ix2 p j) = if p.val / 48 = j.val then 1 else 0
  wm' : ∀ f k, A.wm (ix2 f k) = wm (ix2 k f)
  bm' : ∀ f, A.bm (ix2 f 0) = bm (ix1 f)
  w1' : ∀ h f, A.w1 (ix2 h f) = w1 (ix2 f h)
  b1' : ∀ h, A.b1 (ix2 h 0) = b1 (ix1 h)
  w2' : ∀ h, A.w2 (ix2 0 h) = w2 (ix2 h 0)

variable {o ho p z nb emb wf wm bm w1 b1 w2}

theorem From.reads {A : Arrays Ideal} (R : From o ho p z nb emb wf wm bm w1 b1 w2 A) (hz : ∀ i, (z i).toNat < 100) (b : Fin 4) :
    Reads A b (molecule p z nb emb wf wm bm w1 b1 w2 ⟨o + b.val, by omega⟩) := by
  have word : ∀ i, z i = BitVec.ofNat 32 ((z i).toNat % 100) := fun i => by
    rw [Nat.mod_eq_of_lt (hz i), BitVec.ofNat_toNat, BitVec.setWidth_eq]
  -- where edge `48 j + n` of tile `8 b + t` comes from
  have edge : ∀ (t : Fin 8) (j : Fin 128) (n : Fin 48), R.IX (ix3 ⟨8 * b.val + t.val, by omega⟩ ⟨(48 * j.val + n.val) / 128, by omega⟩ ⟨(48 * j.val + n.val) % 128, by omega⟩)
      = nb (ix3 ⟨o + b.val, by omega⟩ ⟨128 * t.val + j.val, by omega⟩ n) := fun t j n => by
    rw [R.ix]
    have e0 : (⟨o + (8 * b.val + t.val) / 8, by omega⟩ : Fin 8) = ⟨o + b.val, by omega⟩ := Fin.ext (by show o + (8 * b.val + t.val) / 8 = o + b.val; omega)
    have e1 : (⟨((8 * b.val + t.val) * 6144 + (48 * j.val + n.val) / 128 * 128 + (48 * j.val + n.val) % 128) / 48 % 1024, Nat.mod_lt _ (by decide)⟩ : Fin 1024)
        = ⟨128 * t.val + j.val, by omega⟩ := Fin.ext (by
      show ((8 * b.val + t.val) * 6144 + (48 * j.val + n.val) / 128 * 128 + (48 * j.val + n.val) % 128) / 48 % 1024 = 128 * t.val + j.val
      omega)
    have e2 : (⟨((8 * b.val + t.val) * 6144 + (48 * j.val + n.val) / 128 * 128 + (48 * j.val + n.val) % 128) % 48, Nat.mod_lt _ (by decide)⟩ : Fin 48) = n := Fin.ext (by
      show ((8 * b.val + t.val) * 6144 + (48 * j.val + n.val) / 128 * 128 + (48 * j.val + n.val) % 128) % 48 = n.val
      omega)
    rw [e0, e1, e2]
  have centre : ∀ (t : Fin 8) (j : Fin 128) (n : Fin 48), (⟨(R.CT (ix3 ⟨8 * b.val + t.val, by omega⟩ ⟨(48 * j.val + n.val) / 128, by omega⟩
      ⟨(48 * j.val + n.val) % 128, by omega⟩)).toNat % 1024, Nat.mod_lt _ (by decide)⟩ : Fin 1024) = ⟨128 * t.val + j.val, by omega⟩ := fun t j n => Fin.ext (by
    show (R.CT _).toNat % 1024 = _
    rw [R.ct, BitVec.toNat_ofNat]
    show ((8 * b.val + t.val) * 6144 + (48 * j.val + n.val) / 128 * 128 + (48 * j.val + n.val) % 128) / 48 % 1024 % 2 ^ 32 % 1024 = 128 * t.val + j.val
    omega)
  have bat : ∀ t : Fin 8, (⟨(8 * b.val + t.val) / 8, by omega⟩ : Fin 4) = b := fun t => Fin.ext (by show (8 * b.val + t.val) / 8 = b.val; omega)
  refine ⟨fun a => ⟨⟨(z (ix2 ⟨o + b.val, by omega⟩ a)).toNat % 100, Nat.mod_lt _ (by decide)⟩, ?_, fun f => ?_⟩,
    fun t j n => ⟨⟨(z (ix2 ⟨o + b.val, by omega⟩ ⟨(nb (ix3 ⟨o + b.val, by omega⟩ ⟨128 * t.val + j.val, by omega⟩ n)).toNat % 1024, Nat.mod_lt _ (by decide)⟩)).toNat % 100,
      Nat.mod_lt _ (by decide)⟩, ?_, fun f => ?_⟩,
    fun t j n => ?_, R.oh, R.wf', fun k f => R.wm' f k, R.bm', fun f h => R.w1' h f, R.b1', R.w2'⟩
  · rw [R.z']; exact word _
  · rw [R.emb']; rfl
  · rw [R.zj]
    pointwise []
    show R.Z (ix2 ⟨(8 * b.val + t.val) / 8, _⟩ ⟨(R.IX (ix3 ⟨8 * b.val + t.val, _⟩ ⟨(48 * j.val + n.val) / 128, _⟩ ⟨(48 * j.val + n.val) % 128, _⟩)).toNat % 1024, _⟩) = _
    rw [bat, R.hZ]
    simp only [edge]
    exact word _
  · rw [R.emb']; rfl
  · rw [R.d2]
    pointwise []
    show dist1 (F := Ideal)
      (R.X (ix2 ⟨(8 * b.val + t.val) / 8, _⟩ ⟨(R.IX (ix3 ⟨8 * b.val + t.val, _⟩ ⟨(48 * j.val + n.val) / 128, _⟩ ⟨(48 * j.val + n.val) % 128, _⟩)).toNat % 1024, _⟩))
      (R.Y (ix2 ⟨(8 * b.val + t.val) / 8, _⟩ ⟨(R.IX (ix3 ⟨8 * b.val + t.val, _⟩ ⟨(48 * j.val + n.val) / 128, _⟩ ⟨(48 * j.val + n.val) % 128, _⟩)).toNat % 1024, _⟩))
      (R.W (ix2 ⟨(8 * b.val + t.val) / 8, _⟩ ⟨(R.IX (ix3 ⟨8 * b.val + t.val, _⟩ ⟨(48 * j.val + n.val) / 128, _⟩ ⟨(48 * j.val + n.val) % 128, _⟩)).toNat % 1024, _⟩))
      (R.X (ix2 ⟨(8 * b.val + t.val) / 8, _⟩ ⟨(R.CT (ix3 ⟨8 * b.val + t.val, _⟩ ⟨(48 * j.val + n.val) / 128, _⟩ ⟨(48 * j.val + n.val) % 128, _⟩)).toNat % 1024, _⟩))
      (R.Y (ix2 ⟨(8 * b.val + t.val) / 8, _⟩ ⟨(R.CT (ix3 ⟨8 * b.val + t.val, _⟩ ⟨(48 * j.val + n.val) / 128, _⟩ ⟨(48 * j.val + n.val) % 128, _⟩)).toNat % 1024, _⟩))
      (R.W (ix2 ⟨(8 * b.val + t.val) / 8, _⟩ ⟨(R.CT (ix3 ⟨8 * b.val + t.val, _⟩ ⟨(48 * j.val + n.val) / 128, _⟩ ⟨(48 * j.val + n.val) % 128, _⟩)).toNat % 1024, _⟩)) = _
    rw [bat, centre, R.hX, R.hX, R.hY, R.hY, R.hW, R.hW]
    simp only [edge]
    unfold Mol.dist
    rw [Fin.sum_univ_three]
    rfl

end

end Cert.Proof

end
-- ==== Proof.KRun.lean ====
/- The arrays of the two energies' calls read off the arguments, and the kernel's result at each molecule. -/
module

public import proofs.«01_k».proof.Proof.KHost

@[expose] public section

set_option maxRecDepth 16384

noncomputable section

namespace Cert.Proof

open Cert.KernelIdeal Cert.KernelIdeal.Gen
open Idealize.ShloMosaic Idealize.ShloMosaic.StableHlo
open Idealize.ShloMosaic.Pipeline (Dat afterRegion afterRegion_arr arrRef)

variable (m : (ℓ : Loc nD τ sig) → Buf (Elt Ideal) ℓ) (d : Dev nD)

/-! ## The first stretch -/

theorem VA_v1 : VA m d (dr main_v1) = shapeCast S8x1024 (extractStridedSlice S8x1024x1 ![0, 0, 0] (m ((tc d).loc main_arg0) : S8x1024x3.Idx → EReal) slices_S8x1024x3_S8x1024x1_0_0_0) shapeCasts_S8x1024x1_S8x1024 := by
  unfold VA opsA; after_results_simp <;> rfl
theorem VA_v3 : VA m d (dr main_v3) = shapeCast S8x1024 (extractStridedSlice S8x1024x1 ![0, 0, 1] (m ((tc d).loc main_arg0) : S8x1024x3.Idx → EReal) slices_S8x1024x3_S8x1024x1_0_0_1) shapeCasts_S8x1024x1_S8x1024 := by
  unfold VA opsA; after_results_simp <;> rfl
theorem VA_v5 : VA m d (dr main_v5) = shapeCast S8x1024 (extractStridedSlice S8x1024x1 ![0, 0, 2] (m ((tc d).loc main_arg0) : S8x1024x3.Idx → EReal) slices_S8x1024x3_S8x1024x1_0_0_2) shapeCasts_S8x1024x1_S8x1024 := by
  unfold VA opsA; after_results_simp <;> rfl
theorem VA_v13 : VA m d (dr main_v13) = truncf .bf16 (uitofp (F := Ideal) .f32 (cmpi .eq (Host.divsi (iotaInDim S6144x128 32 0)
    (broadcastInDim S6144x128 ![] bcast_S_S6144x128 (constantI S_ 32 48#32))) (iotaInDim S6144x128 32 1))) bitsLt_bf16_f32 := by
  unfold VA opsA; after_results_simp <;> rfl
theorem VA_v14 : VA m d (dr main_v14) = transpose S128x100 [1, 0] (m ((tc d).loc main_arg3) : S100x128.Idx → EReal) transposes_S100x128_S128x100_1_0 := by
  unfold VA opsA; after_results_simp <;> rfl
theorem VA_v15 : VA m d (dr main_v15) = transpose S128x32 [1, 0] (m ((tc d).loc main_arg4) : S32x128.Idx → EReal) transposes_S32x128_S128x32_1_0 := by
  unfold VA opsA; after_results_simp <;> rfl
theorem VA_v16 : VA m d (dr main_v16) = transpose S128x128 [1, 0] (m ((tc d).loc main_arg5) : S128x128.Idx → EReal) transposes_S128x128_S128x128_1_0 := by
  unfold VA opsA; after_results_simp <;> rfl
theorem VA_v17 : VA m d (dr main_v17) = shapeCast S128x1 (m ((tc d).loc main_arg6) : S128.Idx → EReal) shapeCasts_S128_S128x1 := by
  unfold VA opsA; after_results_simp <;> rfl
theorem VA_v18 : VA m d (dr main_v18) = transpose S64x128 [1, 0] (m ((tc d).loc main_arg7) : S128x64.Idx → EReal) transposes_S128x64_S64x128_1_0 := by
  unfold VA opsA; after_results_simp <;> rfl
theorem VA_v19 : VA m d (dr main_v19) = shapeCast S64x1 (m ((tc d).loc main_arg8) : S64.Idx → EReal) shapeCasts_S64_S64x1 := by
  unfold VA opsA; after_results_simp <;> rfl
theorem VA_v20 : VA m d (dr main_v20) = transpose S1x64 [1, 0] (m ((tc d).loc main_arg9) : S64x1.Idx → EReal) transposes_S64x1_S1x64_1_0 := by
  unfold VA opsA; after_results_simp <;> rfl
theorem VA_v23 : VA m d (dr main_v23) = extractStridedSlice S4x1024 ![0, 0] (m ((tc d).loc main_arg1) : S8x1024.Idx → BitVec 32) slices_S8x1024_S4x1024_0_0 := by
  unfold VA opsA; after_results_simp <;> rfl
theorem VA_v24 : VA m d (dr main_v24) = extractStridedSlice S4x1024 ![0, 0] (shapeCast S8x1024 (extractStridedSlice S8x1024x1 ![0, 0, 0] (m ((tc d).loc main_arg0) : S8x1024x3.Idx → EReal)
    slices_S8x1024x3_S8x1024x1_0_0_0) shapeCasts_S8x1024x1_S8x1024) slices_S8x1024_S4x1024_0_0 := by
  unfold VA opsA; after_results_simp <;> rfl
theorem VA_v25 : VA m d (dr main_v25) = extractStridedSlice S4x1024 ![0, 0] (shapeCast S8x1024 (extractStridedSlice S8x1024x1 ![0, 0, 1] (m ((tc d).loc main_arg0) : S8x1024x3.Idx → EReal)
    slices_S8x1024x3_S8x1024x1_0_0_1) shapeCasts_S8x1024x1_S8x1024) slices_S8x1024_S4x1024_0_0 := by
  unfold VA opsA; after_results_simp <;> rfl
theorem VA_v26 : VA m d (dr main_v26) = extractStridedSlice S4x1024 ![0, 0] (shapeCast S8x1024 (extractStridedSlice S8x1024x1 ![0, 0, 2] (m ((tc d).loc main_arg0) : S8x1024x3.Idx → EReal)
    slices_S8x1024x3_S8x1024x1_0_0_2) shapeCasts_S8x1024x1_S8x1024) slices_S8x1024_S4x1024_0_0 := by
  unfold VA opsA; after_results_simp <;> rfl

/-! ## The second half's slices -/

theorem atB (r : Ref sig .tc) (hB : r ∉ writesB) (h0 : r ≠ main_v27_0) (h1 : r ≠ main_v27_1) : VB m d (dr r) = VA m d (dr r) :=
  (lineB.keeps _ r hB).trans (put_keeps _ _ _ h0 h1)

theorem atD (r : Ref sig .tc) (hD : r ∉ writesD) (h0 : r ≠ main_v39_0) (h1 : r ≠ main_v39_1) (h : r ∉ writes1) (hC : r ∉ writesC) :
    VD m d (dr r) = VA m d (dr r) :=
  (lineD.keeps _ r hD).trans ((put_keeps _ _ _ h0 h1).trans (atC m d r h hC))

theorem V2_arg1 : V2 m d (dr main_arg1) = m ((tc d).loc main_arg1) :=
  (keeps1 m d main_arg1 (by decide)).trans (keepsA m d main_arg1 (by decide))
theorem VC_v35 : VC m d (dr main_v35) = extractStridedSlice S4x1024 ![4, 0] (m ((tc d).loc main_arg1) : S8x1024.Idx → BitVec 32) slices_S8x1024_S4x1024_4_0 := by
  rw [← V2_arg1 m d]
  unfold VC opsC; after_results_simp <;> rfl
theorem VC_v36 : VC m d (dr main_v36) = extractStridedSlice S4x1024 ![4, 0] (shapeCast S8x1024 (extractStridedSlice S8x1024x1 ![0, 0, 0] (m ((tc d).loc main_arg0) : S8x1024x3.Idx → EReal)
    slices_S8x1024x3_S8x1024x1_0_0_0) shapeCasts_S8x1024x1_S8x1024) slices_S8x1024_S4x1024_4_0 := by
  rw [← VA_v1 m d, ← keeps1 m d main_v1 (by decide)]
  unfold VC opsC; after_results_simp <;> rfl
theorem VC_v37 : VC m d (dr main_v37) = extractStridedSlice S4x1024 ![4, 0] (shapeCast S8x1024 (extractStridedSlice S8x1024x1 ![0, 0, 1] (m ((tc d).loc main_arg0) : S8x1024x3.Idx → EReal)
    slices_S8x1024x3_S8x1024x1_0_0_1) shapeCasts_S8x1024x1_S8x1024) slices_S8x1024_S4x1024_4_0 := by
  rw [← VA_v3 m d, ← keeps1 m d main_v3 (by decide)]
  unfold VC opsC; after_results_simp <;> rfl
theorem VC_v38 : VC m d (dr main_v38) = extractStridedSlice S4x1024 ![4, 0] (shapeCast S8x1024 (extractStridedSlice S8x1024x1 ![0, 0, 2] (m ((tc d).loc main_arg0) : S8x1024x3.Idx → EReal)
    slices_S8x1024x3_S8x1024x1_0_0_2) shapeCasts_S8x1024x1_S8x1024) slices_S8x1024_S4x1024_4_0 := by
  rw [← VA_v5 m d, ← keeps1 m d main_v5 (by decide)]
  unfold VC opsC; after_results_simp <;> rfl

/-! ## The gathered arrays -/

theorem V1_fst : V1 m d (dr main_v27_0) = zArr (VA m d (dr main_v22)) (VA m d (dr main_v23)) := put_fst _ _ _ (by decide)
theorem V1_snd : V1 m d (dr main_v27_1) = dArr (F := Ideal) (VA m d (dr main_v22)) (VA m d (dr main_v6)) (VA m d (dr main_v24)) (VA m d (dr main_v25)) (VA m d (dr main_v26)) :=
  put_snd _ _ _
theorem V3_fst : V3 m d (dr main_v39_0) = zArr (VC m d (dr main_v34)) (VC m d (dr main_v35)) := put_fst _ _ _ (by decide)
theorem V3_snd : V3 m d (dr main_v39_1) = dArr (F := Ideal) (VC m d (dr main_v34)) (VC m d (dr main_v6)) (VC m d (dr main_v36)) (VC m d (dr main_v37)) (VC m d (dr main_v38)) :=
  put_snd _ _ _

theorem VB_v28 : VB m d (dr main_v28) = shapeCast S32x1x6144 (zArr (VA m d (dr main_v22)) (VA m d (dr main_v23))) shapeCasts_S32x48x128_S32x1x6144 := by
  rw [← V1_fst]
  unfold VB opsB; after_results_simp <;> rfl
theorem VB_v29 : VB m d (dr main_v29) = shapeCast S32x1x6144 (dArr (F := Ideal) (VA m d (dr main_v22)) (VA m d (dr main_v6)) (VA m d (dr main_v24)) (VA m d (dr main_v25))
    (VA m d (dr main_v26))) shapeCasts_S32x48x128_S32x1x6144 := by
  rw [← V1_snd]
  unfold VB opsB; after_results_simp <;> rfl
theorem VD_v40 : VD m d (dr main_v40) = shapeCast S32x1x6144 (zArr (VC m d (dr main_v34)) (VC m d (dr main_v35))) shapeCasts_S32x48x128_S32x1x6144 := by
  rw [← V3_fst]
  unfold VD opsD; after_results_simp <;> rfl
theorem VD_v41 : VD m d (dr main_v41) = shapeCast S32x1x6144 (dArr (F := Ideal) (VC m d (dr main_v34)) (VC m d (dr main_v6)) (VC m d (dr main_v36)) (VC m d (dr main_v37))
    (VC m d (dr main_v38))) shapeCasts_S32x48x128_S32x1x6144 := by
  rw [← V3_snd]
  unfold VD opsD; after_results_simp <;> rfl

theorem V1_arg1 : V1 m d (dr main_arg1) = m ((tc d).loc main_arg1) := (put_keeps _ _ _ (by decide) (by decide)).trans (keepsA m d main_arg1 (by decide))
theorem V3_arg1 : V3 m d (dr main_arg1) = m ((tc d).loc main_arg1) :=
  (put_keeps _ _ _ (by decide) (by decide)).trans ((atC m d main_arg1 (by decide) (by decide)).trans (keepsA m d main_arg1 (by decide)))
theorem VB_v31 : VB m d (dr main_v31) = shapeCast S4x1x1024 (extractStridedSlice S4x1024 ![0, 0] (m ((tc d).loc main_arg1) : S8x1024.Idx → BitVec 32) slices_S8x1024_S4x1024_0_0) shapeCasts_S4x1024_S4x1x1024 := by
  rw [← V1_arg1 m d]
  unfold VB opsB; after_results_simp <;> rfl
theorem VD_v43 : VD m d (dr main_v43) = shapeCast S4x1x1024 (extractStridedSlice S4x1024 ![4, 0] (m ((tc d).loc main_arg1) : S8x1024.Idx → BitVec 32) slices_S8x1024_S4x1024_4_0) shapeCasts_S4x1024_S4x1x1024 := by
  rw [← V3_arg1 m d]
  unfold VD opsD; after_results_simp <;> rfl

/-! ## The two halves -/

/-- The atom whose edge the table's entry is. -/
theorem centre_apply (g : Fin 32) (r : Fin 48) (c : Fin 128) :
    shapeCast S32x48x128 (fun i : S196608.Idx => lit0 (S196608.rowMajor i)) shapeCasts_S196608_S32x48x128 (ix3 g r c)
      = BitVec.ofNat 32 ((g.val * 6144 + r.val * 128 + c.val) / 48 % 1024) := by
  pointwise []
  refine (table_entry (S196608.rowMajor (ix1 ⟨g.val * 6144 + r.val * 128 + c.val, _⟩))).trans ?_
  exact congrArg (fun k => BitVec.ofNat 32 (k / 48 % 1024)) (Shape.rowMajor_val_one _)

/-- Molecule `b` of the arguments. -/
abbrev mol (b : Fin 8) : Mol :=
  molecule (m ((tc d).loc main_arg0)) (m ((tc d).loc main_arg1)) (m ((tc d).loc main_arg2)) (m ((tc d).loc main_arg3)) (m ((tc d).loc main_arg4))
    (m ((tc d).loc main_arg5)) (m ((tc d).loc main_arg6)) (m ((tc d).loc main_arg7)) (m ((tc d).loc main_arg8)) (m ((tc d).loc main_arg9)) b

/-- What the two halves' arrays are made from, for the half from molecule `o` on. -/
abbrev Made (o : ℕ) (ho : o + 4 ≤ 8) (A : Arrays Ideal) : Type :=
  From o ho (m ((tc d).loc main_arg0)) (m ((tc d).loc main_arg1)) (m ((tc d).loc main_arg2)) (m ((tc d).loc main_arg3)) (m ((tc d).loc main_arg4))
    (m ((tc d).loc main_arg5)) (m ((tc d).loc main_arg6)) (m ((tc d).loc main_arg7)) (m ((tc d).loc main_arg8)) (m ((tc d).loc main_arg9)) A

set_option maxHeartbeats 2000000 in
def made1 : Made m d 0 (by decide) (arrs1 (VB m d)) where
  IX := VA m d (dr main_v22)
  CT := VA m d (dr main_v6)
  Z := VA m d (dr main_v23)
  X := VA m d (dr main_v24)
  Y := VA m d (dr main_v25)
  W := VA m d (dr main_v26)
  ix g r c := by
    rw [VA_v22]; pointwise []
  ct g r c := by
    rw [VA_v6]; exact centre_apply g r c
  hZ b a := by
    rw [VA_v23]; pointwise []
  hX b a := by
    rw [VA_v24]; pointwise []
  hY b a := by
    rw [VA_v25]; pointwise []
  hW b a := by
    rw [VA_v26]; pointwise []
  zj := VB_v28 m d
  d2 := VB_v29 m d
  z' b a := by
    show VB m d (dr main_v31) _ = _
    rw [VB_v31]; pointwise []
  emb' f k := by
    show VB m d (dr main_v14) _ = _
    rw [atB m d main_v14 (by decide) (by decide) (by decide), VA_v14]; pointwise []
  wf' f g := by
    show VB m d (dr main_v15) _ = _
    rw [atB m d main_v15 (by decide) (by decide) (by decide), VA_v15]; pointwise []
  oh p j := by
    show VB m d (dr main_v13) _ = _
    rw [atB m d main_v13 (by decide) (by decide) (by decide), VA_v13]; exact onehot_apply p j
  wm' f k := by
    show VB m d (dr main_v16) _ = _
    rw [atB m d main_v16 (by decide) (by decide) (by decide), VA_v16]; pointwise []
  bm' f := by
    show VB m d (dr main_v17) _ = _
    rw [atB m d main_v17 (by decide) (by decide) (by decide), VA_v17]; pointwise []
  w1' h f := by
    show VB m d (dr main_v18) _ = _
    rw [atB m d main_v18 (by decide) (by decide) (by decide), VA_v18]; pointwise []
  b1' h := by
    show VB m d (dr main_v19) _ = _
    rw [atB m d main_v19 (by decide) (by decide) (by decide), VA_v19]; pointwise []
  w2' h := by
    show VB m d (dr main_v20) _ = _
    rw [atB m d main_v20 (by decide) (by decide) (by decide), VA_v20]; pointwise []

set_option maxHeartbeats 2000000 in
def made3 : Made m d 4 (by decide) (arrs3 (VD m d)) where
  IX := VC m d (dr main_v34)
  CT := VC m d (dr main_v6)
  Z := VC m d (dr main_v35)
  X := VC m d (dr main_v36)
  Y := VC m d (dr main_v37)
  W := VC m d (dr main_v38)
  ix g r c := by
    rw [VC_v34]; pointwise []
  ct g r c := by
    rw [atC m d main_v6 (by decide) (by decide), VA_v6]; exact centre_apply g r c
  hZ b a := by
    rw [VC_v35]; pointwise []
  hX b a := by
    rw [VC_v36]; pointwise []
  hY b a := by
    rw [VC_v37]; pointwise []
  hW b a := by
    rw [VC_v38]; pointwise []
  zj := VD_v40 m d
  d2 := VD_v41 m d
  z' b a := by
    show VD m d (dr main_v43) _ = _
    rw [VD_v43]; pointwise []
  emb' f k := by
    show VD m d (dr main_v14) _ = _
    rw [atD m d main_v14 (by decide) (by decide) (by decide) (by decide) (by decide), VA_v14]; pointwise []
  wf' f g := by
    show VD m d (dr main_v15) _ = _
    rw [atD m d main_v15 (by decide) (by decide) (by decide) (by decide) (by decide), VA_v15]; pointwise []
  oh p j := by
    show VD m d (dr main_v13) _ = _
    rw [atD m d main_v13 (by decide) (by decide) (by decide) (by decide) (by decide), VA_v13]; exact onehot_apply p j
  wm' f k := by
    show VD m d (dr main_v16) _ = _
    rw [atD m d main_v16 (by decide) (by decide) (by decide) (by decide) (by decide), VA_v16]; pointwise []
  bm' f := by
    show VD m d (dr main_v17) _ = _
    rw [atD m d main_v17 (by decide) (by decide) (by decide) (by decide) (by decide), VA_v17]; pointwise []
  w1' h f := by
    show VD m d (dr main_v18) _ = _
    rw [atD m d main_v18 (by decide) (by decide) (by decide) (by decide) (by decide), VA_v18]; pointwise []
  b1' h := by
    show VD m d (dr main_v19) _ = _
    rw [atD m d main_v19 (by decide) (by decide) (by decide) (by decide) (by decide), VA_v19]; pointwise []
  w2' h := by
    show VD m d (dr main_v20) _ = _
    rw [atD m d main_v20 (by decide) (by decide) (by decide) (by decide) (by decide), VA_v20]; pointwise []

theorem blockRow1 : ∀ t : Fin cfg1.grid.N, win1_11.index t 0 = t.val / 8 := (by decide +kernel : ∀ t : Fin grid1.N, win1_11.index t 0 = t.val / 8)
theorem lane1 : ∀ t : Fin cfg1.grid.N, win1_11.index t 2 = 0 := (by decide +kernel : ∀ t : Fin grid1.N, win1_11.index t 2 = 0)

theorem V2_v32 : V2 m d (dr main_v32) = fun j => (arrs1 (VB m d)).out (j 0).val (ix3 0 0 (j 2)) := by
  refine (afterRegion_arr (dat1 (VB m d) d) (VB m d) launch1.win.arr_inj 11).trans ?_
  refine (dat1 (VB m d) d).arrAt_eq_of_covers 11 _ (by decide +kernel) fun t hf y => ?_
  blk_simp
  rw [blockRow1]
  show (arrs1 (VB m d)).out (t.val / 8) y = (arrs1 (VB m d)).out (t.val / 8) _
  refine congrArg _ (funext fun a => Fin.ext ?_)
  have h0 := (y 0).isLt
  have h1 := (y 1).isLt
  fin_cases a
  · exact Nat.lt_one_iff.1 h0
  · exact Nat.lt_one_iff.1 h1
  · show (y 2).val = ((win1_11.blk t).view.emb y 2).val
    blk_simp [lane1]

theorem blockRow3 : ∀ t : Fin cfg3.grid.N, win3_11.index t 0 = t.val / 8 := (by decide +kernel : ∀ t : Fin grid3.N, win3_11.index t 0 = t.val / 8)
theorem lane3 : ∀ t : Fin cfg3.grid.N, win3_11.index t 2 = 0 := (by decide +kernel : ∀ t : Fin grid3.N, win3_11.index t 2 = 0)

theorem V4_v44 : V4 m d (dr main_v44) = fun j => (arrs3 (VD m d)).out (j 0).val (ix3 0 0 (j 2)) := by
  refine (afterRegion_arr (dat3 (VD m d) d) (VD m d) launch3.win.arr_inj 11).trans ?_
  refine (dat3 (VD m d) d).arrAt_eq_of_covers 11 _ (by decide +kernel) fun t hf y => ?_
  blk_simp
  rw [blockRow3]
  show (arrs3 (VD m d)).out (t.val / 8) y = (arrs3 (VD m d)).out (t.val / 8) _
  refine congrArg _ (funext fun a => Fin.ext ?_)
  have h0 := (y 0).isLt
  have h1 := (y 1).isLt
  fin_cases a
  · exact Nat.lt_one_iff.1 h0
  · exact Nat.lt_one_iff.1 h1
  · show (y 2).val = ((win3_11.blk t).view.emb y 2).val
    blk_simp [lane3]

/-! ## The result -/

/-- The bias is added once, multiplied by the number of atoms. -/
theorem total_apply (x y : FVec Ideal S4x1x128 .f32) (b2 : FVec Ideal S1 .f32) (b : Fin 8) :
    addf (shapeCast S8x1 (extractStridedSlice S8x1x1 ![0, 0, 0] (concatenate S8x1x128 0 [⟨S4x1x128, x⟩, ⟨S4x1x128, y⟩]
        concatenates_S4x1x128_S4x1x128_S8x1x128_d0) slices_S8x1x128_S8x1x1_0_0_0) shapeCasts_S8x1x1_S8x1)
      (broadcastInDim S8x1 ![] bcast_S_S8x1 (mulf (constant S_ .f32 0x44800000#32) (shapeCast S_ b2 shapeCasts_S1_S_))) (ix2 b 0)
    = (if h : b.val < 4 then x (ix3 ⟨b.val, h⟩ 0 0) else y (ix3 ⟨b.val - 4, by omega⟩ 0 0)) + b2 (ix1 0) * Ideal.ofBits .f32 0x44800000#32 := by
  pointwise []
  exact congrArg _ (mul_comm _ _)

theorem VE_v51 : VE m d (dr main_v51) = addf (F := Ideal) (shapeCast S8x1 (extractStridedSlice S8x1x1 ![0, 0, 0] (concatenate S8x1x128 0
      [⟨S4x1x128, (V2 m d (dr main_v32) : S4x1x128.Idx → EReal)⟩, ⟨S4x1x128, (V4 m d (dr main_v44) : S4x1x128.Idx → EReal)⟩]
        concatenates_S4x1x128_S4x1x128_S8x1x128_d0) slices_S8x1x128_S8x1x1_0_0_0) shapeCasts_S8x1x1_S8x1)
      (broadcastInDim S8x1 ![] bcast_S_S8x1 (mulf (constant (F := Ideal) S_ .f32 0x44800000#32) (shapeCast S_ (m ((tc d).loc main_arg10) : S1.Idx → EReal) shapeCasts_S1_S_))) := by
  have h32 : V4 m d (dr main_v32) = V2 m d (dr main_v32) := (keeps2 m d main_v32 (by decide)).trans (keepsC m d main_v32 (by decide))
  have hb : V4 m d (dr main_arg10) = m ((tc d).loc main_arg10) :=
    (keeps2 m d main_arg10 (by decide)).trans ((atC m d main_arg10 (by decide) (by decide)).trans (keepsA m d main_arg10 (by decide)))
  rw [← h32, ← hb]
  unfold VE opsE; after_results_simp <;> rfl

/-- The last bias. -/
abbrev lastBias : EReal := m ((tc d).loc main_arg10) (ix1 0)

/-- The kernel's result at molecule `b`: the energies of its atoms, added, and the last bias once per atom. -/
theorem out_apply (h : Ranged (m ((tc d).loc main_arg1)) (m ((tc d).loc main_arg2))) (b : Fin 8) :
    VE m d (dr main_v51) (ix2 b 0) = ∑ a : Fin 1024, (mol m d b).atom a + lastBias m d * Ideal.ofBits .f32 0x44800000#32 := by
  rw [VE_v51]
  refine (total_apply _ _ _ b).trans (congrArg (· + _) ?_)
  by_cases hb : b.val < 4
  · rw [dif_pos hb, V2_v32]
    refine (((made1 m d).reads h.z ⟨b.val, hb⟩).out_apply 0).trans ?_
    have e : (⟨0 + b.val, by omega⟩ : Fin 8) = b := Fin.ext (Nat.zero_add _)
    rw [e]
  · rw [dif_neg hb, V4_v44]
    refine (((made3 m d).reads h.z ⟨b.val - 4, by omega⟩).out_apply 0).trans ?_
    have e : (⟨4 + (b.val - 4), by omega⟩ : Fin 8) = b := Fin.ext (by show 4 + (b.val - 4) = b.val; omega)
    rw [e]

end Cert.Proof

end
-- ==== Proof.RVal.lean ====
/- The reference's result read element by element: the gathers at numbers in range, and its value at each molecule. -/
module

public import proofs.«01_k».proof.Proof.Gen.ReferenceIdeal.Run
public import proofs.«01_k».proof.Proof.Spec
public import Idealize.ShloMosaic.Lib.Pointwise

@[expose] public section

set_option maxRecDepth 16384

noncomputable section

namespace Cert.Proof.Ref

open Cert.ReferenceIdeal Cert.ReferenceIdeal.Gen
open Idealize.ShloMosaic

/-- The dimension numbers of the rows of a table at the atoms' numbers. -/
abbrev tableDims (wf : GatherDims.WF ⟨2, ![100, 128]⟩ ⟨3, ![8, 1024, 1]⟩ ⟨3, ![8, 1024, 128]⟩ [2] [0] [] [0] [] 2 ![1, 128]) :
    GatherDims ⟨2, ![100, 128]⟩ ⟨3, ![8, 1024, 1]⟩ ⟨3, ![8, 1024, 128]⟩ where
  offsetDims := [2]
  collapsedSliceDims := [0]
  operandBatchingDims := []
  startIndicesBatchingDims := []
  startIndexMap := [0]
  indexVectorDim := 2
  sliceSizes := ![1, 128]
  wf := wf

/-- The rows of a table at numbers of atoms. -/
theorem gather_table' {α : Type} (wf) (x : (⟨2, ![100, 128]⟩ : Shape).Idx → α) (i : IVec ⟨3, ![8, 1024, 1]⟩ 32) (b : Fin 8) (a : Fin 1024) (f : Fin 128) :
    Host.gather (tableDims wf) x i (ix3 b a f) = x (ix2 ⟨min (i (ix3 b a 0)).toInt.toNat 99, by omega⟩ f) := by
  unfold Host.gather
  congr 1
  funext k
  refine Fin.ext ?_
  show (tableDims wf).start _ i k + (tableDims wf).batchCoord _ k + (tableDims wf).offCoord _ k = _
  rw [GatherDims.batchCoord_eq_zero _ _ _ (fun h => List.not_mem_nil h)]
  match k with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (tableDims wf).startIndexMap from List.mem_singleton.mpr rfl)]
    have hsi : ∀ h, (tableDims wf).siIdx (ix3 b a f) ⟨List.idxOf (⟨0, by decide⟩ : Fin 2) (tableDims wf).startIndexMap, h⟩ = ix3 b a 0 := by
      intro h
      funext q
      match q with
      | ⟨0, _⟩ => rfl
      | ⟨1, _⟩ => rfl
      | ⟨2, _⟩ => rfl
    rw [hsi]
    rfl
  | ⟨1, _⟩ =>
    unfold GatherDims.start GatherDims.offCoord
    rw [dif_neg (show ¬ (⟨1, by decide⟩ : Fin 2) ∈ (tableDims wf).startIndexMap from (show ¬ (1 : Fin 2) ∈ [0] from by decide)),
      dif_pos ((GatherDims.mem_sKept _ _).mpr ⟨show ¬ (1 : Fin 2) ∈ [0] from by decide, List.not_mem_nil⟩)]
    simp only [Nat.zero_add, Nat.add_zero]
    rfl

/-- The dimension numbers of rows picked molecule by molecule. -/
abbrev rowsDims (C : Nat) (wf : GatherDims.WF ⟨3, ![8, 1024, C]⟩ ⟨3, ![8, 49152, 1]⟩ ⟨3, ![8, 49152, C]⟩ [2] [1] [0] [1] [0] 2 ![1, 1, C]) :
    GatherDims ⟨3, ![8, 1024, C]⟩ ⟨3, ![8, 49152, 1]⟩ ⟨3, ![8, 49152, C]⟩ where
  offsetDims := [2]
  collapsedSliceDims := [1]
  operandBatchingDims := [0]
  startIndicesBatchingDims := [0]
  startIndexMap := [1]
  indexVectorDim := 2
  sliceSizes := ![1, 1, C]
  wf := wf

/-- Rows picked molecule by molecule. -/
theorem gather_rows {α : Type} (C : Nat) (wf) (x : (⟨3, ![8, 1024, C]⟩ : Shape).Idx → α) (i : IVec ⟨3, ![8, 49152, 1]⟩ 32) (b : Fin 8) (p : Fin 49152) (c : Fin C) :
    Host.gather (rowsDims C wf) x i (ix3 b p c) = x (ix3 b ⟨min (i (ix3 b p 0)).toInt.toNat 1023, by omega⟩ c) := by
  unfold Host.gather
  congr 1
  funext k
  refine Fin.ext ?_
  have h21 : ¬ (2 : Fin 3) ∈ [(1 : Fin 3)] := by decide
  show (rowsDims C wf).start _ i k + (rowsDims C wf).batchCoord _ k + (rowsDims C wf).offCoord _ k = _
  match k with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 3) ∈ (rowsDims C wf).operandBatchingDims from List.mem_singleton.mpr rfl)]
    rfl
  | ⟨1, _⟩ =>
    rw [GatherDims.batchCoord_eq_zero _ _ _ (show ¬ (1 : Fin 3) ∈ [0] from by decide),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (rowsDims C wf).startIndexMap from List.mem_singleton.mpr rfl)]
    have hsi : ∀ h, (rowsDims C wf).siIdx (ix3 b p c) ⟨List.idxOf (⟨1, by decide⟩ : Fin 3) (rowsDims C wf).startIndexMap, h⟩ = ix3 b p 0 := by
      intro h
      funext q
      match q with
      | ⟨0, _⟩ => rfl
      | ⟨1, _⟩ => rfl
      | ⟨2, _⟩ => rfl
    rw [hsi]
    rfl
  | ⟨2, _⟩ =>
    rw [GatherDims.batchCoord_eq_zero _ _ _ (show ¬ (2 : Fin 3) ∈ [0] from by decide)]
    unfold GatherDims.start GatherDims.offCoord
    rw [dif_neg (show ¬ (⟨2, by decide⟩ : Fin 3) ∈ (rowsDims C wf).startIndexMap from h21),
      dif_pos ((GatherDims.mem_sKept _ _).mpr ⟨show ¬ (2 : Fin 3) ∈ [1] from by decide, show ¬ (2 : Fin 3) ∈ [0] from by decide⟩)]
    simp only [Nat.zero_add, Nat.add_zero]
    rfl

/-- The features of the atoms, read. -/
theorem gather_table {α : Type} (x : S100x128.Idx → α) (i : IVec S8x1024x1 32) (b : Fin 8) (a : Fin 1024) (f : Fin 128) :
    Host.gather gather_S100x128_S8x1024x1_S8x1024x128_2_0_n_n_0_2_1128 x i (ix3 b a f)
      = x (ix2 ⟨min (i (ix3 b a 0)).toInt.toNat 99, by omega⟩ f) := gather_table' _ x i b a f

/-- The coordinates of the neighbours, read. -/
theorem gather_points {α : Type} (x : S8x1024x3.Idx → α) (i : IVec S8x49152x1 32) (b : Fin 8) (q : Fin 49152) (c : Fin 3) :
    Host.gather gather_S8x1024x3_S8x49152x1_S8x49152x3_2_1_0_0_1_2_113 x i (ix3 b q c)
      = x (ix3 b ⟨min (i (ix3 b q 0)).toInt.toNat 1023, by omega⟩ c) := gather_rows 3 _ x i b q c

/-- The features of the neighbours, read. -/
theorem gather_features {α : Type} (x : S8x1024x128.Idx → α) (i : IVec S8x49152x1 32) (b : Fin 8) (q : Fin 49152) (c : Fin 128) :
    Host.gather gather_S8x1024x128_S8x49152x1_S8x49152x128_2_1_0_0_1_2_11128 x i (ix3 b q c)
      = x (ix3 b ⟨min (i (ix3 b q 0)).toInt.toNat 1023, by omega⟩ c) := gather_rows 128 _ x i b q c

/-- The atoms' numbers as the gather of the table takes them. -/
def idx1 (z : IVec S8x1024 32) : IVec S8x1024x1 32 :=
  broadcastInDim S8x1024x1 ![0, 1] bcast_S8x1024_S8x1024x1_0_1 (select (cmpi .slt z (broadcastInDim S8x1024 ![] bcast_S_S8x1024 (constantI S_ 32 0#32))) (addi z (broadcastInDim S8x1024 ![] bcast_S_S8x1024 (constantI S_ 32 100#32))) z)

/-- The neighbours' numbers as the gathers of a molecule take them. -/
def idx2 (nb : IVec S8x1024x48 32) : IVec S8x49152x1 32 :=
  select (cmpi .slt (broadcastInDim S8x49152x1 ![0, 1] bcast_S8x49152_S8x49152x1_0_1 (shapeCast _ nb shapeCasts_S8x1024x48_S8x49152)) (broadcastInDim S8x49152x1 ![] bcast_S_S8x49152x1 (constantI S_ 32 0#32))) (addi (broadcastInDim S8x49152x1 ![0, 1] bcast_S8x49152_S8x49152x1_0_1 (shapeCast _ nb shapeCasts_S8x1024x48_S8x49152)) (broadcastInDim S8x49152x1 ![] bcast_S_S8x49152x1 (constantI S_ 32 1024#32))) (broadcastInDim S8x49152x1 ![0, 1] bcast_S8x49152_S8x49152x1_0_1 (shapeCast _ nb shapeCasts_S8x1024x48_S8x49152))

/-- Where the atoms' numbers are in range. -/
def mask1 (i : IVec S8x1024x1 32) : IVec S8x1024 1 :=
  Host.reduce IntOp.andi (andi (cmpi .sge i (broadcastInDim S8x1024x1 ![] bcast_S_S8x1024x1 (constantI S_ 32 0#32))) (cmpi .sle i (broadcastInDim S8x1024x1 ![0, 1, 2] bcast_S1x1x1_S8x1024x1_0_1_2 (broadcastInDim S1x1x1 ![2] bcast_S1_S1x1x1_2 (constantI S1 32 99#32))))) (constantI S_ 1 1#1) reducesTo_S8x1024x1_S8x1024_d2 h_S_

/-- Where the neighbours' numbers are in range. -/
def mask2 (i : IVec S8x49152x1 32) : IVec S8x49152 1 :=
  Host.reduce IntOp.andi (andi (cmpi .sge i (broadcastInDim S8x49152x1 ![] bcast_S_S8x49152x1 (constantI S_ 32 0#32))) (cmpi .sle i (broadcastInDim S8x49152x1 ![0, 1, 2] bcast_S1x1x1_S8x49152x1_0_1_2 (broadcastInDim S1x1x1 ![2] bcast_S1_S1x1x1_2 (constantI S1 32 1023#32))))) (constantI S_ 1 1#1) reducesTo_S8x49152x1_S8x49152_d2 h_S_

/-- The atoms' features. -/
def feats (z : IVec S8x1024 32) (emb : FVec Ideal S100x128 .f32) : FVec Ideal S8x1024x128 .f32 :=
  select (broadcastInDim S8x1024x128 ![0, 1] bcast_S8x1024_S8x1024x128_0_1 (mask1 (idx1 z))) (Host.gather gather_S100x128_S8x1024x1_S8x1024x128_2_0_n_n_0_2_1128 emb (idx1 z)) (broadcastInDim S8x1024x128 ![] bcast_S_S8x1024x128 (constant S_ .f32 0x7FC00000#32))

/-- The neighbours' coordinates. -/
def points (p : FVec Ideal S8x1024x3 .f32) (nb : IVec S8x1024x48 32) : FVec Ideal S8x1024x48x3 .f32 :=
  shapeCast _ (select (broadcastInDim S8x49152x3 ![0, 1] bcast_S8x49152_S8x49152x3_0_1 (mask2 (idx2 nb))) (Host.gather gather_S8x1024x3_S8x49152x1_S8x49152x3_2_1_0_0_1_2_113 p (idx2 nb)) (broadcastInDim S8x49152x3 ![] bcast_S_S8x49152x3 (constant S_ .f32 0x7FC00000#32))) shapeCasts_S8x49152x3_S8x1024x48x3

/-- The neighbours' features. -/
def around (x : FVec Ideal S8x1024x128 .f32) (nb : IVec S8x1024x48 32) : FVec Ideal S8x1024x48x128 .f32 :=
  shapeCast _ (select (broadcastInDim S8x49152x128 ![0, 1] bcast_S8x49152_S8x49152x128_0_1 (mask2 (idx2 nb))) (Host.gather gather_S8x1024x128_S8x49152x1_S8x49152x128_2_1_0_0_1_2_11128 x (idx2 nb)) (broadcastInDim S8x49152x128 ![] bcast_S_S8x49152x128 (constant S_ .f32 0x7FC00000#32))) shapeCasts_S8x49152x128_S8x1024x48x128

/-- The squared distances to the neighbours. -/
def dist (p : FVec Ideal S8x1024x3 .f32) (q : FVec Ideal S8x1024x48x3 .f32) : FVec Ideal S8x1024x48 .f32 :=
  Host.reduceAdd (mulf (subf q (broadcastInDim S8x1024x48x3 ![0, 1, 2, 3] bcast_S8x1024x1x3_S8x1024x48x3_0_1_2_3 (broadcastInDim S8x1024x1x3 ![0, 1, 3] bcast_S8x1024x3_S8x1024x1x3_0_1_3 p))) (subf q (broadcastInDim S8x1024x48x3 ![0, 1, 2, 3] bcast_S8x1024x1x3_S8x1024x48x3_0_1_2_3 (broadcastInDim S8x1024x1x3 ![0, 1, 3] bcast_S8x1024x3_S8x1024x1x3_0_1_3 p)))) (constant S_ .f32 0x00000000#32) reducesTo_S8x1024x48x3_S8x1024x48_d3 h_S_

/-- The radial grid. -/
def grid : FVec Ideal S32 .f32 :=
  concatenate S32 0 [⟨S31, (addf (mulf (broadcastInDim S31 ![0] bcast_S1_S31_0 (shapeCast _ (id (constant S_ .f32 0x00000000#32)) shapeCasts_S_S1)) (subf (broadcastInDim S31 ![] bcast_S_S31 (constant S_ .f32 0x3F800000#32)) (Host.divf (sitofp .f32 (iotaInDim S31 32 0)) (broadcastInDim S31 ![] bcast_S_S31 (constant S_ .f32 0x41F80000#32))))) (mulf (broadcastInDim S31 ![0] bcast_S1_S31_0 (shapeCast _ (id (constant S_ .f32 0x40A00000#32)) shapeCasts_S_S1)) (Host.divf (sitofp .f32 (iotaInDim S31 32 0)) (broadcastInDim S31 ![] bcast_S_S31 (constant S_ .f32 0x41F80000#32)))))⟩, ⟨S1, (broadcastInDim S1 ![] bcast_S_S1 (id (constant S_ .f32 0x40A00000#32)))⟩] concatenates_S31_S1_S32_d0

/-- The offsets of the distances from the grid. -/
def offset (d : FVec Ideal S8x1024x48 .f32) (g : FVec Ideal S32 .f32) : FVec Ideal S8x1024x48x32 .f32 :=
  subf (broadcastInDim S8x1024x48x32 ![0, 1, 2, 3] bcast_S8x1024x48x1_S8x1024x48x32_0_1_2_3 (broadcastInDim S8x1024x48x1 ![0, 1, 2] bcast_S8x1024x48_S8x1024x48x1_0_1_2 (Host.sqrt (addf d (broadcastInDim S8x1024x48 ![] bcast_S_S8x1024x48 (constant S_ .f32 0x322BCC77#32)))))) (broadcastInDim S8x1024x48x32 ![0, 1, 2, 3] bcast_S1x1x1x32_S8x1024x48x32_0_1_2_3 (broadcastInDim S1x1x1x32 ![3] bcast_S32_S1x1x1x32_3 g))

/-- The filters. -/
def filters (o : FVec Ideal S8x1024x48x32 .f32) (wf : FVec Ideal S32x128 .f32) : FVec Ideal S8x1024x48x128 .f32 :=
  Host.dotGeneral dot_S8x1024x48x32_S32x128_S8x1024x48x128_3_0_012_1_n_n none (Host.exp (mulf (broadcastInDim S8x1024x48x32 ![] bcast_S_S8x1024x48x32 (constant S_ .f32 0xC1200000#32)) (mulf o o))) wf

/-- The representations of the atoms. -/
def reps (x : FVec Ideal S8x1024x128 .f32) (y w : FVec Ideal S8x1024x48x128 .f32) (wm : FVec Ideal S128x128 .f32) (bm : FVec Ideal S128 .f32) :
    FVec Ideal S8x1024x128 .f32 :=
  addf x (Host.tanh (addf (Host.dotGeneral dot_S8x1024x128_S128x128_S8x1024x128_2_0_01_1_n_n none (Host.reduceAdd (mulf y w) (constant S_ .f32 0x00000000#32) reducesTo_S8x1024x48x128_S8x1024x128_d2 h_S_) wm) (broadcastInDim S8x1024x128 ![0, 1, 2] bcast_S1x1x128_S8x1024x128_0_1_2 (broadcastInDim S1x1x128 ![2] bcast_S128_S1x1x128_2 bm))))

/-- The energies of the molecules. -/
def energies (r : FVec Ideal S8x1024x128 .f32) (w1 : FVec Ideal S128x64 .f32) (b1 : FVec Ideal S64 .f32) (w2 : FVec Ideal S64x1 .f32) (b2 : FVec Ideal S1 .f32) :
    FVec Ideal S8x1 .f32 :=
  Host.reduceAdd (addf (Host.dotGeneral dot_S8x1024x64_S64x1_S8x1024x1_2_0_01_1_n_n none (Host.tanh (addf (Host.dotGeneral dot_S8x1024x128_S128x64_S8x1024x64_2_0_01_1_n_n none r w1) (broadcastInDim S8x1024x64 ![0, 1, 2] bcast_S1x1x64_S8x1024x64_0_1_2 (broadcastInDim S1x1x64 ![2] bcast_S64_S1x1x64_2 b1)))) w2) (broadcastInDim S8x1024x1 ![0, 1, 2] bcast_S1x1x1_S8x1024x1_0_1_2 (broadcastInDim S1x1x1 ![2] bcast_S1_S1x1x1_2 b2))) (constant S_ .f32 0x00000000#32) reducesTo_S8x1024x1_S8x1_d1 h_S_

/-- The reference's result, in these stages. -/
theorem res_stages (m : (ℓ : Loc nD τ sig) → Buf (Elt Ideal) ℓ) (c : Dev nD) :
    Cert.ReferenceIdeal.Value.res_main_v44 (F := Ideal) m c
      = energies (reps (feats (m ((c.tc : Thread nD τ).loc main_arg1)) (m ((c.tc : Thread nD τ).loc main_arg3)))
          (around (feats (m ((c.tc : Thread nD τ).loc main_arg1)) (m ((c.tc : Thread nD τ).loc main_arg3))) (m ((c.tc : Thread nD τ).loc main_arg2)))
          (filters (offset (dist (m ((c.tc : Thread nD τ).loc main_arg0)) (points (m ((c.tc : Thread nD τ).loc main_arg0)) (m ((c.tc : Thread nD τ).loc main_arg2)))) grid)
            (m ((c.tc : Thread nD τ).loc main_arg4)))
          (m ((c.tc : Thread nD τ).loc main_arg5)) (m ((c.tc : Thread nD τ).loc main_arg6)))
        (m ((c.tc : Thread nD τ).loc main_arg7)) (m ((c.tc : Thread nD τ).loc main_arg8)) (m ((c.tc : Thread nD τ).loc main_arg9)) (m ((c.tc : Thread nD τ).loc main_arg10)) := rfl

/-- A number below a bound of at most 1024 is not negative. -/
theorem select_small (z k : BitVec 32) (h : z.toNat < 1024) :
    Scalar.select (IntOp.cmpi .slt z 0#32) (IntOp.addi z k) z = z := by
  have : IntOp.cmpi .slt z 0#32 = 0#1 := by
    have h0 : z.toInt = z.toNat := by rw [BitVec.toInt_eq_toNat_cond, if_pos (by omega)]
    have : z.slt 0#32 = false := by
      rw [BitVec.slt_eq_decide]
      exact decide_eq_false (by rw [h0, show (0#32 : BitVec 32).toInt = 0 from rfl]; omega)
    show BitVec.ofBool (z.slt 0#32) = _
    rw [this]; rfl
  rw [this]; rfl

/-- A number in range passes both comparisons. -/
theorem both (z k : BitVec 32) (hk : k.toNat < 1024) (h : z.toNat ≤ k.toNat) :
    IntOp.andi (IntOp.cmpi .sge z 0#32) (IntOp.cmpi .sle z k) = 1#1 := by
  have h0 : z.toInt = z.toNat := by rw [BitVec.toInt_eq_toNat_cond, if_pos (by omega)]
  have h1 : k.toInt = k.toNat := by rw [BitVec.toInt_eq_toNat_cond, if_pos (by omega)]
  have e1 : IntOp.cmpi .sge z 0#32 = 1#1 := by
    show BitVec.ofBool ((0#32).sle z) = _
    rw [BitVec.sle_eq_decide, decide_eq_true (by rw [h0, show (0#32 : BitVec 32).toInt = 0 from rfl]; omega)]; rfl
  have e2 : IntOp.cmpi .sle z k = 1#1 := by
    show BitVec.ofBool (z.sle k) = _
    rw [BitVec.sle_eq_decide, decide_eq_true (by rw [h0, h1]; omega)]; rfl
  rw [e1, e2]; rfl

theorem clamp (z : BitVec 32) (n : Nat) (h : z.toNat ≤ n) (hn : n < 1024) : min z.toInt.toNat n = z.toNat := by
  have h0 : z.toInt = z.toNat := by rw [BitVec.toInt_eq_toNat_cond, if_pos (by omega)]
  rw [h0]; simp only [Int.toNat_natCast]; omega

theorem idx1_apply (z : IVec S8x1024 32) (b : Fin 8) (a : Fin 1024) (h : (z (ix2 b a)).toNat < 100) : idx1 z (ix3 b a 0) = z (ix2 b a) := by
  pointwise [idx1]
  exact select_small _ _ (by omega)

theorem idx2_apply (z : IVec S8x1024x48 32) (b : Fin 8) (a : Fin 1024) (n : Fin 48) (h : (z (ix3 b a n)).toNat < 1024) :
    idx2 z (ix3 b ⟨a.val * 48 + n.val, by omega⟩ 0) = z (ix3 b a n) := by
  pointwise [idx2]
  exact select_small _ _ h

theorem mask1_apply (z : IVec S8x1024x1 32) (b : Fin 8) (a : Fin 1024) (h : (z (ix3 b a 0)).toNat < 100) : mask1 z (ix2 b a) = 1#1 := by
  pointwise [mask1]
  refine (show Finset.fold IntOp.andi 1#1 _ ({0} : Finset (Fin 1)) = 1#1 from ?_)
  rw [Finset.fold_singleton, both _ _ (by decide) (by show _ ≤ 99; omega)]
  rfl

theorem mask2_apply (z : IVec S8x49152x1 32) (b : Fin 8) (q : Fin 49152) (h : (z (ix3 b q 0)).toNat < 1024) : mask2 z (ix2 b q) = 1#1 := by
  pointwise [mask2]
  refine (show Finset.fold IntOp.andi 1#1 _ ({0} : Finset (Fin 1)) = 1#1 from ?_)
  rw [Finset.fold_singleton, both _ _ (by decide) (by show _ ≤ 1023; omega)]
  rfl

theorem feats_apply (z : IVec S8x1024 32) (emb : FVec Ideal S100x128 .f32) (b : Fin 8) (a : Fin 1024) (f : Fin 128) (h : (z (ix2 b a)).toNat < 100) :
    feats z emb (ix3 b a f) = emb (ix2 ⟨(z (ix2 b a)).toNat, h⟩ f) := by
  pointwise [feats]
  rw [mask1_apply _ _ _ (by rw [idx1_apply _ _ _ h]; exact h), gather_table]
  refine (ValueIdx.select_one _ _).trans ?_
  congr 2
  exact Fin.ext (by show min _ 99 = _; rw [idx1_apply _ _ _ h, clamp _ _ (by omega) (by omega)])

theorem points_apply (p : FVec Ideal S8x1024x3 .f32) (z : IVec S8x1024x48 32) (b : Fin 8) (a : Fin 1024) (n : Fin 48) (c : Fin 3) (h : (z (ix3 b a n)).toNat < 1024) :
    points p z (ix4 b a n c) = p (ix3 b ⟨(z (ix3 b a n)).toNat, h⟩ c) := by
  pointwise [points]
  rw [mask2_apply _ _ _ (by rw [idx2_apply _ _ _ _ h]; exact h), gather_points]
  refine (ValueIdx.select_one _ _).trans ?_
  congr 2
  exact Fin.ext (by show min _ 1023 = _; rw [idx2_apply _ _ _ _ h, clamp _ _ (by omega) (by omega)])

theorem around_apply (x : FVec Ideal S8x1024x128 .f32) (z : IVec S8x1024x48 32) (b : Fin 8) (a : Fin 1024) (n : Fin 48) (c : Fin 128) (h : (z (ix3 b a n)).toNat < 1024) :
    around x z (ix4 b a n c) = x (ix3 b ⟨(z (ix3 b a n)).toNat, h⟩ c) := by
  pointwise [around]
  rw [mask2_apply _ _ _ (by rw [idx2_apply _ _ _ _ h]; exact h), gather_features]
  refine (ValueIdx.select_one _ _).trans ?_
  congr 2
  exact Fin.ext (by show min _ 1023 = _; rw [idx2_apply _ _ _ _ h, clamp _ _ (by omega) (by omega)])

theorem dist_apply (p : FVec Ideal S8x1024x3 .f32) (q : FVec Ideal S8x1024x48x3 .f32) (b : Fin 8) (a : Fin 1024) (n : Fin 48) :
    dist p q (ix3 b a n) = ∑ c : Fin 3, (q (ix4 b a n c) - p (ix3 b a c)) * (q (ix4 b a n c) - p (ix3 b a c)) := by
  pointwise [dist]

theorem offset_apply (d : FVec Ideal S8x1024x48 .f32) (g : FVec Ideal S32 .f32) (b : Fin 8) (a : Fin 1024) (n : Fin 48) (i : Fin 32) :
    offset d g (ix4 b a n i) = Ideal.sqrt (d (ix3 b a n) + Ideal.ofBits .f32 0x322BCC77#32) - g (ix1 i) := by
  pointwise [offset]

theorem filters_apply (o : FVec Ideal S8x1024x48x32 .f32) (wf : FVec Ideal S32x128 .f32) (b : Fin 8) (a : Fin 1024) (n : Fin 48) (f : Fin 128) :
    filters o wf (ix4 b a n f) = ∑ g : Fin 32, Ideal.exp (Ideal.ofBits .f32 0xC1200000#32 * (o (ix4 b a n g) * o (ix4 b a n g))) * wf (ix2 g f) := by
  pointwise [filters]

theorem reps_apply (x : FVec Ideal S8x1024x128 .f32) (y w : FVec Ideal S8x1024x48x128 .f32) (wm : FVec Ideal S128x128 .f32) (bm : FVec Ideal S128 .f32)
    (b : Fin 8) (a : Fin 1024) (f : Fin 128) :
    reps x y w wm bm (ix3 b a f)
      = x (ix3 b a f) + Ideal.tanh (∑ k : Fin 128, (∑ n : Fin 48, y (ix4 b a n k) * w (ix4 b a n k)) * wm (ix2 k f) + bm (ix1 f)) := by
  pointwise [reps]

theorem energies_apply (r : FVec Ideal S8x1024x128 .f32) (w1 : FVec Ideal S128x64 .f32) (b1 : FVec Ideal S64 .f32) (w2 : FVec Ideal S64x1 .f32) (b2 : FVec Ideal S1 .f32) (b : Fin 8) :
    energies r w1 b1 w2 b2 (ix2 b 0)
      = ∑ a : Fin 1024, (∑ h : Fin 64, Ideal.tanh (∑ f : Fin 128, r (ix3 b a f) * w1 (ix2 f h) + b1 (ix1 h)) * w2 (ix2 h 0) + b2 (ix1 0)) := by
  pointwise [energies]

theorem ofBits_31 : Ideal.ofBits .f32 0x41F80000#32 = ((31 : ℝ) : EReal) := by
  simp [Ideal.ofBits, Ideal.ieee, -EReal.coe_mul]; norm_num

theorem ofBits_5 : Ideal.ofBits .f32 0x40A00000#32 = ((5 : ℝ) : EReal) := by
  simp [Ideal.ofBits, Ideal.ieee, -EReal.coe_mul]; norm_num

theorem ofBits_0 : Ideal.ofBits .f32 0x00000000#32 = 0 := by simp [Ideal.ofBits, Ideal.ieee]

theorem grid_apply (g : Fin 32) : grid (ix1 g) = knot g := by
  pointwise [grid]
  show (if h : g.val < 31 then Ideal.ofBits .f32 0x00000000#32
          * (1 - Ideal.div (((BitVec.ofNat 32 g.val).toInt : ℝ) : EReal) (Ideal.ofBits .f32 0x41F80000#32))
        + Ideal.ofBits .f32 0x40A00000#32 * Ideal.div (((BitVec.ofNat 32 g.val).toInt : ℝ) : EReal) (Ideal.ofBits .f32 0x41F80000#32)
      else Ideal.ofBits .f32 0x40A00000#32) = _
  have hg : (BitVec.ofNat 32 g.val).toInt = (g.val : ℤ) := by
    have := g.isLt
    rw [BitVec.toInt_eq_toNat_cond, BitVec.toNat_ofNat, Nat.mod_eq_of_lt (by omega), if_pos (by omega)]
  rw [ofBits_0, zero_mul, zero_add, ofBits_31, ofBits_5, Ideal.div_coe (by norm_num), hg]
  unfold knot
  split
  · rw [← EReal.coe_mul, ← EReal.coe_mul]
    congr 1
    push_cast
    ring
  · have : g.val = 31 := by omega
    rw [this]
    congr 1
    norm_num

/-- The reference's result at molecule `b`: the energies of its atoms with the last bias, added. -/
theorem res_apply (m : (ℓ : Loc nD τ sig) → Buf (Elt Ideal) ℓ) (c : Dev nD) (b : Fin 8)
    (hz : ∀ i, (m ((c.tc : Thread nD τ).loc main_arg1) i : BitVec 32).toNat < 100)
    (hn : ∀ i, (m ((c.tc : Thread nD τ).loc main_arg2) i : BitVec 32).toNat < 1024) :
    Cert.ReferenceIdeal.Value.res_main_v44 (F := Ideal) m c (ix2 b 0)
      = ∑ a : Fin 1024, ((molecule (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) b).atom a
          + m ((c.tc : Thread nD τ).loc main_arg10) (ix1 0)) := by
  rw [res_stages]
  generalize m ((c.tc : Thread nD τ).loc main_arg0) = p
  generalize m ((c.tc : Thread nD τ).loc main_arg1) = z at *
  generalize m ((c.tc : Thread nD τ).loc main_arg2) = nb at *
  generalize m ((c.tc : Thread nD τ).loc main_arg3) = emb
  generalize m ((c.tc : Thread nD τ).loc main_arg4) = wf
  generalize m ((c.tc : Thread nD τ).loc main_arg5) = wm
  generalize m ((c.tc : Thread nD τ).loc main_arg6) = bm
  generalize m ((c.tc : Thread nD τ).loc main_arg7) = w1
  generalize m ((c.tc : Thread nD τ).loc main_arg8) = b1
  generalize m ((c.tc : Thread nD τ).loc main_arg9) = w2
  generalize m ((c.tc : Thread nD τ).loc main_arg10) = b2
  have hx : ∀ (a : Fin 1024) (f : Fin 128), feats z emb (ix3 b a f) = (molecule p z nb emb wf wm bm w1 b1 w2 b).x a f := fun a f => by
    rw [feats_apply z emb b a f (hz _)]
    exact congrArg emb (congrArg (fun k => ix2 k f) (Fin.ext (Nat.mod_eq_of_lt (hz _)).symm))
  have hk : ∀ (a : Fin 1024) (n : Fin 48), (⟨(nb (ix3 b a n)).toNat, hn _⟩ : Fin 1024) = (molecule p z nb emb wf wm bm w1 b1 w2 b).nb a n :=
    fun a n => Fin.ext (Nat.mod_eq_of_lt (hn _)).symm
  have hd : ∀ (a : Fin 1024) (n : Fin 48), dist p (points p nb) (ix3 b a n) = (molecule p z nb emb wf wm bm w1 b1 w2 b).dist a n := fun a n => by
    rw [dist_apply]
    refine Finset.sum_congr rfl fun c _ => ?_
    rw [points_apply p nb b a n c (hn _), hk]
    rfl
  have hw : ∀ (a : Fin 1024) (n : Fin 48) (f : Fin 128), filters (offset (dist p (points p nb)) grid) wf (ix4 b a n f)
      = (molecule p z nb emb wf wm bm w1 b1 w2 b).filter ((molecule p z nb emb wf wm bm w1 b1 w2 b).dist a n) f := fun a n f => by
    rw [filters_apply]
    refine Finset.sum_congr rfl fun g _ => ?_
    rw [offset_apply, hd, grid_apply]
    rfl
  have hr : ∀ (a : Fin 1024) (f : Fin 128),
      reps (feats z emb) (around (feats z emb) nb) (filters (offset (dist p (points p nb)) grid) wf) wm bm (ix3 b a f)
        = (molecule p z nb emb wf wm bm w1 b1 w2 b).rep a f := fun a f => by
    rw [reps_apply, hx]
    have hm : ∀ k : Fin 128, (∑ n : Fin 48, around (feats z emb) nb (ix4 b a n k) * filters (offset (dist p (points p nb)) grid) wf (ix4 b a n k))
        = (molecule p z nb emb wf wm bm w1 b1 w2 b).message a k := fun k =>
      Finset.sum_congr rfl fun n _ => by rw [around_apply _ nb b a n k (hn _), hw, hk, hx]
    simp only [hm]
    rfl
  refine (energies_apply _ w1 b1 w2 b2 b).trans ?_
  simp only [hr]
  rfl

end Cert.Proof.Ref

end
-- ==== Proof.Alg.lean ====
/- The kernel and the reference compute the same energies over the extended reals. -/
module

public import proofs.«01_k».proof.Proof.Claims
public import proofs.«01_k».proof.Proof.KRun
public import proofs.«01_k».proof.Proof.RVal

@[expose] public section

set_option maxRecDepth 16384

noncomputable section

namespace Cert.Proof

open Idealize.ShloMosaic Idealize.ShloMosaic.StableHlo
open Idealize.SL.Sem

section
open Cert.KernelIdeal

/-- The run of the idealized kernel: its result as the program's operations make it, its arguments as they were. -/
theorem run_value (m : (ℓ : Loc nD τ sig) → Buf (Elt Ideal) ℓ) (ρ : Dev nD → PrngReg)
    (h : ∀ d, Ranged (m ((tc d).loc main_arg1)) (m ((tc d).loc main_arg2))) :
    θ_run (defs (F := Ideal)) (threads (F := Ideal)) ⟨m, fun _ => 0, ρ⟩ (fun r => ∀ c : Dev nD,
      r.2.mem ((tc c).loc main_v51) = VE m c (dr main_v51) ∧ ∀ a ∈ [main_arg0, main_arg1, main_arg2, main_arg3, main_arg4,
      main_arg5, main_arg6, main_arg7, main_arg8, main_arg9, main_arg10], r.2.mem ((tc c).loc a) = m ((tc c).loc a)) :=
  (θ_run (defs (F := Ideal)) _ _).mono (fun r q c => ⟨q.1 c (dr main_v51) (mem_uc main_v51 (by decide)),
      fun a ha => (q.1 c (dr a) (mem_uc a (by revert a; decide))).trans (atE m c a (by revert a; decide))⟩)
    (run_main m ρ (inside m h))

end

/-- The two programs' results agree at every molecule. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Ranged (m ((tc c).loc Cert.KernelIdeal.main_arg1)) (m ((tc c).loc Cert.KernelIdeal.main_arg2)))
    (e0 : m' ((tc c).loc Cert.ReferenceIdeal.main_arg0) = m ((tc c).loc Cert.KernelIdeal.main_arg0))
    (e1 : m' ((tc c).loc Cert.ReferenceIdeal.main_arg1) = m ((tc c).loc Cert.KernelIdeal.main_arg1))
    (e2 : m' ((tc c).loc Cert.ReferenceIdeal.main_arg2) = m ((tc c).loc Cert.KernelIdeal.main_arg2))
    (e3 : m' ((tc c).loc Cert.ReferenceIdeal.main_arg3) = m ((tc c).loc Cert.KernelIdeal.main_arg3))
    (e4 : m' ((tc c).loc Cert.ReferenceIdeal.main_arg4) = m ((tc c).loc Cert.KernelIdeal.main_arg4))
    (e5 : m' ((tc c).loc Cert.ReferenceIdeal.main_arg5) = m ((tc c).loc Cert.KernelIdeal.main_arg5))
    (e6 : m' ((tc c).loc Cert.ReferenceIdeal.main_arg6) = m ((tc c).loc Cert.KernelIdeal.main_arg6))
    (e7 : m' ((tc c).loc Cert.ReferenceIdeal.main_arg7) = m ((tc c).loc Cert.KernelIdeal.main_arg7))
    (e8 : m' ((tc c).loc Cert.ReferenceIdeal.main_arg8) = m ((tc c).loc Cert.KernelIdeal.main_arg8))
    (e9 : m' ((tc c).loc Cert.ReferenceIdeal.main_arg9) = m ((tc c).loc Cert.KernelIdeal.main_arg9))
    (e10 : m' ((tc c).loc Cert.ReferenceIdeal.main_arg10) = m ((tc c).loc Cert.KernelIdeal.main_arg10)) :
    Cert.ReferenceIdeal.Value.res_main_v44 (F := Ideal) m' c = VE m c (dr Cert.KernelIdeal.main_v51) := by
  refine funext fun (j : Cert.ReferenceIdeal.S8x1.Idx) => ?_
  obtain ⟨b, rfl⟩ : ∃ b : Fin 8, j = ix2 b 0 := ⟨j 0, funext fun a => by
    fin_cases a
    · rfl
    · exact Fin.ext (Nat.lt_one_iff.1 (j 1).isLt)⟩
  refine (Ref.res_apply m' c b (fun i => ?_) (fun i => ?_)).trans ((sum_bias _ _).trans (Eq.trans ?_ (out_apply m c h b).symm))
  · rw [e1]; exact h.z i
  · rw [e2]; exact h.nb i
  · rw [e0, e1, e2, e3, e4, e5, e6, e7, e8, e9, e10]

theorem algebraic : Cert.algebraic_KernelIdeal_ReferenceIdeal := fun m g m' g' hp e => by
  have h : ∀ d, Ranged (m ((tc d).loc Cert.KernelIdeal.main_arg1)) (m ((tc d).loc Cert.KernelIdeal.main_arg2)) :=
    fun d => ranged _ _ _ _ _ _ _ _ _ _ _ (hp d)
  refine ⟨fun c => VE m c (dr Cert.KernelIdeal.main_v51), ?_, ?_⟩
  · exact (θ_run (Cert.KernelIdeal.defs (F := Ideal)) _ _).mono
      (fun r q c => ⟨(q c).1, eleven (p := fun a => r.2.mem ((tc c).loc a) = m ((tc c).loc a)) (q c).2⟩) (run_value m g h)
  · refine (θ_run (Cert.ReferenceIdeal.defs (F := Ideal)) _ _).mono (fun r q c => ⟨(q c).1.trans ?_, (q c).2⟩)
      (Cert.ReferenceIdeal.Value.run (F := Ideal) m' g')
    obtain ⟨e0, e1, e2, e3, e4, e5, e6, e7, e8, e9, e10⟩ := e c
    exact same_result m m' c (h c) e0 e1 e2 e3 e4 e5 e6 e7 e8 e9 e10

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Claims
public import proofs.«01_k».proof.Proof.Alg
public import proofs.«01_k».proof.Proof.Gen.Pre_in_range
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    frame_kernel, frame_ideal, frame_reference, preserves, algebraic⟩

end Cert.Proof

end
